-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S4096x8192 : Shape := ⟨2, ![4096, 8192]⟩
abbrev S2x256x4096 : Shape := ⟨3, ![2, 256, 4096]⟩
abbrev S2x256x2048 : Shape := ⟨3, ![2, 256, 2048]⟩
abbrev S2x2 : Shape := ⟨2, ![2, 2]⟩
abbrev S2 : Shape := ⟨1, ![2]⟩
abbrev S_ : Shape := ⟨0, ![]⟩
abbrev S1x256x4096 : Shape := ⟨3, ![1, 256, 4096]⟩
abbrev S256x4096 : Shape := ⟨2, ![256, 4096]⟩
abbrev S1x1 : Shape := ⟨2, ![1, 1]⟩
abbrev S1x256x2048 : Shape := ⟨3, ![1, 256, 2048]⟩
abbrev S256x2048 : Shape := ⟨2, ![256, 2048]⟩

abbrev nBuf : Space → Nat
  | .hbm => 6
  | .vmem => 4
  | .smem => 2
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S4096x8192, .f32⟩
  | .local _ .vmem, ⟨0, _⟩ => ⟨S2x256x4096, .f32⟩
  | .local _ .vmem, ⟨1, _⟩ => ⟨S2x256x4096, .f32⟩
  | .local _ .vmem, ⟨2, _⟩ => ⟨S2x256x2048, .f32⟩
  | .local _ .vmem, ⟨3, _⟩ => ⟨S2x256x2048, .f32⟩
  | .local _ .smem, ⟨0, _⟩ => ⟨S1, .f32⟩
  | .local _ .smem, ⟨1, _⟩ => ⟨S1, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 9 30 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 8

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v11 : BitVec 32 := Scalar.muli v2 c256_i32
  let c0_i32_9 : BitVec 32 := 0#32
  ![v11.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_10 : BitVec 32 := 256#32
  let v17 : BitVec 32 := Scalar.muli v2 c256_i32_10
  let c4096_i32 : BitVec 32 := 4096#32
  ![v17.toNat, 4096]
def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_16 : BitVec 32 := 1#32
  let v24 : BitVec 32 := Scalar.muli v5 c1_i32_16
  let v25 : BitVec 32 := Scalar.addi c0_i32_17 v24
  v25.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_19 : BitVec 32 := 1#32
  let v26 : BitVec 32 := Scalar.muli v7 c1_i32_19
  let v27 : BitVec 32 := Scalar.addi c0_i32_20 v26
  v27.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_34 : BitVec 32 := 1#32
  let v40 : BitVec 32 := Scalar.muli v5 c1_i32_34
  let v41 : BitVec 32 := Scalar.addi c0_i32_35 v40
  v41.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_39 : BitVec 32 := 1#32
  let v44 : BitVec 32 := Scalar.muli v7 c1_i32_39
  let v45 : BitVec 32 := Scalar.addi c0_i32_40 v44
  v45.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_44 : BitVec 32 := 1#32
  let v48 : BitVec 32 := Scalar.muli v5 c1_i32_44
  let v49 : BitVec 32 := Scalar.addi c0_i32_45 v48
  v49.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_49 : BitVec 32 := 1#32
  let v52 : BitVec 32 := Scalar.muli v7 c1_i32_49
  let v53 : BitVec 32 := Scalar.addi c0_i32_50 v52
  v53.toNat
def k0_off3 (d0 : Dev nD) (c0_i32_51 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v54 : BitVec 32 := Scalar.subi v2 c0_i32_51
  let c1_i32_52 : BitVec 32 := 1#32
  let v55 : BitVec 32 := Scalar.subi v54 c1_i32_52
  let c32_i32 : BitVec 32 := 32#32
  let v56 : BitVec 32 := Scalar.addi v55 c32_i32
  let c16_i32_53 : BitVec 32 := 16#32
  let v57 : BitVec 32 := Scalar.remsi v56 c16_i32_53
  let c256_i32_54 : BitVec 32 := 256#32
  let v58 : BitVec 32 := Scalar.muli v57 c256_i32_54
  let c0_i32_59 : BitVec 32 := 0#32
  ![v58.toNat, 0]
def k0_off4 (d0 : Dev nD) (c0_i32_60 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c0_i32_60
  let c1_i32_61 : BitVec 32 := 1#32
  let v65 : BitVec 32 := Scalar.addi v64 c1_i32_61
  let c32_i32_62 : BitVec 32 := 32#32
  let v66 : BitVec 32 := Scalar.addi v65 c32_i32_62
  let c16_i32_63 : BitVec 32 := 16#32
  let v67 : BitVec 32 := Scalar.remsi v66 c16_i32_63
  let c256_i32_64 : BitVec 32 := 256#32
  let v68 : BitVec 32 := Scalar.muli v67 c256_i32_64
  let c4096_i32_69 : BitVec 32 := 4096#32
  ![v68.toNat, 4096]
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_84 : BitVec 32 := 1#32
  let v78 : BitVec 32 := Scalar.muli v7 c1_i32_84
  let v79 : BitVec 32 := Scalar.addi c0_i32_85 v78
  v79.toNat
def k0_dev8 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_96 : BitVec 32 := 1#32
  let v88 : BitVec 32 := Scalar.muli v5 c1_i32_96
  let v89 : BitVec 32 := Scalar.addi c0_i32_97 v88
  v89.toNat
def k0_off5 (d0 : Dev nD) (c0_i32_102 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v98 : BitVec 32 := Scalar.subi v2 c0_i32_102
  let c1_i32_103 : BitVec 32 := 1#32
  let v99 : BitVec 32 := Scalar.subi v98 c1_i32_103
  let c32_i32_104 : BitVec 32 := 32#32
  let v100 : BitVec 32 := Scalar.addi v99 c32_i32_104
  let c16_i32_105 : BitVec 32 := 16#32
  let v101 : BitVec 32 := Scalar.remsi v100 c16_i32_105
  let c256_i32_106 : BitVec 32 := 256#32
  let v102 : BitVec 32 := Scalar.muli v101 c256_i32_106
  let c2048_i32 : BitVec 32 := 2048#32
  ![v102.toNat, 2048]
def k0_off6 (d0 : Dev nD) (c0_i32_111 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v108 : BitVec 32 := Scalar.addi v2 c0_i32_111
  let c1_i32_112 : BitVec 32 := 1#32
  let v109 : BitVec 32 := Scalar.addi v108 c1_i32_112
  let c32_i32_113 : BitVec 32 := 32#32
  let v110 : BitVec 32 := Scalar.addi v109 c32_i32_113
  let c16_i32_114 : BitVec 32 := 16#32
  let v111 : BitVec 32 := Scalar.remsi v110 c16_i32_114
  let c256_i32_115 : BitVec 32 := 256#32
  let v112 : BitVec 32 := Scalar.muli v111 c256_i32_115
  let c6144_i32 : BitVec 32 := 6144#32
  ![v112.toNat, 6144]
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_134 : BitVec 32 := 1#32
  let v122 : BitVec 32 := Scalar.muli v7 c1_i32_134
  let v123 : BitVec 32 := Scalar.addi c0_i32_135 v122
  v123.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_146 : BitVec 32 := 1#32
  let v132 : BitVec 32 := Scalar.muli v5 c1_i32_146
  let v133 : BitVec 32 := Scalar.addi c0_i32_147 v132
  v133.toNat
def k0_dev11 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_201 : BitVec 32 := 1#32
  let v172 : BitVec 32 := Scalar.muli v5 c1_i32_201
  let v173 : BitVec 32 := Scalar.addi c0_i32_202 v172
  v173.toNat
def k0_dev12 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_206 : BitVec 32 := 1#32
  let v176 : BitVec 32 := Scalar.muli v7 c1_i32_206
  let v177 : BitVec 32 := Scalar.addi c0_i32_207 v176
  v177.toNat
def k0_dev13 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_269 : BitVec 32 := 1#32
  let v228 : BitVec 32 := Scalar.muli v7 c1_i32_269
  let v229 : BitVec 32 := Scalar.addi c0_i32_270 v228
  v229.toNat
def k0_dev14 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_281 : BitVec 32 := 1#32
  let v238 : BitVec 32 := Scalar.muli v5 c1_i32_281
  let v239 : BitVec 32 := Scalar.addi c0_i32_282 v238
  v239.toNat
def k0_dev15 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_336 : BitVec 32 := 1#32
  let v278 : BitVec 32 := Scalar.muli v5 c1_i32_336
  let v279 : BitVec 32 := Scalar.addi c0_i32_337 v278
  v279.toNat
def k0_dev16 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_341 : BitVec 32 := 1#32
  let v282 : BitVec 32 := Scalar.muli v7 c1_i32_341
  let v283 : BitVec 32 := Scalar.addi c0_i32_342 v282
  v283.toNat
def k0_dev17 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_404 : BitVec 32 := 1#32
  let v334 : BitVec 32 := Scalar.muli v7 c1_i32_404
  let v335 : BitVec 32 := Scalar.addi c0_i32_405 v334
  v335.toNat
def k0_dev18 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_416 : BitVec 32 := 1#32
  let v344 : BitVec 32 := Scalar.muli v5 c1_i32_416
  let v345 : BitVec 32 := Scalar.addi c0_i32_417 v344
  v345.toNat
def k0_dev19 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_471 : BitVec 32 := 1#32
  let v384 : BitVec 32 := Scalar.muli v5 c1_i32_471
  let v385 : BitVec 32 := Scalar.addi c0_i32_472 v384
  v385.toNat
def k0_dev20 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_476 : BitVec 32 := 1#32
  let v388 : BitVec 32 := Scalar.muli v7 c1_i32_476
  let v389 : BitVec 32 := Scalar.addi c0_i32_477 v388
  v389.toNat
def k0_dev21 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_540 : BitVec 32 := 1#32
  let v440 : BitVec 32 := Scalar.muli v7 c1_i32_540
  let v441 : BitVec 32 := Scalar.addi c0_i32_541 v440
  v441.toNat
def k0_dev22 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_552 : BitVec 32 := 1#32
  let v450 : BitVec 32 := Scalar.muli v5 c1_i32_552
  let v451 : BitVec 32 := Scalar.addi c0_i32_553 v450
  v451.toNat
def k0_dev23 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_607 : BitVec 32 := 1#32
  let v490 : BitVec 32 := Scalar.muli v5 c1_i32_607
  let v491 : BitVec 32 := Scalar.addi c0_i32_608 v490
  v491.toNat
def k0_dev24 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_612 : BitVec 32 := 1#32
  let v494 : BitVec 32 := Scalar.muli v7 c1_i32_612
  let v495 : BitVec 32 := Scalar.addi c0_i32_613 v494
  v495.toNat
def k0_dev25 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_676 : BitVec 32 := 1#32
  let v546 : BitVec 32 := Scalar.muli v7 c1_i32_676
  let v547 : BitVec 32 := Scalar.addi c0_i32_677 v546
  v547.toNat
def k0_dev26 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_688 : BitVec 32 := 1#32
  let v556 : BitVec 32 := Scalar.muli v5 c1_i32_688
  let v557 : BitVec 32 := Scalar.addi c0_i32_689 v556
  v557.toNat
def k0_dev27 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_743 : BitVec 32 := 1#32
  let v596 : BitVec 32 := Scalar.muli v5 c1_i32_743
  let v597 : BitVec 32 := Scalar.addi c0_i32_744 v596
  v597.toNat
def k0_dev28 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_748 : BitVec 32 := 1#32
  let v600 : BitVec 32 := Scalar.muli v7 c1_i32_748
  let v601 : BitVec 32 := Scalar.addi c0_i32_749 v600
  v601.toNat
def k0_dev29 (d0 : Dev nD) : Nat :=
  let c0_i32_812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_811 : BitVec 32 := 1#32
  let v652 : BitVec 32 := Scalar.muli v7 c1_i32_811
  let v653 : BitVec 32 := Scalar.addi c0_i32_812 v652
  v653.toNat
def k0_dev30 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_823 : BitVec 32 := 1#32
  let v662 : BitVec 32 := Scalar.muli v5 c1_i32_823
  let v663 : BitVec 32 := Scalar.addi c0_i32_824 v662
  v663.toNat
def k0_dev31 (d0 : Dev nD) : Nat :=
  let c0_i32_879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_878 : BitVec 32 := 1#32
  let v702 : BitVec 32 := Scalar.muli v5 c1_i32_878
  let v703 : BitVec 32 := Scalar.addi c0_i32_879 v702
  v703.toNat
def k0_dev32 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_883 : BitVec 32 := 1#32
  let v706 : BitVec 32 := Scalar.muli v7 c1_i32_883
  let v707 : BitVec 32 := Scalar.addi c0_i32_884 v706
  v707.toNat
def k0_dev33 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_947 : BitVec 32 := 1#32
  let v758 : BitVec 32 := Scalar.muli v7 c1_i32_947
  let v759 : BitVec 32 := Scalar.addi c0_i32_948 v758
  v759.toNat
def k0_dev34 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_959 : BitVec 32 := 1#32
  let v768 : BitVec 32 := Scalar.muli v5 c1_i32_959
  let v769 : BitVec 32 := Scalar.addi c0_i32_960 v768
  v769.toNat
def k0_dev35 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1014 : BitVec 32 := 1#32
  let v808 : BitVec 32 := Scalar.muli v5 c1_i32_1014
  let v809 : BitVec 32 := Scalar.addi c0_i32_1015 v808
  v809.toNat
def k0_dev36 (d0 : Dev nD) : Nat :=
  let c0_i32_1020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1019 : BitVec 32 := 1#32
  let v812 : BitVec 32 := Scalar.muli v7 c1_i32_1019
  let v813 : BitVec 32 := Scalar.addi c0_i32_1020 v812
  v813.toNat
def k0_dev37 (d0 : Dev nD) : Nat :=
  let c0_i32_1083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1082 : BitVec 32 := 1#32
  let v864 : BitVec 32 := Scalar.muli v7 c1_i32_1082
  let v865 : BitVec 32 := Scalar.addi c0_i32_1083 v864
  v865.toNat
def k0_dev38 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1094 : BitVec 32 := 1#32
  let v874 : BitVec 32 := Scalar.muli v5 c1_i32_1094
  let v875 : BitVec 32 := Scalar.addi c0_i32_1095 v874
  v875.toNat
def k0_dev39 (d0 : Dev nD) : Nat :=
  let c0_i32_1150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1149 : BitVec 32 := 1#32
  let v914 : BitVec 32 := Scalar.muli v5 c1_i32_1149
  let v915 : BitVec 32 := Scalar.addi c0_i32_1150 v914
  v915.toNat
def k0_dev40 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1154 : BitVec 32 := 1#32
  let v918 : BitVec 32 := Scalar.muli v7 c1_i32_1154
  let v919 : BitVec 32 := Scalar.addi c0_i32_1155 v918
  v919.toNat
def k0_dev41 (d0 : Dev nD) : Nat :=
  let c0_i32_1219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1218 : BitVec 32 := 1#32
  let v970 : BitVec 32 := Scalar.muli v7 c1_i32_1218
  let v971 : BitVec 32 := Scalar.addi c0_i32_1219 v970
  v971.toNat
def k0_dev42 (d0 : Dev nD) : Nat :=
  let c0_i32_1231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1230 : BitVec 32 := 1#32
  let v980 : BitVec 32 := Scalar.muli v5 c1_i32_1230
  let v981 : BitVec 32 := Scalar.addi c0_i32_1231 v980
  v981.toNat
def k0_dev43 (d0 : Dev nD) : Nat :=
  let c0_i32_1286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1285 : BitVec 32 := 1#32
  let v1020 : BitVec 32 := Scalar.muli v5 c1_i32_1285
  let v1021 : BitVec 32 := Scalar.addi c0_i32_1286 v1020
  v1021.toNat
def k0_dev44 (d0 : Dev nD) : Nat :=
  let c0_i32_1291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1290 : BitVec 32 := 1#32
  let v1024 : BitVec 32 := Scalar.muli v7 c1_i32_1290
  let v1025 : BitVec 32 := Scalar.addi c0_i32_1291 v1024
  v1025.toNat
def k0_dev45 (d0 : Dev nD) : Nat :=
  let c0_i32_1354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1353 : BitVec 32 := 1#32
  let v1076 : BitVec 32 := Scalar.muli v7 c1_i32_1353
  let v1077 : BitVec 32 := Scalar.addi c0_i32_1354 v1076
  v1077.toNat
def k0_dev46 (d0 : Dev nD) : Nat :=
  let c0_i32_1366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1365 : BitVec 32 := 1#32
  let v1086 : BitVec 32 := Scalar.muli v5 c1_i32_1365
  let v1087 : BitVec 32 := Scalar.addi c0_i32_1366 v1086
  v1087.toNat
def k0_dev47 (d0 : Dev nD) : Nat :=
  let c0_i32_1421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1420 : BitVec 32 := 1#32
  let v1126 : BitVec 32 := Scalar.muli v5 c1_i32_1420
  let v1127 : BitVec 32 := Scalar.addi c0_i32_1421 v1126
  v1127.toNat
def k0_dev48 (d0 : Dev nD) : Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1425 : BitVec 32 := 1#32
  let v1130 : BitVec 32 := Scalar.muli v7 c1_i32_1425
  let v1131 : BitVec 32 := Scalar.addi c0_i32_1426 v1130
  v1131.toNat
def k0_dev49 (d0 : Dev nD) : Nat :=
  let c0_i32_1490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1489 : BitVec 32 := 1#32
  let v1182 : BitVec 32 := Scalar.muli v7 c1_i32_1489
  let v1183 : BitVec 32 := Scalar.addi c0_i32_1490 v1182
  v1183.toNat
def k0_dev50 (d0 : Dev nD) : Nat :=
  let c0_i32_1502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1501 : BitVec 32 := 1#32
  let v1192 : BitVec 32 := Scalar.muli v5 c1_i32_1501
  let v1193 : BitVec 32 := Scalar.addi c0_i32_1502 v1192
  v1193.toNat
def k0_dev51 (d0 : Dev nD) : Nat :=
  let c0_i32_1557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1556 : BitVec 32 := 1#32
  let v1232 : BitVec 32 := Scalar.muli v5 c1_i32_1556
  let v1233 : BitVec 32 := Scalar.addi c0_i32_1557 v1232
  v1233.toNat
def k0_dev52 (d0 : Dev nD) : Nat :=
  let c0_i32_1562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1561 : BitVec 32 := 1#32
  let v1236 : BitVec 32 := Scalar.muli v7 c1_i32_1561
  let v1237 : BitVec 32 := Scalar.addi c0_i32_1562 v1236
  v1237.toNat
def k0_dev53 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1624 : BitVec 32 := 1#32
  let v1288 : BitVec 32 := Scalar.muli v7 c1_i32_1624
  let v1289 : BitVec 32 := Scalar.addi c0_i32_1625 v1288
  v1289.toNat
def k0_dev54 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1636 : BitVec 32 := 1#32
  let v1298 : BitVec 32 := Scalar.muli v5 c1_i32_1636
  let v1299 : BitVec 32 := Scalar.addi c0_i32_1637 v1298
  v1299.toNat
def k0_dev55 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1691 : BitVec 32 := 1#32
  let v1338 : BitVec 32 := Scalar.muli v5 c1_i32_1691
  let v1339 : BitVec 32 := Scalar.addi c0_i32_1692 v1338
  v1339.toNat
def k0_dev56 (d0 : Dev nD) : Nat :=
  let c0_i32_1697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1696 : BitVec 32 := 1#32
  let v1342 : BitVec 32 := Scalar.muli v7 c1_i32_1696
  let v1343 : BitVec 32 := Scalar.addi c0_i32_1697 v1342
  v1343.toNat
def k0_dev57 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1760 : BitVec 32 := 1#32
  let v1394 : BitVec 32 := Scalar.muli v7 c1_i32_1760
  let v1395 : BitVec 32 := Scalar.addi c0_i32_1761 v1394
  v1395.toNat
def k0_dev58 (d0 : Dev nD) : Nat :=
  let c0_i32_1773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1772 : BitVec 32 := 1#32
  let v1404 : BitVec 32 := Scalar.muli v5 c1_i32_1772
  let v1405 : BitVec 32 := Scalar.addi c0_i32_1773 v1404
  v1405.toNat
def k0_dev59 (d0 : Dev nD) : Nat :=
  let c0_i32_1828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1827 : BitVec 32 := 1#32
  let v1444 : BitVec 32 := Scalar.muli v5 c1_i32_1827
  let v1445 : BitVec 32 := Scalar.addi c0_i32_1828 v1444
  v1445.toNat
def k0_dev60 (d0 : Dev nD) : Nat :=
  let c0_i32_1833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1832 : BitVec 32 := 1#32
  let v1448 : BitVec 32 := Scalar.muli v7 c1_i32_1832
  let v1449 : BitVec 32 := Scalar.addi c0_i32_1833 v1448
  v1449.toNat
def k0_dev61 (d0 : Dev nD) : Nat :=
  let c0_i32_1896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1895 : BitVec 32 := 1#32
  let v1500 : BitVec 32 := Scalar.muli v7 c1_i32_1895
  let v1501 : BitVec 32 := Scalar.addi c0_i32_1896 v1500
  v1501.toNat
def k0_dev62 (d0 : Dev nD) : Nat :=
  let c0_i32_1908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1907 : BitVec 32 := 1#32
  let v1510 : BitVec 32 := Scalar.muli v5 c1_i32_1907
  let v1511 : BitVec 32 := Scalar.addi c0_i32_1908 v1510
  v1511.toNat
def k0_dev63 (d0 : Dev nD) : Nat :=
  let c0_i32_1963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1962 : BitVec 32 := 1#32
  let v1550 : BitVec 32 := Scalar.muli v5 c1_i32_1962
  let v1551 : BitVec 32 := Scalar.addi c0_i32_1963 v1550
  v1551.toNat
def k0_dev64 (d0 : Dev nD) : Nat :=
  let c0_i32_1968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1967 : BitVec 32 := 1#32
  let v1554 : BitVec 32 := Scalar.muli v7 c1_i32_1967
  let v1555 : BitVec 32 := Scalar.addi c0_i32_1968 v1554
  v1555.toNat
def k0_dev65 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2031 : BitVec 32 := 1#32
  let v1606 : BitVec 32 := Scalar.muli v7 c1_i32_2031
  let v1607 : BitVec 32 := Scalar.addi c0_i32_2032 v1606
  v1607.toNat
def k0_dev66 (d0 : Dev nD) : Nat :=
  let c0_i32_2044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2043 : BitVec 32 := 1#32
  let v1616 : BitVec 32 := Scalar.muli v5 c1_i32_2043
  let v1617 : BitVec 32 := Scalar.addi c0_i32_2044 v1616
  v1617.toNat
def k0_dev67 (d0 : Dev nD) : Nat :=
  let c0_i32_2099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2098 : BitVec 32 := 1#32
  let v1656 : BitVec 32 := Scalar.muli v5 c1_i32_2098
  let v1657 : BitVec 32 := Scalar.addi c0_i32_2099 v1656
  v1657.toNat
def k0_dev68 (d0 : Dev nD) : Nat :=
  let c0_i32_2104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2103 : BitVec 32 := 1#32
  let v1660 : BitVec 32 := Scalar.muli v7 c1_i32_2103
  let v1661 : BitVec 32 := Scalar.addi c0_i32_2104 v1660
  v1661.toNat
def k0_dev69 (d0 : Dev nD) : Nat :=
  let c0_i32_2167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2166 : BitVec 32 := 1#32
  let v1712 : BitVec 32 := Scalar.muli v7 c1_i32_2166
  let v1713 : BitVec 32 := Scalar.addi c0_i32_2167 v1712
  v1713.toNat
def k0_dev70 (d0 : Dev nD) : Nat :=
  let c0_i32_2179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2178 : BitVec 32 := 1#32
  let v1722 : BitVec 32 := Scalar.muli v5 c1_i32_2178
  let v1723 : BitVec 32 := Scalar.addi c0_i32_2179 v1722
  v1723.toNat
def k0_dev71 (d0 : Dev nD) : Nat :=
  let c0_i32_2234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2233 : BitVec 32 := 1#32
  let v1762 : BitVec 32 := Scalar.muli v5 c1_i32_2233
  let v1763 : BitVec 32 := Scalar.addi c0_i32_2234 v1762
  v1763.toNat
def k0_dev72 (d0 : Dev nD) : Nat :=
  let c0_i32_2239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2238 : BitVec 32 := 1#32
  let v1766 : BitVec 32 := Scalar.muli v7 c1_i32_2238
  let v1767 : BitVec 32 := Scalar.addi c0_i32_2239 v1766
  v1767.toNat
def k0_dev73 (d0 : Dev nD) : Nat :=
  let c0_i32_2303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2302 : BitVec 32 := 1#32
  let v1818 : BitVec 32 := Scalar.muli v7 c1_i32_2302
  let v1819 : BitVec 32 := Scalar.addi c0_i32_2303 v1818
  v1819.toNat
def k0_dev74 (d0 : Dev nD) : Nat :=
  let c0_i32_2315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2314 : BitVec 32 := 1#32
  let v1828 : BitVec 32 := Scalar.muli v5 c1_i32_2314
  let v1829 : BitVec 32 := Scalar.addi c0_i32_2315 v1828
  v1829.toNat
def k0_dev75 (d0 : Dev nD) : Nat :=
  let c0_i32_2370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2369 : BitVec 32 := 1#32
  let v1868 : BitVec 32 := Scalar.muli v5 c1_i32_2369
  let v1869 : BitVec 32 := Scalar.addi c0_i32_2370 v1868
  v1869.toNat
def k0_dev76 (d0 : Dev nD) : Nat :=
  let c0_i32_2375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2374 : BitVec 32 := 1#32
  let v1872 : BitVec 32 := Scalar.muli v7 c1_i32_2374
  let v1873 : BitVec 32 := Scalar.addi c0_i32_2375 v1872
  v1873.toNat
def k0_dev77 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2437 : BitVec 32 := 1#32
  let v1924 : BitVec 32 := Scalar.muli v7 c1_i32_2437
  let v1925 : BitVec 32 := Scalar.addi c0_i32_2438 v1924
  v1925.toNat
def k0_dev78 (d0 : Dev nD) : Nat :=
  let c0_i32_2450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2449 : BitVec 32 := 1#32
  let v1934 : BitVec 32 := Scalar.muli v5 c1_i32_2449
  let v1935 : BitVec 32 := Scalar.addi c0_i32_2450 v1934
  v1935.toNat
def k0_dev79 (d0 : Dev nD) : Nat :=
  let c0_i32_2505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2504 : BitVec 32 := 1#32
  let v1974 : BitVec 32 := Scalar.muli v5 c1_i32_2504
  let v1975 : BitVec 32 := Scalar.addi c0_i32_2505 v1974
  v1975.toNat
def k0_dev80 (d0 : Dev nD) : Nat :=
  let c0_i32_2510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2509 : BitVec 32 := 1#32
  let v1978 : BitVec 32 := Scalar.muli v7 c1_i32_2509
  let v1979 : BitVec 32 := Scalar.addi c0_i32_2510 v1978
  v1979.toNat
def k0_dev81 (d0 : Dev nD) : Nat :=
  let c0_i32_2574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2573 : BitVec 32 := 1#32
  let v2030 : BitVec 32 := Scalar.muli v7 c1_i32_2573
  let v2031 : BitVec 32 := Scalar.addi c0_i32_2574 v2030
  v2031.toNat
def k0_dev82 (d0 : Dev nD) : Nat :=
  let c0_i32_2586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2585 : BitVec 32 := 1#32
  let v2040 : BitVec 32 := Scalar.muli v5 c1_i32_2585
  let v2041 : BitVec 32 := Scalar.addi c0_i32_2586 v2040
  v2041.toNat
def k0_dev83 (d0 : Dev nD) : Nat :=
  let c0_i32_2641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2640 : BitVec 32 := 1#32
  let v2080 : BitVec 32 := Scalar.muli v5 c1_i32_2640
  let v2081 : BitVec 32 := Scalar.addi c0_i32_2641 v2080
  v2081.toNat
def k0_dev84 (d0 : Dev nD) : Nat :=
  let c0_i32_2646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2645 : BitVec 32 := 1#32
  let v2084 : BitVec 32 := Scalar.muli v7 c1_i32_2645
  let v2085 : BitVec 32 := Scalar.addi c0_i32_2646 v2084
  v2085.toNat
def k0_dev85 (d0 : Dev nD) : Nat :=
  let c0_i32_2709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2708 : BitVec 32 := 1#32
  let v2136 : BitVec 32 := Scalar.muli v7 c1_i32_2708
  let v2137 : BitVec 32 := Scalar.addi c0_i32_2709 v2136
  v2137.toNat
def k0_dev86 (d0 : Dev nD) : Nat :=
  let c0_i32_2721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2720 : BitVec 32 := 1#32
  let v2146 : BitVec 32 := Scalar.muli v5 c1_i32_2720
  let v2147 : BitVec 32 := Scalar.addi c0_i32_2721 v2146
  v2147.toNat
def k0_dev87 (d0 : Dev nD) : Nat :=
  let c0_i32_2776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2775 : BitVec 32 := 1#32
  let v2186 : BitVec 32 := Scalar.muli v5 c1_i32_2775
  let v2187 : BitVec 32 := Scalar.addi c0_i32_2776 v2186
  v2187.toNat
def k0_dev88 (d0 : Dev nD) : Nat :=
  let c0_i32_2781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2780 : BitVec 32 := 1#32
  let v2190 : BitVec 32 := Scalar.muli v7 c1_i32_2780
  let v2191 : BitVec 32 := Scalar.addi c0_i32_2781 v2190
  v2191.toNat
def k0_dev89 (d0 : Dev nD) : Nat :=
  let c0_i32_2845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2844 : BitVec 32 := 1#32
  let v2242 : BitVec 32 := Scalar.muli v7 c1_i32_2844
  let v2243 : BitVec 32 := Scalar.addi c0_i32_2845 v2242
  v2243.toNat
def k0_dev90 (d0 : Dev nD) : Nat :=
  let c0_i32_2857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2856 : BitVec 32 := 1#32
  let v2252 : BitVec 32 := Scalar.muli v5 c1_i32_2856
  let v2253 : BitVec 32 := Scalar.addi c0_i32_2857 v2252
  v2253.toNat
def k0_dev91 (d0 : Dev nD) : Nat :=
  let c0_i32_2912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2911 : BitVec 32 := 1#32
  let v2292 : BitVec 32 := Scalar.muli v5 c1_i32_2911
  let v2293 : BitVec 32 := Scalar.addi c0_i32_2912 v2292
  v2293.toNat
def k0_dev92 (d0 : Dev nD) : Nat :=
  let c0_i32_2917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2916 : BitVec 32 := 1#32
  let v2296 : BitVec 32 := Scalar.muli v7 c1_i32_2916
  let v2297 : BitVec 32 := Scalar.addi c0_i32_2917 v2296
  v2297.toNat
def k0_dev93 (d0 : Dev nD) : Nat :=
  let c0_i32_2980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2979 : BitVec 32 := 1#32
  let v2348 : BitVec 32 := Scalar.muli v7 c1_i32_2979
  let v2349 : BitVec 32 := Scalar.addi c0_i32_2980 v2348
  v2349.toNat
def k0_dev94 (d0 : Dev nD) : Nat :=
  let c0_i32_2992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2991 : BitVec 32 := 1#32
  let v2358 : BitVec 32 := Scalar.muli v5 c1_i32_2991
  let v2359 : BitVec 32 := Scalar.addi c0_i32_2992 v2358
  v2359.toNat
def k0_dev95 (d0 : Dev nD) : Nat :=
  let c0_i32_3047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3046 : BitVec 32 := 1#32
  let v2398 : BitVec 32 := Scalar.muli v5 c1_i32_3046
  let v2399 : BitVec 32 := Scalar.addi c0_i32_3047 v2398
  v2399.toNat
def k0_dev96 (d0 : Dev nD) : Nat :=
  let c0_i32_3052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3051 : BitVec 32 := 1#32
  let v2402 : BitVec 32 := Scalar.muli v7 c1_i32_3051
  let v2403 : BitVec 32 := Scalar.addi c0_i32_3052 v2402
  v2403.toNat
def k0_dev97 (d0 : Dev nD) : Nat :=
  let c0_i32_3116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3115 : BitVec 32 := 1#32
  let v2454 : BitVec 32 := Scalar.muli v7 c1_i32_3115
  let v2455 : BitVec 32 := Scalar.addi c0_i32_3116 v2454
  v2455.toNat
def k0_dev98 (d0 : Dev nD) : Nat :=
  let c0_i32_3128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3127 : BitVec 32 := 1#32
  let v2464 : BitVec 32 := Scalar.muli v5 c1_i32_3127
  let v2465 : BitVec 32 := Scalar.addi c0_i32_3128 v2464
  v2465.toNat
def k0_dev99 (d0 : Dev nD) : Nat :=
  let c0_i32_3183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3182 : BitVec 32 := 1#32
  let v2504 : BitVec 32 := Scalar.muli v5 c1_i32_3182
  let v2505 : BitVec 32 := Scalar.addi c0_i32_3183 v2504
  v2505.toNat
def k0_dev100 (d0 : Dev nD) : Nat :=
  let c0_i32_3188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3187 : BitVec 32 := 1#32
  let v2508 : BitVec 32 := Scalar.muli v7 c1_i32_3187
  let v2509 : BitVec 32 := Scalar.addi c0_i32_3188 v2508
  v2509.toNat
def k0_dev101 (d0 : Dev nD) : Nat :=
  let c0_i32_3251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3250 : BitVec 32 := 1#32
  let v2560 : BitVec 32 := Scalar.muli v7 c1_i32_3250
  let v2561 : BitVec 32 := Scalar.addi c0_i32_3251 v2560
  v2561.toNat
def k0_dev102 (d0 : Dev nD) : Nat :=
  let c0_i32_3263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3262 : BitVec 32 := 1#32
  let v2570 : BitVec 32 := Scalar.muli v5 c1_i32_3262
  let v2571 : BitVec 32 := Scalar.addi c0_i32_3263 v2570
  v2571.toNat
def k0_dev103 (d0 : Dev nD) : Nat :=
  let c0_i32_3318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3317 : BitVec 32 := 1#32
  let v2610 : BitVec 32 := Scalar.muli v5 c1_i32_3317
  let v2611 : BitVec 32 := Scalar.addi c0_i32_3318 v2610
  v2611.toNat
def k0_dev104 (d0 : Dev nD) : Nat :=
  let c0_i32_3323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3322 : BitVec 32 := 1#32
  let v2614 : BitVec 32 := Scalar.muli v7 c1_i32_3322
  let v2615 : BitVec 32 := Scalar.addi c0_i32_3323 v2614
  v2615.toNat
def k0_dev105 (d0 : Dev nD) : Nat :=
  let c0_i32_3387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3386 : BitVec 32 := 1#32
  let v2666 : BitVec 32 := Scalar.muli v7 c1_i32_3386
  let v2667 : BitVec 32 := Scalar.addi c0_i32_3387 v2666
  v2667.toNat
def k0_dev106 (d0 : Dev nD) : Nat :=
  let c0_i32_3399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3398 : BitVec 32 := 1#32
  let v2676 : BitVec 32 := Scalar.muli v5 c1_i32_3398
  let v2677 : BitVec 32 := Scalar.addi c0_i32_3399 v2676
  v2677.toNat
def k0_dev107 (d0 : Dev nD) : Nat :=
  let c0_i32_3454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3453 : BitVec 32 := 1#32
  let v2716 : BitVec 32 := Scalar.muli v5 c1_i32_3453
  let v2717 : BitVec 32 := Scalar.addi c0_i32_3454 v2716
  v2717.toNat
def k0_dev108 (d0 : Dev nD) : Nat :=
  let c0_i32_3459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3458 : BitVec 32 := 1#32
  let v2720 : BitVec 32 := Scalar.muli v7 c1_i32_3458
  let v2721 : BitVec 32 := Scalar.addi c0_i32_3459 v2720
  v2721.toNat
def k0_dev109 (d0 : Dev nD) : Nat :=
  let c0_i32_3522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3521 : BitVec 32 := 1#32
  let v2772 : BitVec 32 := Scalar.muli v7 c1_i32_3521
  let v2773 : BitVec 32 := Scalar.addi c0_i32_3522 v2772
  v2773.toNat
def k0_dev110 (d0 : Dev nD) : Nat :=
  let c0_i32_3534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3533 : BitVec 32 := 1#32
  let v2782 : BitVec 32 := Scalar.muli v5 c1_i32_3533
  let v2783 : BitVec 32 := Scalar.addi c0_i32_3534 v2782
  v2783.toNat
def k0_dev111 (d0 : Dev nD) : Nat :=
  let c0_i32_3589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3588 : BitVec 32 := 1#32
  let v2822 : BitVec 32 := Scalar.muli v5 c1_i32_3588
  let v2823 : BitVec 32 := Scalar.addi c0_i32_3589 v2822
  v2823.toNat
def k0_dev112 (d0 : Dev nD) : Nat :=
  let c0_i32_3594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3593 : BitVec 32 := 1#32
  let v2826 : BitVec 32 := Scalar.muli v7 c1_i32_3593
  let v2827 : BitVec 32 := Scalar.addi c0_i32_3594 v2826
  v2827.toNat
def k0_dev113 (d0 : Dev nD) : Nat :=
  let c0_i32_3658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3657 : BitVec 32 := 1#32
  let v2878 : BitVec 32 := Scalar.muli v7 c1_i32_3657
  let v2879 : BitVec 32 := Scalar.addi c0_i32_3658 v2878
  v2879.toNat
def k0_dev114 (d0 : Dev nD) : Nat :=
  let c0_i32_3670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3669 : BitVec 32 := 1#32
  let v2888 : BitVec 32 := Scalar.muli v5 c1_i32_3669
  let v2889 : BitVec 32 := Scalar.addi c0_i32_3670 v2888
  v2889.toNat
def k0_dev115 (d0 : Dev nD) : Nat :=
  let c0_i32_3725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3724 : BitVec 32 := 1#32
  let v2928 : BitVec 32 := Scalar.muli v5 c1_i32_3724
  let v2929 : BitVec 32 := Scalar.addi c0_i32_3725 v2928
  v2929.toNat
def k0_dev116 (d0 : Dev nD) : Nat :=
  let c0_i32_3730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3729 : BitVec 32 := 1#32
  let v2932 : BitVec 32 := Scalar.muli v7 c1_i32_3729
  let v2933 : BitVec 32 := Scalar.addi c0_i32_3730 v2932
  v2933.toNat
def k0_dev117 (d0 : Dev nD) : Nat :=
  let c0_i32_3793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3792 : BitVec 32 := 1#32
  let v2984 : BitVec 32 := Scalar.muli v7 c1_i32_3792
  let v2985 : BitVec 32 := Scalar.addi c0_i32_3793 v2984
  v2985.toNat
def k0_dev118 (d0 : Dev nD) : Nat :=
  let c0_i32_3805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3804 : BitVec 32 := 1#32
  let v2994 : BitVec 32 := Scalar.muli v5 c1_i32_3804
  let v2995 : BitVec 32 := Scalar.addi c0_i32_3805 v2994
  v2995.toNat
def k0_dev119 (d0 : Dev nD) : Nat :=
  let c0_i32_3860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3859 : BitVec 32 := 1#32
  let v3034 : BitVec 32 := Scalar.muli v5 c1_i32_3859
  let v3035 : BitVec 32 := Scalar.addi c0_i32_3860 v3034
  v3035.toNat
def k0_dev120 (d0 : Dev nD) : Nat :=
  let c0_i32_3865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3864 : BitVec 32 := 1#32
  let v3038 : BitVec 32 := Scalar.muli v7 c1_i32_3864
  let v3039 : BitVec 32 := Scalar.addi c0_i32_3865 v3038
  v3039.toNat
def k0_dev121 (d0 : Dev nD) : Nat :=
  let c0_i32_3929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3928 : BitVec 32 := 1#32
  let v3090 : BitVec 32 := Scalar.muli v7 c1_i32_3928
  let v3091 : BitVec 32 := Scalar.addi c0_i32_3929 v3090
  v3091.toNat
def k0_dev122 (d0 : Dev nD) : Nat :=
  let c0_i32_3941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3940 : BitVec 32 := 1#32
  let v3100 : BitVec 32 := Scalar.muli v5 c1_i32_3940
  let v3101 : BitVec 32 := Scalar.addi c0_i32_3941 v3100
  v3101.toNat
def k0_dev123 (d0 : Dev nD) : Nat :=
  let c0_i32_3996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3995 : BitVec 32 := 1#32
  let v3140 : BitVec 32 := Scalar.muli v5 c1_i32_3995
  let v3141 : BitVec 32 := Scalar.addi c0_i32_3996 v3140
  v3141.toNat
def k0_dev124 (d0 : Dev nD) : Nat :=
  let c0_i32_4001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4000 : BitVec 32 := 1#32
  let v3144 : BitVec 32 := Scalar.muli v7 c1_i32_4000
  let v3145 : BitVec 32 := Scalar.addi c0_i32_4001 v3144
  v3145.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4031 : BitVec 32 := 1#32
  let v3180 : BitVec 32 := Scalar.addi v2 c1_i32_4031
  let c32_i32_4032 : BitVec 32 := 32#32
  let v3181 : BitVec 32 := Scalar.addi v3180 c32_i32_4032
  let c16_i32_4033 : BitVec 32 := 16#32
  let v3182 : BitVec 32 := Scalar.remsi v3181 c16_i32_4033
  let c256_i32_4034 : BitVec 32 := 256#32
  let v3183 : BitVec 32 := Scalar.muli v3182 c256_i32_4034
  let c0_i32_4038 : BitVec 32 := 0#32
  ![v3183.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4041 : BitVec 32 := 1#32
  let v3189 : BitVec 32 := Scalar.subi v2 c1_i32_4041
  let c32_i32_4042 : BitVec 32 := 32#32
  let v3190 : BitVec 32 := Scalar.addi v3189 c32_i32_4042
  let c16_i32_4043 : BitVec 32 := 16#32
  let v3191 : BitVec 32 := Scalar.remsi v3190 c16_i32_4043
  let c256_i32_4044 : BitVec 32 := 256#32
  let v3192 : BitVec 32 := Scalar.muli v3191 c256_i32_4044
  let c4096_i32_4048 : BitVec 32 := 4096#32
  ![v3192.toNat, 4096]
def k0_dev125 (d0 : Dev nD) : Nat :=
  let c0_i32_4066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4065 : BitVec 32 := 1#32
  let v3202 : BitVec 32 := Scalar.muli v7 c1_i32_4065
  let v3203 : BitVec 32 := Scalar.addi c0_i32_4066 v3202
  v3203.toNat
def k0_dev126 (d0 : Dev nD) : Nat :=
  let c0_i32_4078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4077 : BitVec 32 := 1#32
  let v3212 : BitVec 32 := Scalar.muli v5 c1_i32_4077
  let v3213 : BitVec 32 := Scalar.addi c0_i32_4078 v3212
  v3213.toNat
def k0_dev127 (d0 : Dev nD) : Nat :=
  let c0_i32_4133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4132 : BitVec 32 := 1#32
  let v3252 : BitVec 32 := Scalar.muli v5 c1_i32_4132
  let v3253 : BitVec 32 := Scalar.addi c0_i32_4133 v3252
  v3253.toNat
def k0_dev128 (d0 : Dev nD) : Nat :=
  let c0_i32_4138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4137 : BitVec 32 := 1#32
  let v3256 : BitVec 32 := Scalar.muli v7 c1_i32_4137
  let v3257 : BitVec 32 := Scalar.addi c0_i32_4138 v3256
  v3257.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4169 : BitVec 32 := 1#32
  let v3292 : BitVec 32 := Scalar.addi v2 c1_i32_4169
  let c32_i32_4170 : BitVec 32 := 32#32
  let v3293 : BitVec 32 := Scalar.addi v3292 c32_i32_4170
  let c16_i32_4171 : BitVec 32 := 16#32
  let v3294 : BitVec 32 := Scalar.remsi v3293 c16_i32_4171
  let c256_i32_4172 : BitVec 32 := 256#32
  let v3295 : BitVec 32 := Scalar.muli v3294 c256_i32_4172
  let c2048_i32_4176 : BitVec 32 := 2048#32
  ![v3295.toNat, 2048]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4179 : BitVec 32 := 1#32
  let v3301 : BitVec 32 := Scalar.subi v2 c1_i32_4179
  let c32_i32_4180 : BitVec 32 := 32#32
  let v3302 : BitVec 32 := Scalar.addi v3301 c32_i32_4180
  let c16_i32_4181 : BitVec 32 := 16#32
  let v3303 : BitVec 32 := Scalar.remsi v3302 c16_i32_4181
  let c256_i32_4182 : BitVec 32 := 256#32
  let v3304 : BitVec 32 := Scalar.muli v3303 c256_i32_4182
  let c6144_i32_4186 : BitVec 32 := 6144#32
  ![v3304.toNat, 6144]
def k0_dev129 (d0 : Dev nD) : Nat :=
  let c0_i32_4204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4203 : BitVec 32 := 1#32
  let v3314 : BitVec 32 := Scalar.muli v7 c1_i32_4203
  let v3315 : BitVec 32 := Scalar.addi c0_i32_4204 v3314
  v3315.toNat
def k0_dev130 (d0 : Dev nD) : Nat :=
  let c0_i32_4216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4215 : BitVec 32 := 1#32
  let v3324 : BitVec 32 := Scalar.muli v5 c1_i32_4215
  let v3325 : BitVec 32 := Scalar.addi c0_i32_4216 v3324
  v3325.toNat
def k0_dev131 (d0 : Dev nD) : Nat :=
  let c0_i32_4283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4282 : BitVec 32 := 1#32
  let v3374 : BitVec 32 := Scalar.muli v5 c1_i32_4282
  let v3375 : BitVec 32 := Scalar.addi c0_i32_4283 v3374
  v3375.toNat
def k0_dev132 (d0 : Dev nD) : Nat :=
  let c0_i32_4288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4287 : BitVec 32 := 1#32
  let v3378 : BitVec 32 := Scalar.muli v7 c1_i32_4287
  let v3379 : BitVec 32 := Scalar.addi c0_i32_4288 v3378
  v3379.toNat
def k0_off11 (d0 : Dev nD) (c0_i32_4289 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3380 : BitVec 32 := Scalar.subi v2 c0_i32_4289
  let c32_i32_4290 : BitVec 32 := 32#32
  let v3381 : BitVec 32 := Scalar.addi v3380 c32_i32_4290
  let c16_i32_4291 : BitVec 32 := 16#32
  let v3382 : BitVec 32 := Scalar.remsi v3381 c16_i32_4291
  let c256_i32_4292 : BitVec 32 := 256#32
  let v3383 : BitVec 32 := Scalar.muli v3382 c256_i32_4292
  let c0_i32_4296 : BitVec 32 := 0#32
  ![v3383.toNat, 0]
def k0_off12 (d0 : Dev nD) (c0_i32_4299 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3389 : BitVec 32 := Scalar.addi v2 c0_i32_4299
  let c32_i32_4300 : BitVec 32 := 32#32
  let v3390 : BitVec 32 := Scalar.addi v3389 c32_i32_4300
  let c16_i32_4301 : BitVec 32 := 16#32
  let v3391 : BitVec 32 := Scalar.remsi v3390 c16_i32_4301
  let c256_i32_4302 : BitVec 32 := 256#32
  let v3392 : BitVec 32 := Scalar.muli v3391 c256_i32_4302
  let c4096_i32_4306 : BitVec 32 := 4096#32
  ![v3392.toNat, 4096]
def k0_dev133 (d0 : Dev nD) : Nat :=
  let c0_i32_4324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4323 : BitVec 32 := 1#32
  let v3402 : BitVec 32 := Scalar.muli v7 c1_i32_4323
  let v3403 : BitVec 32 := Scalar.addi c0_i32_4324 v3402
  v3403.toNat
def k0_dev134 (d0 : Dev nD) : Nat :=
  let c0_i32_4336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4335 : BitVec 32 := 1#32
  let v3412 : BitVec 32 := Scalar.muli v5 c1_i32_4335
  let v3413 : BitVec 32 := Scalar.addi c0_i32_4336 v3412
  v3413.toNat
def k0_dev135 (d0 : Dev nD) : Nat :=
  let c0_i32_4403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4402 : BitVec 32 := 1#32
  let v3462 : BitVec 32 := Scalar.muli v5 c1_i32_4402
  let v3463 : BitVec 32 := Scalar.addi c0_i32_4403 v3462
  v3463.toNat
def k0_dev136 (d0 : Dev nD) : Nat :=
  let c0_i32_4408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4407 : BitVec 32 := 1#32
  let v3466 : BitVec 32 := Scalar.muli v7 c1_i32_4407
  let v3467 : BitVec 32 := Scalar.addi c0_i32_4408 v3466
  v3467.toNat
def k0_off13 (d0 : Dev nD) (c0_i32_4409 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3468 : BitVec 32 := Scalar.subi v2 c0_i32_4409
  let c32_i32_4410 : BitVec 32 := 32#32
  let v3469 : BitVec 32 := Scalar.addi v3468 c32_i32_4410
  let c16_i32_4411 : BitVec 32 := 16#32
  let v3470 : BitVec 32 := Scalar.remsi v3469 c16_i32_4411
  let c256_i32_4412 : BitVec 32 := 256#32
  let v3471 : BitVec 32 := Scalar.muli v3470 c256_i32_4412
  let c2048_i32_4416 : BitVec 32 := 2048#32
  ![v3471.toNat, 2048]
def k0_off14 (d0 : Dev nD) (c0_i32_4419 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3477 : BitVec 32 := Scalar.addi v2 c0_i32_4419
  let c32_i32_4420 : BitVec 32 := 32#32
  let v3478 : BitVec 32 := Scalar.addi v3477 c32_i32_4420
  let c16_i32_4421 : BitVec 32 := 16#32
  let v3479 : BitVec 32 := Scalar.remsi v3478 c16_i32_4421
  let c256_i32_4422 : BitVec 32 := 256#32
  let v3480 : BitVec 32 := Scalar.muli v3479 c256_i32_4422
  let c6144_i32_4426 : BitVec 32 := 6144#32
  ![v3480.toNat, 6144]
def k0_dev137 (d0 : Dev nD) : Nat :=
  let c0_i32_4444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4443 : BitVec 32 := 1#32
  let v3490 : BitVec 32 := Scalar.muli v7 c1_i32_4443
  let v3491 : BitVec 32 := Scalar.addi c0_i32_4444 v3490
  v3491.toNat
def k0_dev138 (d0 : Dev nD) : Nat :=
  let c0_i32_4456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4455 : BitVec 32 := 1#32
  let v3500 : BitVec 32 := Scalar.muli v5 c1_i32_4455
  let v3501 : BitVec 32 := Scalar.addi c0_i32_4456 v3500
  v3501.toNat
def k0_dev139 (d0 : Dev nD) : Nat :=
  let c0_i32_4523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4522 : BitVec 32 := 1#32
  let v3550 : BitVec 32 := Scalar.muli v5 c1_i32_4522
  let v3551 : BitVec 32 := Scalar.addi c0_i32_4523 v3550
  v3551.toNat
def k0_dev140 (d0 : Dev nD) : Nat :=
  let c0_i32_4528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4527 : BitVec 32 := 1#32
  let v3554 : BitVec 32 := Scalar.muli v7 c1_i32_4527
  let v3555 : BitVec 32 := Scalar.addi c0_i32_4528 v3554
  v3555.toNat
def k0_dev141 (d0 : Dev nD) : Nat :=
  let c0_i32_4564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4563 : BitVec 32 := 1#32
  let v3578 : BitVec 32 := Scalar.muli v7 c1_i32_4563
  let v3579 : BitVec 32 := Scalar.addi c0_i32_4564 v3578
  v3579.toNat
def k0_dev142 (d0 : Dev nD) : Nat :=
  let c0_i32_4576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4575 : BitVec 32 := 1#32
  let v3588 : BitVec 32 := Scalar.muli v5 c1_i32_4575
  let v3589 : BitVec 32 := Scalar.addi c0_i32_4576 v3588
  v3589.toNat
def k0_dev143 (d0 : Dev nD) : Nat :=
  let c0_i32_4643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4642 : BitVec 32 := 1#32
  let v3638 : BitVec 32 := Scalar.muli v5 c1_i32_4642
  let v3639 : BitVec 32 := Scalar.addi c0_i32_4643 v3638
  v3639.toNat
def k0_dev144 (d0 : Dev nD) : Nat :=
  let c0_i32_4648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4647 : BitVec 32 := 1#32
  let v3642 : BitVec 32 := Scalar.muli v7 c1_i32_4647
  let v3643 : BitVec 32 := Scalar.addi c0_i32_4648 v3642
  v3643.toNat
def k0_dev145 (d0 : Dev nD) : Nat :=
  let c0_i32_4684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4683 : BitVec 32 := 1#32
  let v3666 : BitVec 32 := Scalar.muli v7 c1_i32_4683
  let v3667 : BitVec 32 := Scalar.addi c0_i32_4684 v3666
  v3667.toNat
def k0_dev146 (d0 : Dev nD) : Nat :=
  let c0_i32_4696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4695 : BitVec 32 := 1#32
  let v3676 : BitVec 32 := Scalar.muli v5 c1_i32_4695
  let v3677 : BitVec 32 := Scalar.addi c0_i32_4696 v3676
  v3677.toNat
def k0_dev147 (d0 : Dev nD) : Nat :=
  let c0_i32_4763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4762 : BitVec 32 := 1#32
  let v3726 : BitVec 32 := Scalar.muli v5 c1_i32_4762
  let v3727 : BitVec 32 := Scalar.addi c0_i32_4763 v3726
  v3727.toNat
def k0_dev148 (d0 : Dev nD) : Nat :=
  let c0_i32_4768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4767 : BitVec 32 := 1#32
  let v3730 : BitVec 32 := Scalar.muli v7 c1_i32_4767
  let v3731 : BitVec 32 := Scalar.addi c0_i32_4768 v3730
  v3731.toNat
def k0_dev149 (d0 : Dev nD) : Nat :=
  let c0_i32_4804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4803 : BitVec 32 := 1#32
  let v3754 : BitVec 32 := Scalar.muli v7 c1_i32_4803
  let v3755 : BitVec 32 := Scalar.addi c0_i32_4804 v3754
  v3755.toNat
def k0_dev150 (d0 : Dev nD) : Nat :=
  let c0_i32_4816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4815 : BitVec 32 := 1#32
  let v3764 : BitVec 32 := Scalar.muli v5 c1_i32_4815
  let v3765 : BitVec 32 := Scalar.addi c0_i32_4816 v3764
  v3765.toNat
def k0_dev151 (d0 : Dev nD) : Nat :=
  let c0_i32_4883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4882 : BitVec 32 := 1#32
  let v3814 : BitVec 32 := Scalar.muli v5 c1_i32_4882
  let v3815 : BitVec 32 := Scalar.addi c0_i32_4883 v3814
  v3815.toNat
def k0_dev152 (d0 : Dev nD) : Nat :=
  let c0_i32_4888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4887 : BitVec 32 := 1#32
  let v3818 : BitVec 32 := Scalar.muli v7 c1_i32_4887
  let v3819 : BitVec 32 := Scalar.addi c0_i32_4888 v3818
  v3819.toNat
def k0_dev153 (d0 : Dev nD) : Nat :=
  let c0_i32_4924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4923 : BitVec 32 := 1#32
  let v3842 : BitVec 32 := Scalar.muli v7 c1_i32_4923
  let v3843 : BitVec 32 := Scalar.addi c0_i32_4924 v3842
  v3843.toNat
def k0_dev154 (d0 : Dev nD) : Nat :=
  let c0_i32_4936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4935 : BitVec 32 := 1#32
  let v3852 : BitVec 32 := Scalar.muli v5 c1_i32_4935
  let v3853 : BitVec 32 := Scalar.addi c0_i32_4936 v3852
  v3853.toNat
def k0_dev155 (d0 : Dev nD) : Nat :=
  let c0_i32_5003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5002 : BitVec 32 := 1#32
  let v3902 : BitVec 32 := Scalar.muli v5 c1_i32_5002
  let v3903 : BitVec 32 := Scalar.addi c0_i32_5003 v3902
  v3903.toNat
def k0_dev156 (d0 : Dev nD) : Nat :=
  let c0_i32_5008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5007 : BitVec 32 := 1#32
  let v3906 : BitVec 32 := Scalar.muli v7 c1_i32_5007
  let v3907 : BitVec 32 := Scalar.addi c0_i32_5008 v3906
  v3907.toNat
def k0_dev157 (d0 : Dev nD) : Nat :=
  let c0_i32_5044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5043 : BitVec 32 := 1#32
  let v3930 : BitVec 32 := Scalar.muli v7 c1_i32_5043
  let v3931 : BitVec 32 := Scalar.addi c0_i32_5044 v3930
  v3931.toNat
def k0_dev158 (d0 : Dev nD) : Nat :=
  let c0_i32_5056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5055 : BitVec 32 := 1#32
  let v3940 : BitVec 32 := Scalar.muli v5 c1_i32_5055
  let v3941 : BitVec 32 := Scalar.addi c0_i32_5056 v3940
  v3941.toNat
def k0_dev159 (d0 : Dev nD) : Nat :=
  let c0_i32_5123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5122 : BitVec 32 := 1#32
  let v3990 : BitVec 32 := Scalar.muli v5 c1_i32_5122
  let v3991 : BitVec 32 := Scalar.addi c0_i32_5123 v3990
  v3991.toNat
def k0_dev160 (d0 : Dev nD) : Nat :=
  let c0_i32_5128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5127 : BitVec 32 := 1#32
  let v3994 : BitVec 32 := Scalar.muli v7 c1_i32_5127
  let v3995 : BitVec 32 := Scalar.addi c0_i32_5128 v3994
  v3995.toNat
def k0_dev161 (d0 : Dev nD) : Nat :=
  let c0_i32_5164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5163 : BitVec 32 := 1#32
  let v4018 : BitVec 32 := Scalar.muli v7 c1_i32_5163
  let v4019 : BitVec 32 := Scalar.addi c0_i32_5164 v4018
  v4019.toNat
def k0_dev162 (d0 : Dev nD) : Nat :=
  let c0_i32_5176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5175 : BitVec 32 := 1#32
  let v4028 : BitVec 32 := Scalar.muli v5 c1_i32_5175
  let v4029 : BitVec 32 := Scalar.addi c0_i32_5176 v4028
  v4029.toNat
def k0_dev163 (d0 : Dev nD) : Nat :=
  let c0_i32_5243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5242 : BitVec 32 := 1#32
  let v4078 : BitVec 32 := Scalar.muli v5 c1_i32_5242
  let v4079 : BitVec 32 := Scalar.addi c0_i32_5243 v4078
  v4079.toNat
def k0_dev164 (d0 : Dev nD) : Nat :=
  let c0_i32_5248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5247 : BitVec 32 := 1#32
  let v4082 : BitVec 32 := Scalar.muli v7 c1_i32_5247
  let v4083 : BitVec 32 := Scalar.addi c0_i32_5248 v4082
  v4083.toNat
def k0_dev165 (d0 : Dev nD) : Nat :=
  let c0_i32_5284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5283 : BitVec 32 := 1#32
  let v4106 : BitVec 32 := Scalar.muli v7 c1_i32_5283
  let v4107 : BitVec 32 := Scalar.addi c0_i32_5284 v4106
  v4107.toNat
def k0_dev166 (d0 : Dev nD) : Nat :=
  let c0_i32_5296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5295 : BitVec 32 := 1#32
  let v4116 : BitVec 32 := Scalar.muli v5 c1_i32_5295
  let v4117 : BitVec 32 := Scalar.addi c0_i32_5296 v4116
  v4117.toNat
def k0_dev167 (d0 : Dev nD) : Nat :=
  let c0_i32_5363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5362 : BitVec 32 := 1#32
  let v4166 : BitVec 32 := Scalar.muli v5 c1_i32_5362
  let v4167 : BitVec 32 := Scalar.addi c0_i32_5363 v4166
  v4167.toNat
def k0_dev168 (d0 : Dev nD) : Nat :=
  let c0_i32_5368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5367 : BitVec 32 := 1#32
  let v4170 : BitVec 32 := Scalar.muli v7 c1_i32_5367
  let v4171 : BitVec 32 := Scalar.addi c0_i32_5368 v4170
  v4171.toNat
def k0_dev169 (d0 : Dev nD) : Nat :=
  let c0_i32_5404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5403 : BitVec 32 := 1#32
  let v4194 : BitVec 32 := Scalar.muli v7 c1_i32_5403
  let v4195 : BitVec 32 := Scalar.addi c0_i32_5404 v4194
  v4195.toNat
def k0_dev170 (d0 : Dev nD) : Nat :=
  let c0_i32_5416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5415 : BitVec 32 := 1#32
  let v4204 : BitVec 32 := Scalar.muli v5 c1_i32_5415
  let v4205 : BitVec 32 := Scalar.addi c0_i32_5416 v4204
  v4205.toNat
def k0_dev171 (d0 : Dev nD) : Nat :=
  let c0_i32_5483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5482 : BitVec 32 := 1#32
  let v4254 : BitVec 32 := Scalar.muli v5 c1_i32_5482
  let v4255 : BitVec 32 := Scalar.addi c0_i32_5483 v4254
  v4255.toNat
def k0_dev172 (d0 : Dev nD) : Nat :=
  let c0_i32_5488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5487 : BitVec 32 := 1#32
  let v4258 : BitVec 32 := Scalar.muli v7 c1_i32_5487
  let v4259 : BitVec 32 := Scalar.addi c0_i32_5488 v4258
  v4259.toNat
def k0_dev173 (d0 : Dev nD) : Nat :=
  let c0_i32_5524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5523 : BitVec 32 := 1#32
  let v4282 : BitVec 32 := Scalar.muli v7 c1_i32_5523
  let v4283 : BitVec 32 := Scalar.addi c0_i32_5524 v4282
  v4283.toNat
def k0_dev174 (d0 : Dev nD) : Nat :=
  let c0_i32_5536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5535 : BitVec 32 := 1#32
  let v4292 : BitVec 32 := Scalar.muli v5 c1_i32_5535
  let v4293 : BitVec 32 := Scalar.addi c0_i32_5536 v4292
  v4293.toNat
def k0_dev175 (d0 : Dev nD) : Nat :=
  let c0_i32_5603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5602 : BitVec 32 := 1#32
  let v4342 : BitVec 32 := Scalar.muli v5 c1_i32_5602
  let v4343 : BitVec 32 := Scalar.addi c0_i32_5603 v4342
  v4343.toNat
def k0_dev176 (d0 : Dev nD) : Nat :=
  let c0_i32_5608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5607 : BitVec 32 := 1#32
  let v4346 : BitVec 32 := Scalar.muli v7 c1_i32_5607
  let v4347 : BitVec 32 := Scalar.addi c0_i32_5608 v4346
  v4347.toNat
def k0_dev177 (d0 : Dev nD) : Nat :=
  let c0_i32_5644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5643 : BitVec 32 := 1#32
  let v4370 : BitVec 32 := Scalar.muli v7 c1_i32_5643
  let v4371 : BitVec 32 := Scalar.addi c0_i32_5644 v4370
  v4371.toNat
def k0_dev178 (d0 : Dev nD) : Nat :=
  let c0_i32_5656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5655 : BitVec 32 := 1#32
  let v4380 : BitVec 32 := Scalar.muli v5 c1_i32_5655
  let v4381 : BitVec 32 := Scalar.addi c0_i32_5656 v4380
  v4381.toNat
def k0_dev179 (d0 : Dev nD) : Nat :=
  let c0_i32_5723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5722 : BitVec 32 := 1#32
  let v4430 : BitVec 32 := Scalar.muli v5 c1_i32_5722
  let v4431 : BitVec 32 := Scalar.addi c0_i32_5723 v4430
  v4431.toNat
def k0_dev180 (d0 : Dev nD) : Nat :=
  let c0_i32_5728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5727 : BitVec 32 := 1#32
  let v4434 : BitVec 32 := Scalar.muli v7 c1_i32_5727
  let v4435 : BitVec 32 := Scalar.addi c0_i32_5728 v4434
  v4435.toNat
def k0_dev181 (d0 : Dev nD) : Nat :=
  let c0_i32_5764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5763 : BitVec 32 := 1#32
  let v4458 : BitVec 32 := Scalar.muli v7 c1_i32_5763
  let v4459 : BitVec 32 := Scalar.addi c0_i32_5764 v4458
  v4459.toNat
def k0_dev182 (d0 : Dev nD) : Nat :=
  let c0_i32_5776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5775 : BitVec 32 := 1#32
  let v4468 : BitVec 32 := Scalar.muli v5 c1_i32_5775
  let v4469 : BitVec 32 := Scalar.addi c0_i32_5776 v4468
  v4469.toNat
def k0_dev183 (d0 : Dev nD) : Nat :=
  let c0_i32_5843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5842 : BitVec 32 := 1#32
  let v4518 : BitVec 32 := Scalar.muli v5 c1_i32_5842
  let v4519 : BitVec 32 := Scalar.addi c0_i32_5843 v4518
  v4519.toNat
def k0_dev184 (d0 : Dev nD) : Nat :=
  let c0_i32_5848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5847 : BitVec 32 := 1#32
  let v4522 : BitVec 32 := Scalar.muli v7 c1_i32_5847
  let v4523 : BitVec 32 := Scalar.addi c0_i32_5848 v4522
  v4523.toNat
def k0_dev185 (d0 : Dev nD) : Nat :=
  let c0_i32_5884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5883 : BitVec 32 := 1#32
  let v4546 : BitVec 32 := Scalar.muli v7 c1_i32_5883
  let v4547 : BitVec 32 := Scalar.addi c0_i32_5884 v4546
  v4547.toNat
def k0_dev186 (d0 : Dev nD) : Nat :=
  let c0_i32_5896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5895 : BitVec 32 := 1#32
  let v4556 : BitVec 32 := Scalar.muli v5 c1_i32_5895
  let v4557 : BitVec 32 := Scalar.addi c0_i32_5896 v4556
  v4557.toNat
def k0_dev187 (d0 : Dev nD) : Nat :=
  let c0_i32_5963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5962 : BitVec 32 := 1#32
  let v4606 : BitVec 32 := Scalar.muli v5 c1_i32_5962
  let v4607 : BitVec 32 := Scalar.addi c0_i32_5963 v4606
  v4607.toNat
def k0_dev188 (d0 : Dev nD) : Nat :=
  let c0_i32_5968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5967 : BitVec 32 := 1#32
  let v4610 : BitVec 32 := Scalar.muli v7 c1_i32_5967
  let v4611 : BitVec 32 := Scalar.addi c0_i32_5968 v4610
  v4611.toNat
def k0_dev189 (d0 : Dev nD) : Nat :=
  let c0_i32_6004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6003 : BitVec 32 := 1#32
  let v4634 : BitVec 32 := Scalar.muli v7 c1_i32_6003
  let v4635 : BitVec 32 := Scalar.addi c0_i32_6004 v4634
  v4635.toNat
def k0_dev190 (d0 : Dev nD) : Nat :=
  let c0_i32_6016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6015 : BitVec 32 := 1#32
  let v4644 : BitVec 32 := Scalar.muli v5 c1_i32_6015
  let v4645 : BitVec 32 := Scalar.addi c0_i32_6016 v4644
  v4645.toNat
def k0_dev191 (d0 : Dev nD) : Nat :=
  let c0_i32_6083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6082 : BitVec 32 := 1#32
  let v4694 : BitVec 32 := Scalar.muli v5 c1_i32_6082
  let v4695 : BitVec 32 := Scalar.addi c0_i32_6083 v4694
  v4695.toNat
def k0_dev192 (d0 : Dev nD) : Nat :=
  let c0_i32_6088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6087 : BitVec 32 := 1#32
  let v4698 : BitVec 32 := Scalar.muli v7 c1_i32_6087
  let v4699 : BitVec 32 := Scalar.addi c0_i32_6088 v4698
  v4699.toNat
def k0_dev193 (d0 : Dev nD) : Nat :=
  let c0_i32_6124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6123 : BitVec 32 := 1#32
  let v4722 : BitVec 32 := Scalar.muli v7 c1_i32_6123
  let v4723 : BitVec 32 := Scalar.addi c0_i32_6124 v4722
  v4723.toNat
def k0_dev194 (d0 : Dev nD) : Nat :=
  let c0_i32_6136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6135 : BitVec 32 := 1#32
  let v4732 : BitVec 32 := Scalar.muli v5 c1_i32_6135
  let v4733 : BitVec 32 := Scalar.addi c0_i32_6136 v4732
  v4733.toNat
def k0_dev195 (d0 : Dev nD) : Nat :=
  let c0_i32_6203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6202 : BitVec 32 := 1#32
  let v4782 : BitVec 32 := Scalar.muli v5 c1_i32_6202
  let v4783 : BitVec 32 := Scalar.addi c0_i32_6203 v4782
  v4783.toNat
def k0_dev196 (d0 : Dev nD) : Nat :=
  let c0_i32_6208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6207 : BitVec 32 := 1#32
  let v4786 : BitVec 32 := Scalar.muli v7 c1_i32_6207
  let v4787 : BitVec 32 := Scalar.addi c0_i32_6208 v4786
  v4787.toNat
def k0_dev197 (d0 : Dev nD) : Nat :=
  let c0_i32_6244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6243 : BitVec 32 := 1#32
  let v4810 : BitVec 32 := Scalar.muli v7 c1_i32_6243
  let v4811 : BitVec 32 := Scalar.addi c0_i32_6244 v4810
  v4811.toNat
def k0_dev198 (d0 : Dev nD) : Nat :=
  let c0_i32_6256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6255 : BitVec 32 := 1#32
  let v4820 : BitVec 32 := Scalar.muli v5 c1_i32_6255
  let v4821 : BitVec 32 := Scalar.addi c0_i32_6256 v4820
  v4821.toNat
def k0_dev199 (d0 : Dev nD) : Nat :=
  let c0_i32_6323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6322 : BitVec 32 := 1#32
  let v4870 : BitVec 32 := Scalar.muli v5 c1_i32_6322
  let v4871 : BitVec 32 := Scalar.addi c0_i32_6323 v4870
  v4871.toNat
def k0_dev200 (d0 : Dev nD) : Nat :=
  let c0_i32_6328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6327 : BitVec 32 := 1#32
  let v4874 : BitVec 32 := Scalar.muli v7 c1_i32_6327
  let v4875 : BitVec 32 := Scalar.addi c0_i32_6328 v4874
  v4875.toNat
def k0_dev201 (d0 : Dev nD) : Nat :=
  let c0_i32_6364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6363 : BitVec 32 := 1#32
  let v4898 : BitVec 32 := Scalar.muli v7 c1_i32_6363
  let v4899 : BitVec 32 := Scalar.addi c0_i32_6364 v4898
  v4899.toNat
def k0_dev202 (d0 : Dev nD) : Nat :=
  let c0_i32_6376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6375 : BitVec 32 := 1#32
  let v4908 : BitVec 32 := Scalar.muli v5 c1_i32_6375
  let v4909 : BitVec 32 := Scalar.addi c0_i32_6376 v4908
  v4909.toNat
def k0_dev203 (d0 : Dev nD) : Nat :=
  let c0_i32_6443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6442 : BitVec 32 := 1#32
  let v4958 : BitVec 32 := Scalar.muli v5 c1_i32_6442
  let v4959 : BitVec 32 := Scalar.addi c0_i32_6443 v4958
  v4959.toNat
def k0_dev204 (d0 : Dev nD) : Nat :=
  let c0_i32_6448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6447 : BitVec 32 := 1#32
  let v4962 : BitVec 32 := Scalar.muli v7 c1_i32_6447
  let v4963 : BitVec 32 := Scalar.addi c0_i32_6448 v4962
  v4963.toNat
def k0_dev205 (d0 : Dev nD) : Nat :=
  let c0_i32_6484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6483 : BitVec 32 := 1#32
  let v4986 : BitVec 32 := Scalar.muli v7 c1_i32_6483
  let v4987 : BitVec 32 := Scalar.addi c0_i32_6484 v4986
  v4987.toNat
def k0_dev206 (d0 : Dev nD) : Nat :=
  let c0_i32_6496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6495 : BitVec 32 := 1#32
  let v4996 : BitVec 32 := Scalar.muli v5 c1_i32_6495
  let v4997 : BitVec 32 := Scalar.addi c0_i32_6496 v4996
  v4997.toNat
def k0_dev207 (d0 : Dev nD) : Nat :=
  let c0_i32_6563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6562 : BitVec 32 := 1#32
  let v5046 : BitVec 32 := Scalar.muli v5 c1_i32_6562
  let v5047 : BitVec 32 := Scalar.addi c0_i32_6563 v5046
  v5047.toNat
def k0_dev208 (d0 : Dev nD) : Nat :=
  let c0_i32_6568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6567 : BitVec 32 := 1#32
  let v5050 : BitVec 32 := Scalar.muli v7 c1_i32_6567
  let v5051 : BitVec 32 := Scalar.addi c0_i32_6568 v5050
  v5051.toNat
def k0_dev209 (d0 : Dev nD) : Nat :=
  let c0_i32_6604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6603 : BitVec 32 := 1#32
  let v5074 : BitVec 32 := Scalar.muli v7 c1_i32_6603
  let v5075 : BitVec 32 := Scalar.addi c0_i32_6604 v5074
  v5075.toNat
def k0_dev210 (d0 : Dev nD) : Nat :=
  let c0_i32_6616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6615 : BitVec 32 := 1#32
  let v5084 : BitVec 32 := Scalar.muli v5 c1_i32_6615
  let v5085 : BitVec 32 := Scalar.addi c0_i32_6616 v5084
  v5085.toNat
def k0_dev211 (d0 : Dev nD) : Nat :=
  let c0_i32_6683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6682 : BitVec 32 := 1#32
  let v5134 : BitVec 32 := Scalar.muli v5 c1_i32_6682
  let v5135 : BitVec 32 := Scalar.addi c0_i32_6683 v5134
  v5135.toNat
def k0_dev212 (d0 : Dev nD) : Nat :=
  let c0_i32_6688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6687 : BitVec 32 := 1#32
  let v5138 : BitVec 32 := Scalar.muli v7 c1_i32_6687
  let v5139 : BitVec 32 := Scalar.addi c0_i32_6688 v5138
  v5139.toNat
def k0_dev213 (d0 : Dev nD) : Nat :=
  let c0_i32_6724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6723 : BitVec 32 := 1#32
  let v5162 : BitVec 32 := Scalar.muli v7 c1_i32_6723
  let v5163 : BitVec 32 := Scalar.addi c0_i32_6724 v5162
  v5163.toNat
def k0_dev214 (d0 : Dev nD) : Nat :=
  let c0_i32_6736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6735 : BitVec 32 := 1#32
  let v5172 : BitVec 32 := Scalar.muli v5 c1_i32_6735
  let v5173 : BitVec 32 := Scalar.addi c0_i32_6736 v5172
  v5173.toNat
def k0_dev215 (d0 : Dev nD) : Nat :=
  let c0_i32_6803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6802 : BitVec 32 := 1#32
  let v5222 : BitVec 32 := Scalar.muli v5 c1_i32_6802
  let v5223 : BitVec 32 := Scalar.addi c0_i32_6803 v5222
  v5223.toNat
def k0_dev216 (d0 : Dev nD) : Nat :=
  let c0_i32_6808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6807 : BitVec 32 := 1#32
  let v5226 : BitVec 32 := Scalar.muli v7 c1_i32_6807
  let v5227 : BitVec 32 := Scalar.addi c0_i32_6808 v5226
  v5227.toNat
def k0_dev217 (d0 : Dev nD) : Nat :=
  let c0_i32_6844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6843 : BitVec 32 := 1#32
  let v5250 : BitVec 32 := Scalar.muli v7 c1_i32_6843
  let v5251 : BitVec 32 := Scalar.addi c0_i32_6844 v5250
  v5251.toNat
def k0_dev218 (d0 : Dev nD) : Nat :=
  let c0_i32_6856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6855 : BitVec 32 := 1#32
  let v5260 : BitVec 32 := Scalar.muli v5 c1_i32_6855
  let v5261 : BitVec 32 := Scalar.addi c0_i32_6856 v5260
  v5261.toNat
def k0_dev219 (d0 : Dev nD) : Nat :=
  let c0_i32_6923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6922 : BitVec 32 := 1#32
  let v5310 : BitVec 32 := Scalar.muli v5 c1_i32_6922
  let v5311 : BitVec 32 := Scalar.addi c0_i32_6923 v5310
  v5311.toNat
def k0_dev220 (d0 : Dev nD) : Nat :=
  let c0_i32_6928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6927 : BitVec 32 := 1#32
  let v5314 : BitVec 32 := Scalar.muli v7 c1_i32_6927
  let v5315 : BitVec 32 := Scalar.addi c0_i32_6928 v5314
  v5315.toNat
def k0_dev221 (d0 : Dev nD) : Nat :=
  let c0_i32_6964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6963 : BitVec 32 := 1#32
  let v5338 : BitVec 32 := Scalar.muli v7 c1_i32_6963
  let v5339 : BitVec 32 := Scalar.addi c0_i32_6964 v5338
  v5339.toNat
def k0_dev222 (d0 : Dev nD) : Nat :=
  let c0_i32_6976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6975 : BitVec 32 := 1#32
  let v5348 : BitVec 32 := Scalar.muli v5 c1_i32_6975
  let v5349 : BitVec 32 := Scalar.addi c0_i32_6976 v5348
  v5349.toNat
def k0_dev223 (d0 : Dev nD) : Nat :=
  let c0_i32_7043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7042 : BitVec 32 := 1#32
  let v5398 : BitVec 32 := Scalar.muli v5 c1_i32_7042
  let v5399 : BitVec 32 := Scalar.addi c0_i32_7043 v5398
  v5399.toNat
def k0_dev224 (d0 : Dev nD) : Nat :=
  let c0_i32_7048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7047 : BitVec 32 := 1#32
  let v5402 : BitVec 32 := Scalar.muli v7 c1_i32_7047
  let v5403 : BitVec 32 := Scalar.addi c0_i32_7048 v5402
  v5403.toNat
def k0_dev225 (d0 : Dev nD) : Nat :=
  let c0_i32_7084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7083 : BitVec 32 := 1#32
  let v5426 : BitVec 32 := Scalar.muli v7 c1_i32_7083
  let v5427 : BitVec 32 := Scalar.addi c0_i32_7084 v5426
  v5427.toNat
def k0_dev226 (d0 : Dev nD) : Nat :=
  let c0_i32_7096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7095 : BitVec 32 := 1#32
  let v5436 : BitVec 32 := Scalar.muli v5 c1_i32_7095
  let v5437 : BitVec 32 := Scalar.addi c0_i32_7096 v5436
  v5437.toNat
def k0_dev227 (d0 : Dev nD) : Nat :=
  let c0_i32_7163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7162 : BitVec 32 := 1#32
  let v5486 : BitVec 32 := Scalar.muli v5 c1_i32_7162
  let v5487 : BitVec 32 := Scalar.addi c0_i32_7163 v5486
  v5487.toNat
def k0_dev228 (d0 : Dev nD) : Nat :=
  let c0_i32_7168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7167 : BitVec 32 := 1#32
  let v5490 : BitVec 32 := Scalar.muli v7 c1_i32_7167
  let v5491 : BitVec 32 := Scalar.addi c0_i32_7168 v5490
  v5491.toNat
def k0_dev229 (d0 : Dev nD) : Nat :=
  let c0_i32_7204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7203 : BitVec 32 := 1#32
  let v5514 : BitVec 32 := Scalar.muli v7 c1_i32_7203
  let v5515 : BitVec 32 := Scalar.addi c0_i32_7204 v5514
  v5515.toNat
def k0_dev230 (d0 : Dev nD) : Nat :=
  let c0_i32_7216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7215 : BitVec 32 := 1#32
  let v5524 : BitVec 32 := Scalar.muli v5 c1_i32_7215
  let v5525 : BitVec 32 := Scalar.addi c0_i32_7216 v5524
  v5525.toNat
def k0_dev231 (d0 : Dev nD) : Nat :=
  let c0_i32_7283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7282 : BitVec 32 := 1#32
  let v5574 : BitVec 32 := Scalar.muli v5 c1_i32_7282
  let v5575 : BitVec 32 := Scalar.addi c0_i32_7283 v5574
  v5575.toNat
def k0_dev232 (d0 : Dev nD) : Nat :=
  let c0_i32_7288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7287 : BitVec 32 := 1#32
  let v5578 : BitVec 32 := Scalar.muli v7 c1_i32_7287
  let v5579 : BitVec 32 := Scalar.addi c0_i32_7288 v5578
  v5579.toNat
def k0_dev233 (d0 : Dev nD) : Nat :=
  let c0_i32_7324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7323 : BitVec 32 := 1#32
  let v5602 : BitVec 32 := Scalar.muli v7 c1_i32_7323
  let v5603 : BitVec 32 := Scalar.addi c0_i32_7324 v5602
  v5603.toNat
def k0_dev234 (d0 : Dev nD) : Nat :=
  let c0_i32_7336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7335 : BitVec 32 := 1#32
  let v5612 : BitVec 32 := Scalar.muli v5 c1_i32_7335
  let v5613 : BitVec 32 := Scalar.addi c0_i32_7336 v5612
  v5613.toNat
def k0_dev235 (d0 : Dev nD) : Nat :=
  let c0_i32_7403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7402 : BitVec 32 := 1#32
  let v5662 : BitVec 32 := Scalar.muli v5 c1_i32_7402
  let v5663 : BitVec 32 := Scalar.addi c0_i32_7403 v5662
  v5663.toNat
def k0_dev236 (d0 : Dev nD) : Nat :=
  let c0_i32_7408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7407 : BitVec 32 := 1#32
  let v5666 : BitVec 32 := Scalar.muli v7 c1_i32_7407
  let v5667 : BitVec 32 := Scalar.addi c0_i32_7408 v5666
  v5667.toNat
def k0_dev237 (d0 : Dev nD) : Nat :=
  let c0_i32_7444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7443 : BitVec 32 := 1#32
  let v5690 : BitVec 32 := Scalar.muli v7 c1_i32_7443
  let v5691 : BitVec 32 := Scalar.addi c0_i32_7444 v5690
  v5691.toNat
def k0_dev238 (d0 : Dev nD) : Nat :=
  let c0_i32_7456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7455 : BitVec 32 := 1#32
  let v5700 : BitVec 32 := Scalar.muli v5 c1_i32_7455
  let v5701 : BitVec 32 := Scalar.addi c0_i32_7456 v5700
  v5701.toNat
def k0_dev239 (d0 : Dev nD) : Nat :=
  let c0_i32_7523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7522 : BitVec 32 := 1#32
  let v5750 : BitVec 32 := Scalar.muli v5 c1_i32_7522
  let v5751 : BitVec 32 := Scalar.addi c0_i32_7523 v5750
  v5751.toNat
def k0_dev240 (d0 : Dev nD) : Nat :=
  let c0_i32_7528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7527 : BitVec 32 := 1#32
  let v5754 : BitVec 32 := Scalar.muli v7 c1_i32_7527
  let v5755 : BitVec 32 := Scalar.addi c0_i32_7528 v5754
  v5755.toNat
def k0_dev241 (d0 : Dev nD) : Nat :=
  let c0_i32_7564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7563 : BitVec 32 := 1#32
  let v5778 : BitVec 32 := Scalar.muli v7 c1_i32_7563
  let v5779 : BitVec 32 := Scalar.addi c0_i32_7564 v5778
  v5779.toNat
def k0_dev242 (d0 : Dev nD) : Nat :=
  let c0_i32_7576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7575 : BitVec 32 := 1#32
  let v5788 : BitVec 32 := Scalar.muli v5 c1_i32_7575
  let v5789 : BitVec 32 := Scalar.addi c0_i32_7576 v5788
  v5789.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S1, .f32⟩
  | .hbm, ⟨3, _⟩ => ⟨S1, .f32⟩
  | .hbm, ⟨4, _⟩ => ⟨S4096x4096, .f32⟩
  | .hbm, ⟨5, _⟩ => ⟨S4096x8192, .f32⟩
  | .hbm, ⟨6, _⟩ => ⟨S4096x8192, .f32⟩
  | .hbm, ⟨7, _⟩ => ⟨S1, .f32⟩
  | .hbm, ⟨8, _⟩ => ⟨S1x1, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Steps.lean ====
/-
  The kernel's body as a list of steps. The ring runs in two directions (`false` clockwise: device `c` sends to
  `c + 1`; `true` counter-clockwise: device `c` sends to `c - 1`), each over two column halves, so four LANES `(d, u)`.
  A step here is one memory effect of one lane (or one accumulation), at a ring step `s < 30` of the lane; the body is
  the prologue and then, step after step, the starts and the finishes of the lanes in the order the kernel has them.
-/
module

public import proofs.«01_k».proof.Defs
public import Idealize.ShloMosaic.Lib.Pipeline.Launch
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-- The body's programs. -/
abbrev P (F : FTy → Type) [FloatOps F] := Prog (TpuEff nD τ sig (Elt F) Λ₀ .tc) PUnit

/-! ## Slots, halves and views -/

/-- The slot read at ring step `s`; step `s` writes the other one. -/
def par : ℕ → Bool
  | 0 => false
  | s + 1 => !par s

/-- Where column half `u` of slot `b` of a communication buffer begins. -/
def slotOff (b u : Bool) : Fin 3 → Nat := ![cond b 1 0, 0, cond u 2048 0]
theorem slotOff_inb : ∀ b u : Bool, ∀ a, slotOff b u a + S1x256x2048.size a ≤ S2x256x4096.size a := by decide
/-- Where slot `u` of a partial-sum buffer begins. -/
def pbufOff (u : Bool) : Fin 3 → Nat := ![cond u 1 0, 0, 0]
theorem pbufOff_inb : ∀ u : Bool, ∀ a, pbufOff u a + S1x256x2048.size a ≤ S2x256x2048.size a := by decide

/-- The communication buffer of direction `d`. -/
def commM : Bool → Memref sig .tc .vmem S2x256x4096 .f32
  | false => Memref.whole cc0_scratch0
  | true => Memref.whole cc0_scratch1
/-- The partial-sum buffer of direction `d`. -/
def pbufM : Bool → Memref sig .tc .vmem S2x256x2048 .f32
  | false => Memref.whole cc0_scratch2
  | true => Memref.whole cc0_scratch3
/-- The partial product's array and the result's. -/
def partM : Memref sig .tc .hbm S4096x8192 .f32 := Memref.whole main_v1
def outM : Memref sig .tc .hbm S4096x8192 .f32 := Memref.whole main_v2

def slotR (b u : Bool) : Rect S2x256x4096 := Rect.unit (s := S2x256x4096) (slotOff b u) S1x256x2048.size (slotOff_inb b u)
def pbufR (u : Bool) : Rect S2x256x2048 := Rect.unit (s := S2x256x2048) (pbufOff u) S1x256x2048.size (pbufOff_inb u)

/-- Column half `u` of slot `b` of direction `d`'s communication buffer. -/
def commV (d b u : Bool) : Memref sig .tc .vmem S256x2048 .f32 :=
  ((commM d).slice (Rect.unit (s := S2x256x4096) (slotOff b u) S1x256x2048.size (slotOff_inb b u)) (fun _ => rfl)).squeeze
    S256x2048 squeezes_S1x256x2048_S256x2048
/-- Slot `u` of direction `d`'s partial-sum buffer. -/
def pbufV (d u : Bool) : Memref sig .tc .vmem S256x2048 .f32 :=
  ((pbufM d).slice (Rect.unit (s := S2x256x2048) (pbufOff u) S1x256x2048.size (pbufOff_inb u)) (fun _ => rfl)).squeeze
    S256x2048 squeezes_S1x256x2048_S256x2048
/-- Slot 0 of direction `d`'s communication buffer, whole. -/
def commW (d : Bool) : Memref sig .tc .vmem S256x4096 .f32 :=
  ((commM d).slice (Rect.unit (s := S2x256x4096) ![0, 0, 0] S1x256x4096.size inb_S2x256x4096_S1x256x4096_0_0_0) (fun _ => rfl)).squeeze
    S256x4096 squeezes_S1x256x4096_S256x4096

/-- Device `c`'s own chunk of its partial product, direction `d`'s half of the columns. -/
def ownV (c : Dev nD) : Bool → Memref sig .tc .hbm S256x4096 .f32
  | false => partM.slice (Rect.unit (s := S4096x8192) (k0_off1 c) S256x4096.size (k0_off1_inb c)) (fun _ => rfl)
  | true => partM.slice (Rect.unit (s := S4096x8192) (k0_off2 c) S256x4096.size (k0_off2_inb c)) (fun _ => rfl)

/-- The chunk of the partial product that lane `(d, u)` adds at ring step `r < 15`. -/
def loadV (c : Dev nD) (r : Fin 15) : Bool → Bool → Memref sig .tc .hbm S256x2048 .f32
  | false, false => partM.slice (Rect.unit (s := S4096x8192) (k0_off3 c (BitVec.ofNat 32 r.val)) S256x2048.size (k0_off3_inb c r)) (fun _ => rfl)
  | true, false => partM.slice (Rect.unit (s := S4096x8192) (k0_off4 c (BitVec.ofNat 32 r.val)) S256x2048.size (k0_off4_inb c r)) (fun _ => rfl)
  | false, true => partM.slice (Rect.unit (s := S4096x8192) (k0_off5 c (BitVec.ofNat 32 r.val)) S256x2048.size (k0_off5_inb c r)) (fun _ => rfl)
  | true, true => partM.slice (Rect.unit (s := S4096x8192) (k0_off6 c (BitVec.ofNat 32 r.val)) S256x2048.size (k0_off6_inb c r)) (fun _ => rfl)

/-- The chunk of the result that lane `(d, u)` stores at ring step 14. -/
def lastV (c : Dev nD) : Bool → Bool → Memref sig .tc .hbm S256x2048 .f32
  | false, false => outM.slice (Rect.unit (s := S4096x8192) (k0_off7 c) S256x2048.size (k0_off7_inb c)) (fun _ => rfl)
  | true, false => outM.slice (Rect.unit (s := S4096x8192) (k0_off8 c) S256x2048.size (k0_off8_inb c)) (fun _ => rfl)
  | false, true => outM.slice (Rect.unit (s := S4096x8192) (k0_off9 c) S256x2048.size (k0_off9_inb c)) (fun _ => rfl)
  | true, true => outM.slice (Rect.unit (s := S4096x8192) (k0_off10 c) S256x2048.size (k0_off10_inb c)) (fun _ => rfl)

/-- The chunk of the result that lane `(d, u)` stores at ring step `15 + r`. -/
def gathV (c : Dev nD) (r : Fin 15) : Bool → Bool → Memref sig .tc .hbm S256x2048 .f32
  | false, false => outM.slice (Rect.unit (s := S4096x8192) (k0_off11 c (BitVec.ofNat 32 r.val)) S256x2048.size (k0_off11_inb c r)) (fun _ => rfl)
  | true, false => outM.slice (Rect.unit (s := S4096x8192) (k0_off12 c (BitVec.ofNat 32 r.val)) S256x2048.size (k0_off12_inb c r)) (fun _ => rfl)
  | false, true => outM.slice (Rect.unit (s := S4096x8192) (k0_off13 c (BitVec.ofNat 32 r.val)) S256x2048.size (k0_off13_inb c r)) (fun _ => rfl)
  | true, true => outM.slice (Rect.unit (s := S4096x8192) (k0_off14 c (BitVec.ofNat 32 r.val)) S256x2048.size (k0_off14_inb c r)) (fun _ => rfl)

/-- The chunk of the result that lane `(d, u)` stores at ring step `s`, `14 ≤ s < 30`. -/
def outV (c : Dev nD) (s : ℕ) (d u : Bool) : Memref sig .tc .hbm S256x2048 .f32 :=
  if h : 15 ≤ s ∧ s < 30 then gathV c ⟨s - 15, by omega⟩ d u else lastV c d u

/-! ## Semaphores -/

def pairOff (b u : Bool) : Fin 2 → Nat := ![cond b 1 0, cond u 1 0]
theorem pairOff_inb : ∀ b u : Bool, ∀ a, pairOff b u a + S1x1.size a ≤ S2x2.size a := by decide
def oneOff (u : Bool) : Fin 1 → Nat := ![cond u 1 0]
theorem oneOff_inb : ∀ u : Bool, ∀ a, oneOff u a + S1.size a ≤ S2.size a := by decide

def dmaAt (A : DmaSems sig S2x2) (b u : Bool) : DmaSem sig :=
  ((A.slice (Rect.unit (s := S2x2) (pairOff b u) S1x1.size (pairOff_inb b u))).squeeze S_ squeezes_S1x1_S_).sem
def dmaAt1 (A : DmaSems sig S2) (u : Bool) : DmaSem sig :=
  ((A.slice (Rect.unit (s := S2) (oneOff u) S1.size (oneOff_inb u))).squeeze S_ squeezes_S1_S_).sem
def regAt (A : Sems sig S2x2) (b u : Bool) : Sem sig :=
  ((A.slice (Rect.unit (s := S2x2) (pairOff b u) S1x1.size (pairOff_inb b u))).squeeze S_ squeezes_S1x1_S_).sem

def sendS : Bool → Bool → Bool → DmaSem sig
  | false => dmaAt cc0_scratch4
  | true => dmaAt cc0_scratch6
def recvS : Bool → Bool → Bool → DmaSem sig
  | false => dmaAt cc0_scratch5
  | true => dmaAt cc0_scratch7
def loadS : Bool → Bool → DmaSem sig
  | false => dmaAt1 cc0_scratch8
  | true => dmaAt1 cc0_scratch9
def storeS : Bool → Bool → Bool → DmaSem sig
  | false => dmaAt cc0_scratch10
  | true => dmaAt cc0_scratch11
def credS : Bool → Bool → Bool → Sem sig
  | false => regAt cc0_scratch12
  | true => regAt cc0_scratch13
def barS : Sem sig := (SemArray.scalar (sig.barrier 0 rfl) : Sems sig S_).sem

/-! ## The ring -/

/-- The device direction `d` sends to. -/
def nxt (c : Dev nD) : Bool → Dev nD
  | false => ⟨k0_dev2 c, k0_dev2_lt c⟩
  | true => ⟨k0_dev1 c, k0_dev1_lt c⟩
/-- The device direction `d` receives from. -/
def prv (c : Dev nD) : Bool → Dev nD
  | false => ⟨k0_dev1 c, k0_dev1_lt c⟩
  | true => ⟨k0_dev2 c, k0_dev2_lt c⟩

/-! ## Steps -/

/-- A local transfer. -/
def copyA {sp sp' : Space} {s : Shape} (src : Memref sig .tc sp s .f32) (dst : Memref sig .tc sp' s .f32) (S : DmaSem sig)
    (h : DmaTarget.Typed (nD := nD) sp (.dma S) (.here (p := (.tc : Proc τ)) dst)) : P F :=
  Prog.lift (.enqueueDma src (.here dst) (.dma S) (View.wordExact_bits rfl) (View.wordExact_bits rfl) h)
/-- The transfer of ring step `s` to the neighbour. -/
def sendA (c : Dev nD) (s : ℕ) (d u : Bool) : P F :=
  Prog.lift (.enqueueDma (commV d (par s) u)
    (.remote (Dev.tc (nxt c d)) (commV d (!par s) u) (.dma (sendS d (par s) u))) (.dma (recvS d (!par s) u))
    (View.wordExact_bits rfl) (View.wordExact_bits rfl) ⟨⟨rfl, Or.inl rfl⟩, trivial⟩)
/-- A wait for a transfer into `dst`. -/
def waitA {sp sp' : Space} {s : Shape} (S : DmaSem sig) (src : Memref sig .tc sp s .f32) (dst : Memref sig .tc sp' s .f32) : P F :=
  Prog.lift (.waitDma2 S src dst (View.wordExact_bits rfl) (View.wordExact_bits rfl))

/-- The slot's half plus the partial sum, written back. -/
def accA (d b u : Bool) : P F := do
  let a : Vec F S1x256x2048 .f32 ← Prog.lift (.load (commM d) (Rect.unit (s := S2x256x4096) (slotOff b u) S1x256x2048.size (slotOff_inb b u)).toLoadRect (View.loadsAt_vmem h_S1x256x2048))
  let p : Vec F S1x256x2048 .f32 ← Prog.lift (.load (pbufM d) (Rect.unit (s := S2x256x2048) (pbufOff u) S1x256x2048.size (pbufOff_inb u)).toLoadRect (View.loadsAt_vmem h_S1x256x2048))
  let _ : Vec F S1x256x2048 .f32 ← Prog.lift (.load (commM d) (Rect.unit (s := S2x256x4096) (slotOff b u) S1x256x2048.size (slotOff_inb b u)).toLoadRect (View.loadsAt_vmem h_S1x256x2048))
  Prog.lift (.store (commM d) (Rect.unit (s := S2x256x4096) (slotOff b u) S1x256x2048.size (slotOff_inb b u)) (k0_pay2 a p) Finset.univ (View.stores_vmem_bits_univ h_S1x256x2048 rfl) (.inl rfl))
/-- The last accumulation: scaled and clamped below at 0. -/
def accR (z : F .f32) (d b u : Bool) : P F := do
  let a : Vec F S1x256x2048 .f32 ← Prog.lift (.load (commM d) (Rect.unit (s := S2x256x4096) (slotOff b u) S1x256x2048.size (slotOff_inb b u)).toLoadRect (View.loadsAt_vmem h_S1x256x2048))
  let p : Vec F S1x256x2048 .f32 ← Prog.lift (.load (pbufM d) (Rect.unit (s := S2x256x2048) (pbufOff u) S1x256x2048.size (pbufOff_inb u)).toLoadRect (View.loadsAt_vmem h_S1x256x2048))
  let _ : Vec F S1x256x2048 .f32 ← Prog.lift (.load (commM d) (Rect.unit (s := S2x256x4096) (slotOff b u) S1x256x2048.size (slotOff_inb b u)).toLoadRect (View.loadsAt_vmem h_S1x256x2048))
  Prog.lift (.store (commM d) (Rect.unit (s := S2x256x4096) (slotOff b u) S1x256x2048.size (slotOff_inb b u)) (k0_pay72 z a p) Finset.univ (View.stores_vmem_bits_univ h_S1x256x2048 rfl) (.inl rfl))

/-! ## The lists -/

/-- Both directions, one after the other. -/
def both (f : Bool → P F) : List (P F) := [f false, f true]

def loadA (c : Dev nD) (r : Fin 15) (u d : Bool) : P F := copyA (loadV c r d u) (pbufV d u) (loadS d u) ⟨Or.inl rfl, trivial⟩
def loadW (c : Dev nD) (r : Fin 15) (u d : Bool) : P F := waitA (loadS d u) (loadV c r d u) (pbufV d u)
def storeA (c : Dev nD) (s : ℕ) (u d : Bool) : P F :=
  copyA (commV d (!par s) u) (outV c s d u) (storeS d (!par s) u) ⟨Or.inl rfl, trivial⟩
def storeW (c : Dev nD) (s : ℕ) (u d : Bool) : P F := waitA (storeS d (!par s) u) (commV d (!par s) u) (outV c s d u)
def credW (s : ℕ) (u d : Bool) : P F := semWaitWord (credS d (!par s) u) 1#32
def credA (c : Dev nD) (b u d : Bool) : P F := semSignalWord (prv c d) (credS d b u) 1#32
def transW (s : ℕ) (u d : Bool) : List (P F) :=
  [waitA (sendS d (par s) u) (commV d (!par s) u) (commV d (par s) u),
   waitA (recvS d (!par s) u) (commV d (par s) u) (commV d (!par s) u)]

/-- The start of ring step `s` on both lanes of half `u`. -/
def startL (c : Dev nD) (s : ℕ) (u : Bool) : List (P F) :=
  (if h : s < 15 then both (loadA c ⟨s, h⟩ u) else []) ++ both (credW s u) ++ both fun d => sendA c s d u
/-- The finish of ring step `s` on both lanes of half `u`. -/
def finishL (c : Dev nD) (z : F .f32) (s : ℕ) (u : Bool) : List (P F) :=
  transW s u false ++ transW s u true
    ++ (if s + 1 < 30 then (if 15 ≤ s then both (storeW c (s - 1) u) else []) ++ both (credA c (par s) u) else [])
    ++ (if h : s < 15 then
          both (loadW c ⟨s, h⟩ u) ++ (if s = 14 then both (fun d => accR z d (!par s) u) else both fun d => accA d (!par s) u)
        else [])
    ++ (if 14 ≤ s then both (storeA c s u) else [])
/-- Ring step `s`: half 1 starts, half 0 finishes and starts the next step, half 1 finishes. -/
def stepL (c : Dev nD) (z : F .f32) (s : ℕ) : List (P F) :=
  startL c s true ++ finishL c z s false ++ (if s + 1 < 30 then startL c (s + 1) false else []) ++ finishL c z s true
/-- The ring steps from `s` on, `n` of them. -/
def stepsL (c : Dev nD) (z : F .f32) : ℕ → ℕ → List (P F)
  | _, 0 => []
  | s, n + 1 => stepL c z s ++ stepsL c z (s + 1) n

/-- What comes before the ring. -/
def preL (c : Dev nD) : List (P F) :=
  both (fun d => copyA (ownV c d) (commW d) (loadS d false) ⟨Or.inl rfl, trivial⟩)
    ++ [semSignalWord (prv c false) barS 1#32, semSignalWord (nxt c false) barS 1#32, semWaitWord barS 2#32]
    ++ both (fun d => waitA (loadS d false) (ownV c d) (commW d))
    ++ both (credA c true false) ++ both (credA c true true)
    ++ startL c 0 false
/-- What comes after it: the waits for the last two stores of each lane. -/
def postL (c : Dev nD) : List (P F) :=
  both (storeW c 28 false) ++ both (storeW c 28 true) ++ both (storeW c 29 false) ++ both (storeW c 29 true)

/-- The programs of a list, one after another. -/
def runL : List (P F) → P F
  | [] => pure ⟨⟩
  | p :: l => p >>= fun _ => runL l

theorem runL_append (l l' : List (P F)) : runL (l ++ l') = runL l >>= fun _ => runL l' := by
  induction l with
  | nil => rfl
  | cons p l ih => simp only [List.cons_append, runL, ih, bind_assoc]

/-- The whole body from the device's number and the two scales on. -/
def bodyL (c : Dev nD) (z : F .f32) : List (P F) := preL c ++ stepsL c z 0 30 ++ postL c

/-- The body: the device's number and the two scales read, then the steps. -/
def bodyP (a b : Memref sig .tc .smem S1 .f32) : P F := do
  let c : Dev nD ← Prog.lift .deviceId
  let x : Elt F .f32 ← smemLoad a (Rect.unit (s := S1) ![0] S1.size inb_S1_S1_0) numel1_S1 rfl
  let y : Elt F .f32 ← smemLoad b (Rect.unit (s := S1) ![0] S1.size inb_S1_S1_0) numel1_S1 rfl
  runL (bodyL c (k0_pay1 x y))

set_option maxRecDepth 65536 in
theorem body_eq (t : Fin cfg0.N) : bodyAt0 (F := F) t = bodyP (win0_0.stage (cfg0.slots t 0)) (win0_1.stage (cfg0.slots t 1)) := by
  chain_rfl

end Cert.KernelIdeal.Ring

end
-- ==== Proof.Views.lean ====
/-
  The views of the body in closed form: which chunk of 256 rows a lane touches at a ring step, and that the slots of a
  communication buffer and the pieces of the result are disjoint and cover their buffers.
-/
module

public import Idealize.ShloMosaic.Lib.Pipeline.Value
public import proofs.«01_k».proof.Proof.Steps

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## The ring -/

theorem prv_nxt : ∀ (d : Bool) (c : Dev nD), prv (nxt c d) d = c := by decide +kernel
theorem nxt_prv : ∀ (d : Bool) (c : Dev nD), nxt (prv c d) d = c := by decide +kernel
theorem nxt_true (c : Dev nD) : nxt c true = prv c false := rfl
theorem prv_true (c : Dev nD) : prv c true = nxt c false := rfl
theorem prv_val_false (c : Dev nD) : (prv c false).val = (c.val + 15) % 16 := k0_dev1_eq c
theorem prv_val_true (c : Dev nD) : (prv c true).val = (c.val + 1) % 16 := k0_dev2_eq c

theorem par_eq (s : ℕ) : par s = decide (s % 2 = 1) := by
  induction s with
  | zero => rfl
  | succ s ih =>
    rw [par, ih]
    rcases Nat.mod_two_eq_zero_or_one s with h | h
    · rw [h, show (s + 1) % 2 = 1 by omega]; rfl
    · rw [h, show (s + 1) % 2 = 0 by omega]; rfl
theorem par_add_two (s : ℕ) : par (s + 2) = par s := by simp [par]

/-- The chunk that direction `d`'s slot holds on device `c` at ring step `s`: it came from the device before. -/
def chunk (d : Bool) : ℕ → Dev nD → Dev nD
  | 0, c => c
  | s + 1, c => chunk d s (prv c d)

theorem chunk_false (s : ℕ) (c : Dev nD) : (chunk false s c).val = (c.val + 15 * s) % 16 := by
  induction s generalizing c with
  | zero => have := c.isLt; simp only [chunk]; unfold nD at this; omega
  | succ s ih => rw [chunk, ih, prv_val_false]; omega
theorem chunk_true (s : ℕ) (c : Dev nD) : (chunk true s c).val = (c.val + s) % 16 := by
  induction s generalizing c with
  | zero => have := c.isLt; simp only [chunk]; unfold nD at this; omega
  | succ s ih => rw [chunk, ih, prv_val_true]; omega

/-! ## Pieces of the two whole arrays -/

/-- Where the piece of chunk `k` in direction `d`'s half and column half `u` begins. -/
def pieceOff (k : Dev nD) (d u : Bool) : Fin 2 → Nat := ![256 * k.val, cond d 4096 0 + cond u 2048 0]
theorem pieceOff_inb (k : Dev nD) (d u : Bool) : ∀ a, pieceOff k d u a + S256x2048.size a ≤ S4096x8192.size a := by
  have := k.isLt
  unfold nD at this
  refine Fin.forall_fin_two.mpr ⟨?_, ?_⟩
  · show 256 * k.val + 256 ≤ 4096; omega
  · show cond d 4096 0 + cond u 2048 0 + 2048 ≤ 8192; cases d <;> cases u <;> decide
abbrev pieceR (k : Dev nD) (d u : Bool) : Rect S4096x8192 :=
  Rect.unit (s := S4096x8192) (pieceOff k d u) S256x2048.size (pieceOff_inb k d u)
/-- The piece of an array of the whole shape. -/
def pieceM (M : Memref sig .tc .hbm S4096x8192 .f32) (k : Dev nD) (d u : Bool) : Memref sig .tc .hbm S256x2048 .f32 :=
  M.slice (pieceR k d u) (fun _ => rfl)

theorem slice_off (M : Memref sig .tc .hbm S4096x8192 .f32) {o o' : Fin 2 → Nat} (h : o = o')
    (p : ∀ a, o a + S256x2048.size a ≤ S4096x8192.size a) (p' : ∀ a, o' a + S256x2048.size a ≤ S4096x8192.size a) :
    M.slice (Rect.unit (s := S4096x8192) o S256x2048.size p) (fun _ => rfl)
      = (M.slice (Rect.unit (s := S4096x8192) o' S256x2048.size p') (fun _ => rfl) : Memref sig .tc .hbm S256x2048 .f32) := by
  subst h; rfl

/-- A device's own chunk, half `d` of the columns. -/
def ownOff (k : Dev nD) (d : Bool) : Fin 2 → Nat := ![256 * k.val, cond d 4096 0]
theorem ownOff_inb (k : Dev nD) (d : Bool) : ∀ a, ownOff k d a + S256x4096.size a ≤ S4096x8192.size a := by
  have := k.isLt
  unfold nD at this
  refine Fin.forall_fin_two.mpr ⟨?_, ?_⟩
  · show 256 * k.val + 256 ≤ 4096; omega
  · show cond d 4096 0 + 4096 ≤ 8192; cases d <;> decide
abbrev ownR (k : Dev nD) (d : Bool) : Rect S4096x8192 := Rect.unit (s := S4096x8192) (ownOff k d) S256x4096.size (ownOff_inb k d)
def ownM (k : Dev nD) (d : Bool) : Memref sig .tc .hbm S256x4096 .f32 := partM.slice (ownR k d) (fun _ => rfl)
def oc {α : Type} (k : Dev nD) (d : Bool) (f : S4096x8192.Idx → α) : S256x4096.Idx → α := fun x => f ((ownR k d).emb x)

theorem slice_own (M : Memref sig .tc .hbm S4096x8192 .f32) {o o' : Fin 2 → Nat} (h : o = o')
    (p : ∀ a, o a + S256x4096.size a ≤ S4096x8192.size a) (p' : ∀ a, o' a + S256x4096.size a ≤ S4096x8192.size a) :
    M.slice (Rect.unit (s := S4096x8192) o S256x4096.size p) (fun _ => rfl)
      = (M.slice (Rect.unit (s := S4096x8192) o' S256x4096.size p') (fun _ => rfl) : Memref sig .tc .hbm S256x4096 .f32) := by
  subst h; rfl
theorem ownV_eq (c : Dev nD) (d : Bool) : ownV c d = ownM c d := by
  cases d <;> refine slice_own partM ?_ _ _
  · rw [k0_off1_eq]; rfl
  · rw [k0_off2_eq]; rfl
theorem read_own (k : Dev nD) (d : Bool) (f : S4096x8192.Idx → F .f32) : (ownM k d).view.read (Elt F) f = oc k d f := rfl
theorem set_own (k : Dev nD) (d : Bool) : (ownM k d).view.set = (ownR k d).set := View.set_slice_whole ..

theorem loadV_eq (c : Dev nD) (r : Fin 15) (d u : Bool) : loadV c r d u = pieceM partM (chunk d (r.val + 1) c) d u := by
  have hr := r.isLt
  have hc := c.isLt
  unfold nD at hc
  cases d <;> cases u <;> refine slice_off partM ?_ _ _
  · rw [k0_off3_eq, pieceOff, chunk_false]; congr 2; omega
  · rw [k0_off5_eq, pieceOff, chunk_false]; congr 2; omega
  · rw [k0_off4_eq, pieceOff, chunk_true]; congr 2; omega
  · rw [k0_off6_eq, pieceOff, chunk_true]; congr 2; omega

theorem lastV_eq (c : Dev nD) (d u : Bool) : lastV c d u = pieceM outM (chunk d 15 c) d u := by
  cases d <;> cases u <;> refine slice_off outM ?_ _ _
  · rw [k0_off7_eq, pieceOff, chunk_false]; congr 2; omega
  · rw [k0_off9_eq, pieceOff, chunk_false]; congr 2; omega
  · rw [k0_off8_eq, pieceOff, chunk_true]; congr 2; omega
  · rw [k0_off10_eq, pieceOff, chunk_true]; congr 2; omega

theorem gathV_eq (c : Dev nD) (r : Fin 15) (d u : Bool) : gathV c r d u = pieceM outM (chunk d (r.val + 16) c) d u := by
  have hr := r.isLt
  cases d <;> cases u <;> refine slice_off outM ?_ _ _
  · rw [k0_off11_eq, pieceOff, chunk_false]; congr 2; omega
  · rw [k0_off13_eq, pieceOff, chunk_false]; congr 2; omega
  · rw [k0_off12_eq, pieceOff, chunk_true]; congr 2; omega
  · rw [k0_off14_eq, pieceOff, chunk_true]; congr 2; omega

theorem outV_eq (c : Dev nD) (s : ℕ) (h : 14 ≤ s) (h' : s < 30) (d u : Bool) : outV c s d u = pieceM outM (chunk d (s + 1) c) d u := by
  unfold outV
  by_cases hs : 15 ≤ s ∧ s < 30
  · rw [dif_pos hs, gathV_eq]
    show pieceM outM (chunk d (s - 15 + 16) c) d u = _
    rw [show s - 15 + 16 = s + 1 by omega]
  · rw [dif_neg hs, lastV_eq, show s = 14 by omega]

/-- The piece of contents of the whole shape. -/
def pc {α : Type} (k : Dev nD) (d u : Bool) (f : S4096x8192.Idx → α) : S256x2048.Idx → α := fun x => f ((pieceR k d u).emb x)

theorem read_part (k : Dev nD) (d u : Bool) (f : S4096x8192.Idx → F .f32) : (pieceM partM k d u).view.read (Elt F) f = pc k d u f := rfl
theorem read_out (k : Dev nD) (d u : Bool) (f : S4096x8192.Idx → F .f32) : (pieceM outM k d u).view.read (Elt F) f = pc k d u f := rfl

theorem set_part (k : Dev nD) (d u : Bool) : (pieceM partM k d u).view.set = (pieceR k d u).set := View.set_slice_whole ..
theorem set_out (k : Dev nD) (d u : Bool) : (pieceM outM k d u).view.set = (pieceR k d u).set := View.set_slice_whole ..

/-- The column half a column belongs to. -/
theorem mem_piece (k : Dev nD) (d u : Bool) (i : S4096x8192.Idx) : i ∈ (pieceR k d u).set ↔
    (i 0).val / 256 = k.val ∧ (i 1).val / 2048 = cond d 2 0 + cond u 1 0 := by
  rw [Rect.mem_set_unit]
  refine Fin.forall_fin_two.trans ?_
  show (256 * k.val ≤ (i 0).val ∧ (i 0).val < 256 * k.val + 256) ∧
    (cond d 4096 0 + cond u 2048 0 ≤ (i 1).val ∧ (i 1).val < cond d 4096 0 + cond u 2048 0 + 2048) ↔ _
  cases d <;> cases u <;> simp only [cond_true, cond_false] <;> omega

/-- The ring step (15 to 30) at which chunk `k` passes device `c` in direction `d`. -/
theorem exists_chunk (d : Bool) (k c : Dev nD) : ∃ s ∈ Finset.Ico 14 30, chunk d (s + 1) c = k := by
  have hk := k.isLt
  have hc := c.isLt
  unfold nD at hk hc
  cases d
  · refine ⟨15 + (c.val + 16 - k.val) % 16 - (if (c.val + 16 - k.val) % 16 = 15 then 16 else 0), ?_, ?_⟩
    · rw [Finset.mem_Ico]; split <;> omega
    · apply Fin.ext; rw [chunk_false]; split <;> omega
  · refine ⟨15 + (k.val + 16 - c.val) % 16 - (if (k.val + 16 - c.val) % 16 = 15 then 16 else 0), ?_, ?_⟩
    · rw [Finset.mem_Ico]; split <;> omega
    · apply Fin.ext; rw [chunk_true]; split <;> omega

theorem chunk_inj (d : Bool) (c : Dev nD) {s s' : ℕ} (hs : s ∈ Finset.Ico 14 30) (hs' : s' ∈ Finset.Ico 14 30)
    (h : chunk d (s + 1) c = chunk d (s' + 1) c) : s = s' := by
  rw [Finset.mem_Ico] at hs hs'
  have h' := congrArg Fin.val h
  cases d
  · rw [chunk_false, chunk_false] at h'; omega
  · rw [chunk_true, chunk_true] at h'; omega

/-- The pieces of the result that the four lanes store. -/
abbrev outIx : Finset (Bool × Bool × ℕ) := Finset.univ ×ˢ Finset.univ ×ˢ Finset.Ico 14 30
abbrev outSet (c : Dev nD) (x : Bool × Bool × ℕ) : Finset S4096x8192.Idx := (pieceR (chunk x.1 (x.2.2 + 1) c) x.1 x.2.1).set

theorem outSet_cover (c : Dev nD) : outIx.biUnion (outSet c) = Finset.univ := by
  refine Finset.eq_univ_of_forall fun i => ?_
  have h0 : (i 0).val < 4096 := (i 0).isLt
  have h1 : (i 1).val < 8192 := (i 1).isLt
  obtain ⟨d, u, hdu⟩ : ∃ d u : Bool, (i 1).val / 2048 = cond d 2 0 + cond u 1 0 := by
    have : (i 1).val / 2048 = 0 ∨ (i 1).val / 2048 = 1 ∨ (i 1).val / 2048 = 2 ∨ (i 1).val / 2048 = 3 := by omega
    rcases this with h | h | h | h
    · exact ⟨false, false, h⟩
    · exact ⟨false, true, h⟩
    · exact ⟨true, false, h⟩
    · exact ⟨true, true, h⟩
  obtain ⟨s, hs, hk⟩ := exists_chunk d (⟨(i 0).val / 256, by unfold nD; omega⟩ : Dev nD) c
  refine Finset.mem_biUnion.mpr ⟨(d, u, s), ?_, ?_⟩
  · exact Finset.mem_product.mpr ⟨Finset.mem_univ _, Finset.mem_product.mpr ⟨Finset.mem_univ _, hs⟩⟩
  · show i ∈ (pieceR (chunk d (s + 1) c) d u).set
    rw [mem_piece, hk]
    exact ⟨rfl, hdu⟩

theorem outSet_disjoint (c : Dev nD) : ∀ x ∈ outIx, ∀ y ∈ outIx, x ≠ y → Disjoint (outSet c x) (outSet c y) := by
  rintro ⟨d, u, s⟩ hx ⟨d', u', s'⟩ hy hne
  have hs : s ∈ Finset.Ico 14 30 := (Finset.mem_product.mp (Finset.mem_product.mp hx).2).2
  have hs' : s' ∈ Finset.Ico 14 30 := (Finset.mem_product.mp (Finset.mem_product.mp hy).2).2
  refine Finset.disjoint_left.mpr fun i hi hi' => hne ?_
  have h := (mem_piece _ _ _ _).mp hi
  have h' := (mem_piece _ _ _ _).mp hi'
  have e : cond d 2 0 + cond u 1 0 = cond d' 2 0 + cond u' 1 0 := h.2.symm.trans h'.2
  have hd : d = d' ∧ u = u' := by revert e; clear * -; revert d u d' u'; decide
  obtain ⟨rfl, rfl⟩ := hd
  have hc : chunk d (s + 1) c = chunk d (s' + 1) c := Fin.ext (h.1.symm.trans h'.1)
  rw [chunk_inj d c hs hs' hc]

/-! ## The communication buffers' slots -/

abbrev slotRect (b u : Bool) : Rect S2x256x4096 := Rect.unit (s := S2x256x4096) (slotOff b u) S1x256x2048.size (slotOff_inb b u)
abbrev pbufRect (u : Bool) : Rect S2x256x2048 := Rect.unit (s := S2x256x2048) (pbufOff u) S1x256x2048.size (pbufOff_inb u)

theorem mem_slot (b u : Bool) (i : S2x256x4096.Idx) : i ∈ (slotRect b u).set ↔ (i 0).val = cond b 1 0 ∧ (i 2).val / 2048 = cond u 1 0 := by
  rw [Rect.mem_set_unit]
  have h1 : (i 1).val < 256 := (i 1).isLt
  refine Iff.trans (Fin.forall_fin_succ.trans (and_congr_right fun _ => Fin.forall_fin_two)) ?_
  show (cond b 1 0 ≤ (i 0).val ∧ (i 0).val < cond b 1 0 + 1) ∧ (0 ≤ (i 1).val ∧ (i 1).val < 0 + 256)
    ∧ (cond u 2048 0 ≤ (i 2).val ∧ (i 2).val < cond u 2048 0 + 2048) ↔ _
  cases b <;> cases u <;> simp only [cond_true, cond_false] <;> omega

theorem mem_pbuf (u : Bool) (i : S2x256x2048.Idx) : i ∈ (pbufRect u).set ↔ (i 0).val = cond u 1 0 := by
  rw [Rect.mem_set_unit]
  have h1 : (i 1).val < 256 := (i 1).isLt
  have h2 : (i 2).val < 2048 := (i 2).isLt
  refine Iff.trans (Fin.forall_fin_succ.trans (and_congr_right fun _ => Fin.forall_fin_two)) ?_
  show (cond u 1 0 ≤ (i 0).val ∧ (i 0).val < cond u 1 0 + 1) ∧ (0 ≤ (i 1).val ∧ (i 1).val < 0 + 256)
    ∧ (0 ≤ (i 2).val ∧ (i 2).val < 0 + 2048) ↔ _
  cases u <;> simp only [cond_true, cond_false] <;> omega

theorem slot_cover : (Finset.univ : Finset (Bool × Bool)).biUnion (fun x => (slotRect x.1 x.2).set) = Finset.univ := by
  refine Finset.eq_univ_of_forall fun i => Finset.mem_biUnion.mpr ?_
  have h0 : (i 0).val < 2 := (i 0).isLt
  have h2 : (i 2).val < 4096 := (i 2).isLt
  refine ⟨(decide ((i 0).val = 1), decide ((i 2).val / 2048 = 1)), Finset.mem_univ _, (mem_slot _ _ _).mpr ⟨?_, ?_⟩⟩
  · by_cases h : (i 0).val = 1 <;> simp only [h, decide_true, decide_false, cond_true, cond_false]; omega
  · by_cases h : (i 2).val / 2048 = 1 <;> simp only [h, decide_true, decide_false, cond_true, cond_false]; omega

theorem slot_disjoint : ∀ x ∈ (Finset.univ : Finset (Bool × Bool)), ∀ y ∈ (Finset.univ : Finset (Bool × Bool)), x ≠ y →
    Disjoint (slotRect x.1 x.2).set (slotRect y.1 y.2).set := by
  rintro ⟨b, u⟩ - ⟨b', u'⟩ - hne
  refine Finset.disjoint_left.mpr fun i hi hi' => hne ?_
  have h := (mem_slot _ _ _).mp hi
  have h' := (mem_slot _ _ _).mp hi'
  have e : cond b 1 0 = cond b' 1 0 := h.1.symm.trans h'.1
  have e' : cond u 1 0 = cond u' 1 0 := h.2.symm.trans h'.2
  clear * - e e'; revert b u b' u'; decide

theorem pbuf_cover : (Finset.univ : Finset Bool).biUnion (fun x => (pbufRect x).set) = Finset.univ := by
  refine Finset.eq_univ_of_forall fun i => Finset.mem_biUnion.mpr ?_
  have h0 : (i 0).val < 2 := (i 0).isLt
  refine ⟨decide ((i 0).val = 1), Finset.mem_univ _, (mem_pbuf _ _).mpr ?_⟩
  by_cases h : (i 0).val = 1 <;> simp only [h, decide_true, decide_false, cond_true, cond_false]; omega

theorem pbuf_disjoint : ∀ x ∈ (Finset.univ : Finset Bool), ∀ y ∈ (Finset.univ : Finset Bool), x ≠ y →
    Disjoint (pbufRect x).set (pbufRect y).set := by
  rintro u - u' - hne
  refine Finset.disjoint_left.mpr fun i hi hi' => hne ?_
  have e : cond u 1 0 = cond u' 1 0 := ((mem_pbuf _ _).mp hi).symm.trans ((mem_pbuf _ _).mp hi')
  clear * - e; revert u u'; decide

theorem set_comm (d b u : Bool) : (commV d b u).view.set = ((commM d).view.slice (slotRect b u)).set := View.set_reshape ..
theorem set_pbuf (d u : Bool) : (pbufV d u).view.set = ((pbufM d).view.slice (pbufRect u)).set := View.set_reshape ..

theorem read_comm (d b u : Bool) (f : (commM d).view.ty.Contents (Elt F)) :
    (commV d b u).view.read (Elt F) f = shapeCast S256x2048 (((commM d).view.slice (slotRect b u)).read (Elt F) f) shapeCasts_S1x256x2048_S256x2048 := rfl
theorem read_pbuf (d u : Bool) (f : (pbufM d).view.ty.Contents (Elt F)) :
    (pbufV d u).view.read (Elt F) f = shapeCast S256x2048 (((pbufM d).view.slice (pbufRect u)).read (Elt F) f) shapeCasts_S1x256x2048_S256x2048 := rfl

/-! ## The accumulations as functions of the halves -/

/-- The scaled and clamped sum. -/
def fin (z : F .f32) {s : Shape} (a p : FVec F s .f32) : FVec F s .f32 :=
  maximumf (mulf (addf a p) (broadcast s z)) (broadcast s (Scalar.ofBits .f32 0x00000000#32))

theorem pay2_eq (a p : Vec F S1x256x2048 .f32) : shapeCast S256x2048 (k0_pay2 a p) shapeCasts_S1x256x2048_S256x2048
    = addf (shapeCast S256x2048 a shapeCasts_S1x256x2048_S256x2048) (shapeCast S256x2048 p shapeCasts_S1x256x2048_S256x2048) :=
  shapeCast_shapeCast _ _ _
theorem pay72_eq (z : F .f32) (a p : Vec F S1x256x2048 .f32) : shapeCast S256x2048 (k0_pay72 z a p) shapeCasts_S1x256x2048_S256x2048
    = fin z (shapeCast S256x2048 a shapeCasts_S1x256x2048_S256x2048) (shapeCast S256x2048 p shapeCasts_S1x256x2048_S256x2048) :=
  shapeCast_shapeCast _ _ _

theorem pc_addf (k : Dev nD) (d u : Bool) (f g : FVec F S4096x8192 .f32) : pc k d u (addf f g) = addf (pc k d u f) (pc k d u g) := rfl
theorem pc_fin (k : Dev nD) (d u : Bool) (z : F .f32) (f g : FVec F S4096x8192 .f32) :
    pc k d u (fin z f g) = fin z (pc k d u f) (pc k d u g) := rfl

end Cert.KernelIdeal.Ring

end
-- ==== Proof.Sched.lean ====
/-
  The protocol of the ring. A CELL is a semaphore of the body on a device; its ROUNDS are the uses of the semaphore, one
  after another; each round is paid by one party (the barrier's by two) and hands the owner a payload:

  - the barrier: each neighbour says that its credit cells are open;
  - a credit cell: the neighbour ahead hands over a free half slot of its own buffer and says that its receive cell is ready;
  - a receive cell: the neighbour behind has written the half slot, and says that its credit cell is ready for the next round;
  - a send, a load, a store cell: the device's own transfer is over, and its operands come back.

  Payloads name the contents. `W d c s` is the array whose chunk number `chunk d s c` sits in direction `d`'s slot of device
  `c` when ring step `s` begins.
-/
module

public import proofs.«01_k».proof.Proof.Views
public import Idealize.ShloMosaic.Lib.Pipeline.Kit
public import Idealize.ShloMosaic.Lib.Pipeline.RegionTalk
public import Idealize.ShloMosaic.Lib.Rounds
public import Idealize.ShloMosaic.Lib.Memref
public import Idealize.ShloMosaic.Lib.MemrefSat
public import Mathlib.Tactic.DeriveFintype

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy of the rounds and the ring's -/

abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-! ## Cells -/

/-- The semaphores of the body: `cred`, `recv`, `send`, `store` by direction, slot and half, `load` by direction and half. -/
inductive Cell
  | bar
  | cred (d b u : Bool)
  | recv (d b u : Bool)
  | send (d b u : Bool)
  | load (d u : Bool)
  | store (d b u : Bool)
  deriving DecidableEq, Fintype

def Cell.sem : Cell → SemLoc sig
  | .bar => .reg barS
  | .cred d b u => .reg (credS d b u)
  | .recv d b u => .dma (recvS d b u)
  | .send d b u => .dma (sendS d b u)
  | .load d u => .dma (loadS d u)
  | .store d b u => .dma (storeS d b u)

/-- Which of four a number is, as two bits. -/
def bit1 (n : ℕ) : Bool := decide (n % 2 = 1)
def bit2 (n : ℕ) : Bool := decide (n / 2 % 2 = 1)

/-- The cell of a semaphore. -/
def decode : SemLoc sig → Option Cell
  | .reg n => if n.val < 8 then some (.cred (decide (4 ≤ n.val)) (bit2 n.val) (bit1 n.val)) else some .bar
  | .dma n =>
    if n.val < 2 then none
    else if n.val < 6 then some (.send false (bit2 (n.val - 2)) (bit1 (n.val - 2)))
    else if n.val < 10 then some (.recv false (bit2 (n.val - 6)) (bit1 (n.val - 6)))
    else if n.val < 14 then some (.send true (bit2 (n.val - 10)) (bit1 (n.val - 10)))
    else if n.val < 18 then some (.recv true (bit2 (n.val - 14)) (bit1 (n.val - 14)))
    else if n.val < 20 then some (.load false (bit1 (n.val - 18)))
    else if n.val < 22 then some (.load true (bit1 (n.val - 20)))
    else if n.val < 26 then some (.store false (bit2 (n.val - 22)) (bit1 (n.val - 22)))
    else some (.store true (bit2 (n.val - 26)) (bit1 (n.val - 26)))

theorem decode_sem : ∀ k : Cell, decode k.sem = some k := by decide +kernel

theorem sem_inj : Function.Injective Cell.sem := fun k k' h => by
  have e := congrArg decode h
  rw [decode_sem, decode_sem] at e
  exact Option.some.inj e

/-- Device `c`'s cell. -/
abbrev gc (c : Dev nD) (k : Cell) : GSem nD τ sig := ((c : Thread nD τ), k.sem)

/-! ## Contents -/

section

variable (PB : Dev nD → FVec F S4096x8192 .f32) (Z : Dev nD → F .f32)

/-- What direction `d`'s slot of device `c` carries at ring step `s`: the running sum, from step 15 on the finished result. -/
def W (d : Bool) : ℕ → Dev nD → FVec F S4096x8192 .f32
  | 0, c => PB c
  | s + 1, c => if s < 14 then addf (W d s (prv c d)) (PB c) else if s = 14 then fin (Z c) (W d s (prv c d)) (PB c) else W d s (prv c d)

/-- The half slot's contents at ring step `s`. -/
def val (d u : Bool) (s : ℕ) (c : Dev nD) : FVec F S256x2048 .f32 := pc (chunk d s c) d u (W PB Z d s c)

/-- The partial product's piece that lane `(d, u)` adds at ring step `r`. -/
def add (d u : Bool) (r : ℕ) (c : Dev nD) : FVec F S256x2048 .f32 := pc (chunk d (r + 1) c) d u (PB c)

theorem val_acc (d u : Bool) (s : ℕ) (c : Dev nD) (h : s < 14) : val PB Z d u (s + 1) c = addf (val PB Z d u s (prv c d)) (add PB d u s c) := by
  unfold val add; rw [W, if_pos h]; rfl
theorem val_fin (d u : Bool) (c : Dev nD) : val PB Z d u 15 c = fin (Z c) (val PB Z d u 14 (prv c d)) (add PB d u 14 c) := by
  unfold val add; rw [W, if_neg (by decide), if_pos rfl]; rfl
theorem val_pass (d u : Bool) (s : ℕ) (c : Dev nD) (h : 15 ≤ s) : val PB Z d u (s + 1) c = val PB Z d u s (prv c d) := by
  unfold val; rw [W, if_neg (by omega), if_neg (by omega)]; rfl

end

/-! ## Rounds -/

/-- The ring step at which slot `b` is written for the `r`-th time. -/
def stepR (b : Bool) (r : ℕ) : ℕ := 2 * r + cond b 0 1

theorem stepR_par (s : ℕ) : stepR (!par s) (s / 2) = s := by
  unfold stepR; rw [par_eq]
  rcases Nat.mod_two_eq_zero_or_one s with h | h <;> simp only [h, decide_true, zero_ne_one, decide_false, Bool.not_true, Bool.not_false, cond_true, cond_false] <;> omega

/-- How many rounds a cell has. -/
def Cell.rounds : Cell → ℕ
  | .bar => 1
  | .cred .. => 15
  | .recv .. => 15
  | .send .. => 15
  | .load _ u => cond u 15 16
  | .store .. => 8

/-- The round of a load cell at which ring step `r` loads: half 0's first round is the load of the own chunk. -/
def loadR (u : Bool) (r : ℕ) : ℕ := cond u r (r + 1)

/-- The units of one half slot, one partial-sum slot, one whole slot, one piece of the result. -/
def NC (d : Bool) : ℕ := (commV d false false).view.dmaCredit
def NP (d : Bool) : ℕ := (pbufV d false).view.dmaCredit
def NW (d : Bool) : ℕ := (commW d).view.dmaCredit
def NO : ℕ := (pieceM outM 0 false false).view.dmaCredit

theorem NC_eq (d b u : Bool) : (commV d b u).view.dmaCredit = NC d := rfl
theorem NP_eq (d u : Bool) : (pbufV d u).view.dmaCredit = NP d := rfl
theorem NW_eq (d : Bool) : (commW d).view.dmaCredit = NW d := rfl
theorem NO_eq (k : Fin 16) (d u : Bool) : (pieceM outM k d u).view.dmaCredit = NO := rfl
theorem NC_pos (d : Bool) : 0 < NC d := View.dmaCredit_pos _ (Shape.numel_pos (by decide))
theorem NP_pos (d : Bool) : 0 < NP d := View.dmaCredit_pos _ (Shape.numel_pos (by decide))
theorem NW_pos (d : Bool) : 0 < NW d := View.dmaCredit_pos _ (Shape.numel_pos (by decide))
theorem NO_pos : 0 < NO := View.dmaCredit_pos _ (Shape.numel_pos (by decide))

attribute [irreducible] NC NP NW NO

/-- The units of a round. -/
def Cell.units : Cell → ℕ → ℕ
  | .bar, _ => 1
  | .cred .., _ => 1
  | .recv d .., _ => NC d
  | .send d .., _ => NC d
  | .load d u, r => if u = false ∧ r = 0 then NW d else NP d
  | .store .., _ => NO

theorem Cell.units_pos (k : Cell) (r : ℕ) : 0 < k.units r := by
  unfold Cell.units
  split
  · exact Nat.one_pos
  · exact Nat.one_pos
  · exact NC_pos _
  · exact NC_pos _
  · split
    · exact NW_pos _
    · exact NP_pos _
  · exact NO_pos

def Cell.duties (k : Cell) (r : ℕ) : Finset Bool :=
  if r < k.rounds then (match k with | .bar => Finset.univ | _ => {false}) else ∅

section

variable (PB : Dev nD → FVec F S4096x8192 .f32) (Z : Dev nD → F .f32)

/-- A part of a device's partial product. -/
def partS (c : Dev nD) (S : Finset S4096x8192.Idx) : sProp 𝕄 := partM.view.loc (c : Thread nD τ) ↦[S]{fullShare} PB c
abbrev partP (c : Dev nD) (d u : Bool) (s : ℕ) : sProp 𝕄 := partS PB c (pieceR (chunk d s c) d u).set
/-- A device's piece of the result at its contents. -/
abbrev outP (c : Dev nD) (d u : Bool) (s : ℕ) : sProp 𝕄 :=
  owns (c : Thread nD τ) (pieceM outM (chunk d s c) d u) fullShare (val PB Z d u s c)
/-- The own chunk in slot 0 of the buffer and in the partial product. -/
abbrev ownP (c : Dev nD) (d : Bool) : sProp 𝕄 :=
  iprop(owns (c : Thread nD τ) (commW d) fullShare (oc c d (PB c)) ∗ partS PB c (ownR c d).set)

theorem pointsTo_storable (l : Loc nD τ sig) (S : Finset l.ty.shape.Idx) (q : PosShare TreeShare) (f : Buf (Elt F) l) :
    BI.Storable (upEmb : UEmb _ 𝕄) (iprop(l ↦[S]{q} f) : sProp 𝕄) := inferInstance
instance partS_storable (c : Dev nD) (S : Finset S4096x8192.Idx) : BI.Storable (upEmb : UEmb _ 𝕄) (partS PB c S) :=
  pointsTo_storable (partM.view.loc (c : Thread nD τ)) S fullShare (PB c)

/-- What round `r` of device `c`'s cell hands over. -/
def pay (c : Dev nD) : Cell → ℕ → Bool → sProp 𝕄
  | .bar, _, d => iprop(reached ER (gc (prv c d) (.cred d false false)) 0 ∗ reached ER (gc (prv c d) (.cred d false true)) 0
      ∗ reached ER (gc (prv c d) (.cred d true false)) 0 ∗ reached ER (gc (prv c d) (.cred d true true)) 0)
  | .cred d b u, r, _ => iprop((∃ X, owns (nxt c d : Thread nD τ) (commV d b u) fullShare X) ∗ reached ER (gc (nxt c d) (.recv d b u)) r)
  | .recv d b u, r, _ => iprop(owns (c : Thread nD τ) (commV d b u) fullShare (val PB Z d u (stepR b r) (prv c d))
      ∗ reached ER (gc (prv c d) (.cred d b u)) (r + 1))
  | .send d b u, r, _ => owns (c : Thread nD τ) (commV d b u) fullShare.right (val PB Z d u (stepR (!b) r) c)
  | .load d false, 0, _ => ownP PB c d
  | .load d false, r + 1, _ => iprop(owns (c : Thread nD τ) (pbufV d false) fullShare (add PB d false r c) ∗ partP PB c d false (r + 1))
  | .load d true, r, _ => iprop(owns (c : Thread nD τ) (pbufV d true) fullShare (add PB d true r c) ∗ partP PB c d true (r + 1))
  | .store d b u, r, _ => iprop(outP PB Z c d u (14 + stepR b r + 1)
      ∗ owns (c : Thread nD τ) (commV d b u) fullShare.left (val PB Z d u (14 + stepR b r + 1) c))

instance pay_storable (c : Dev nD) (k : Cell) (r : ℕ) (x : Bool) : BI.Storable (upEmb : UEmb _ 𝕄) (pay PB Z c k r x) := by
  cases k with
  | load d u => cases u <;> cases r <;> (unfold pay; infer_instance)
  | _ => unfold pay; infer_instance

/-- The ring's schedule. -/
def rd : Rounds.Schedule (GSem nD τ sig) Bool 𝕄 where
  duties g r := if g.1.2 = .tc then (match decode g.2 with | some k => k.duties r | none => ∅) else ∅
  unitless _ := False
  amount g r _ := match decode g.2 with | some k => k.units r | none => 1
  payload g r x := match decode g.2 with | some k => pay PB Z g.1.1 k r x | none => iprop(emp)
  amount_pos g r _ _ := by
    cases decode g.2 with
    | some k => exact k.units_pos r
    | none => exact Nat.one_pos

instance rd_storable (g : GSem nD τ sig) (r : ℕ) (x : Bool) : BI.Storable (upEmb : UEmb _ 𝕄) ((rd PB Z).payload g r x) := by
  show BI.Storable upEmb (match decode g.2 with | some k => pay PB Z g.1.1 k r x | none => iprop(emp))
  cases decode g.2 <;> infer_instance

variable (c : Dev nD) (k : Cell) (r : ℕ) (x : Bool)

theorem rd_duties : (rd PB Z).duties (gc c k) r = k.duties r := by
  show (if (Proc.tc : Proc τ) = .tc then (match decode k.sem with | some k => k.duties r | none => ∅) else ∅) = _
  rw [if_pos rfl, decode_sem]
theorem rd_amount : (rd PB Z).amount (gc c k) r x = k.units r := by
  show (match decode k.sem with | some k => k.units r | none => 1) = _
  rw [decode_sem]
theorem rd_payload : (rd PB Z).payload (gc c k) r x = pay PB Z c k r x := by
  show (match decode k.sem with | some k => pay PB Z c k r x | none => iprop(emp)) = _
  rw [decode_sem]

theorem duties_one (h : r < k.rounds) (hk : k ≠ .bar) : k.duties r = {false} := by
  unfold Cell.duties; rw [if_pos h]; cases k <;> first | exact absurd rfl hk | rfl
theorem duties_later (h : k.rounds ≤ r) : k.duties r = ∅ := by
  unfold Cell.duties; rw [if_neg (by omega)]

theorem rd_mem (h : r < k.rounds) (hk : k ≠ .bar) : false ∈ (rd PB Z).duties (gc c k) r := by
  rw [rd_duties, duties_one k r h hk]; exact Finset.mem_singleton_self _
theorem rd_expect (h : r < k.rounds) (hk : k ≠ .bar) : (rd PB Z).expect (gc c k) r = k.units r := by
  unfold Schedule.expect Schedule.amountOf; rw [rd_duties, duties_one k r h hk, Finset.sum_singleton, rd_amount]
theorem rd_rest (h : r < k.rounds) (hk : k ≠ .bar) :
    bigSep ((rd PB Z).duties (gc c k) r \ ∅) (fun x => (rd PB Z).payload (gc c k) r x) = pay PB Z c k r false := by
  rw [Finset.sdiff_empty, rd_duties, duties_one k r h hk, bigSep_singleton, rd_payload]

theorem rd_expect_bar : (rd PB Z).expect (gc c .bar) 0 = 2 := by
  unfold Schedule.expect Schedule.amountOf; rw [rd_duties]
  show ∑ x ∈ (Finset.univ : Finset Bool), _ = 2
  rw [Fintype.sum_bool, rd_amount, rd_amount]; rfl
theorem rd_rest_bar : bigSep ((rd PB Z).duties (gc c .bar) 0 \ ∅) (fun x => (rd PB Z).payload (gc c .bar) 0 x)
    = iprop(pay PB Z c .bar 0 true ∗ pay PB Z c .bar 0 false) := by
  rw [Finset.sdiff_empty, rd_duties]
  show bigSep (Finset.univ : Finset Bool) _ = _
  rw [show (Finset.univ : Finset Bool) = {true, false} from rfl, bigSep_insert (by decide), bigSep_singleton, rd_payload, rd_payload]
  rfl

end

/-! ## What a device owes, and the levels -/

/-- Device `c`'s payments at phase `t = 2 s + u` in direction `d`: the credit for step `s` and the transfer of step `s`. -/
def credT (c : Dev nD) (t : ℕ) (d : Bool) : CellTallies nD τ sig ℕ := tallyAt (gc (prv c d) (.cred d (!par (t / 2)) (bit1 t))) t 1
def recvT (c : Dev nD) (t : ℕ) (d : Bool) : CellTallies nD τ sig ℕ := tallyAt (gc (nxt c d) (.recv d (!par (t / 2)) (bit1 t))) t (NC d)

/-- What is owed when the credits from phase `a` on and the transfers from phase `b` on are to come. -/
def Ow (c : Dev nD) (a b : ℕ) : CellTallies nD τ sig ℕ :=
  (∑ t ∈ Finset.Ico a 60, (credT c t true + credT c t false)) + ∑ t ∈ Finset.Ico b 60, (recvT c t true + recvT c t false)

theorem Ow_cred (c : Dev nD) (a b : ℕ) (h : a < 60) : Ow c a b = (Ow c (a + 1) b + credT c a true) + credT c a false := by
  unfold Ow; rw [Finset.sum_eq_sum_Ico_succ_bot h]; abel
theorem Ow_recv (c : Dev nD) (a b : ℕ) (h : b < 60) : Ow c a b = (Ow c a (b + 1) + recvT c b true) + recvT c b false := by
  unfold Ow; rw [Finset.sum_eq_sum_Ico_succ_bot h]; abel
theorem Ow_end (c : Dev nD) (a b : ℕ) (ha : 60 ≤ a) (hb : 60 ≤ b) : Ow c a b = 0 := by
  unfold Ow; rw [Finset.Ico_eq_empty (by omega), Finset.Ico_eq_empty (by omega), Finset.sum_empty, Finset.sum_empty, add_zero]

def L (g : GSem nD τ sig) : Finset ℕ := if g.1.2 = .tc then Finset.range 60 else ∅
/-- A phase's credits lie below its transfers, and those below the next phase's credits. -/
def lvC : Option Cell → ℕ → ℕ
  | some .bar, _ => 1
  | some (.cred ..), t => 2 * t + 2
  | some (.recv ..), t => 2 * t + 3
  | _, _ => 0
def lv (g : GSem nD τ sig) (t : ℕ) : ℕ := lvC (decode g.2) t

theorem L_of_ne (g : GSem nD τ sig) (h : g.1.2 ≠ .tc) : L g = ∅ := if_neg h
theorem L_tc (c : Dev nD) (sm : SemLoc sig) : L ((c : Thread nD τ), sm) = Finset.range 60 := if_pos rfl
theorem lv_gc (c : Dev nD) (k : Cell) (t : ℕ) : lv (gc c k) t = lvC (some k) t := by unfold lv; rw [decode_sem]

theorem Ow_pos {c : Dev nD} {a b : ℕ} {g : GSem nD τ sig} {i : ℕ} (h : 0 < Ow c a b g i) :
    i < 60 ∧ ((∃ (c' : Dev nD) (d b' u : Bool), g = gc c' (.cred d b' u) ∧ a ≤ i) ∨ ∃ (c' : Dev nD) (d b' u : Bool), g = gc c' (.recv d b' u) ∧ b ≤ i) := by
  rcases Pipeline.add_pos_cases h with h | h
  · obtain ⟨t, ht, h⟩ := Pipeline.sum_pos_exists h
    rw [Finset.mem_Ico] at ht
    rcases Pipeline.add_pos_cases h with h | h <;> obtain ⟨hg, hi⟩ := Pipeline.tallyAt_pos h
    all_goals exact ⟨by omega, .inl ⟨_, _, _, _, hg, by omega⟩⟩
  · obtain ⟨t, ht, h⟩ := Pipeline.sum_pos_exists h
    rw [Finset.mem_Ico] at ht
    rcases Pipeline.add_pos_cases h with h | h <;> obtain ⟨hg, hi⟩ := Pipeline.tallyAt_pos h
    all_goals exact ⟨by omega, .inr ⟨_, _, _, _, hg, by omega⟩⟩

/-- A wait whose level is below all that is to come. -/
theorem mayWait_Ow (c : Dev nD) (k : Cell) (i a b : ℕ) (hi : i < 60) (ha : lvC (some k) i < 2 * a + 2) (hb : lvC (some k) i < 2 * b + 3) :
    (levAts L lv : sProp 𝕄) ⊢ MayWait (c : Thread nD τ) k.sem i (Ow c a b) :=
  Pipeline.mayWait_of_levAts (by rw [L_tc]; exact Finset.mem_range.mpr hi) fun g j hg => by
    obtain ⟨hj, h | h⟩ := Ow_pos hg
    · obtain ⟨c', d, b', u, rfl, hj'⟩ := h
      refine ⟨by rw [L_tc]; exact Finset.mem_range.mpr hj, ?_⟩
      rw [lv_gc, lv_gc]; simp only [lvC]; simp only [lvC] at ha; omega
    · obtain ⟨c', d, b', u, rfl, hj'⟩ := h
      refine ⟨by rw [L_tc]; exact Finset.mem_range.mpr hj, ?_⟩
      rw [lv_gc, lv_gc]; simp only [lvC]; simp only [lvC] at hb; omega

end Cert.KernelIdeal.Ring

end
-- ==== Proof.Atoms.lean ====
/-
  The steps of the body, one rule each.
-/
module

public import proofs.«01_k».proof.Proof.Sched

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (PB : Dev nD → FVec F S4096x8192 .f32) (Z : Dev nD → F .f32) (K : GSem nD τ sig → ℕ) (c : Dev nD)

/-- The programs of a list run on device `c`. -/
def WP (l : List (P F)) (Q : PUnit → sProp 𝕄) : sProp 𝕄 := wp frame (wpE (defs₀ (F := F)) 𝒱₀ (c : Thread nD τ) none) Set.univ (runL l) Q

/-- What a device owes, at whatever waits it has recorded. -/
def Owe (O : CellTallies nD τ sig ℕ) : sProp 𝕄 := iprop(∃ W, owes (c : Thread nD τ) O W)

/-- Every cell's invariant and the levels: what every step may use. -/
def Ctx : sProp 𝕄 :=
  iprop((bigSep Finset.univ fun x : Dev nD × Cell => cellInv ER (rd PB Z) (K (gc x.1 x.2)) (gc x.1 x.2)) ∗ levAts L lv)
instance Ctx_persistent : BI.Persistent (Ctx PB Z K) := by unfold Ctx; infer_instance

theorem inv_at (k : Cell) : (bigSep Finset.univ fun x : Dev nD × Cell => (cellInv ER (rd PB Z) (K (gc x.1 x.2)) (gc x.1 x.2) : sProp 𝕄))
    ⊢ cellInv ER (rd PB Z) (K (gc c k)) (gc c k) :=
  bigSep_elim (Φ := fun x : Dev nD × Cell => cellInv ER (rd PB Z) (K (gc x.1 x.2)) (gc x.1 x.2)) (Finset.mem_univ (c, k))
theorem ctx_inv (k : Cell) : Ctx PB Z K ⊢ cellInv ER (rd PB Z) (K (gc c k)) (gc c k) := by
  unfold Ctx
  iintro ⟨H, -⟩
  iapply (inv_at PB Z K c k)
  iexact H
theorem ctx_lev : Ctx PB Z K ⊢ levAts L lv := by
  unfold Ctx
  iintro ⟨-, H⟩
  iexact H

set_option maxRecDepth 20000 in
theorem ctx_wait (k : Cell) (i a b : ℕ) (hi : i < 60) (ha : lvC (some k) i < 2 * a + 2) (hb : lvC (some k) i < 2 * b + 3) :
    Ctx PB Z K ⊢ (MayWait (c : Thread nD τ) k.sem i (Ow c a b) : sProp 𝕄) :=
  (ctx_lev PB Z K).trans (@mayWait_Ow F _ c k i a b hi ha hb)

/-- The phase of half `u` of ring step `s`. -/
def ph (s : ℕ) (u : Bool) : ℕ := 2 * s + cond u 1 0
theorem ph_half (s : ℕ) (u : Bool) : ph s u / 2 = s := by unfold ph; cases u <;> simp only [cond_true, cond_false] <;> omega
theorem ph_bit (s : ℕ) (u : Bool) : bit1 (ph s u) = u := by
  unfold bit1 ph; cases u <;> simp only [cond_true, cond_false]
  · exact decide_eq_false (by omega)
  · exact decide_eq_true (by omega)
theorem credT_ph (s : ℕ) (u d : Bool) : credT c (ph s u) d = tallyAt (gc (prv c d) (.cred d (!par s) u)) (ph s u) 1 := by
  unfold credT; rw [ph_half, ph_bit]
theorem recvT_ph (s : ℕ) (u d : Bool) : recvT c (ph s u) d = tallyAt (gc (nxt c d) (.recv d (!par s) u)) (ph s u) (NC d) := by
  unfold recvT; rw [ph_half, ph_bit]

theorem runL_op (w : TpuEff nD τ sig (Elt F) Λ₀ .tc PUnit) (l : List (P F)) : runL (Prog.lift w :: l) = .op w fun _ => runL l := rfl

/-- A position on a cell at the start of round `r`. -/
def at' (k : Cell) (r : ℕ) : sProp 𝕄 := iprop(atPos ER (gc c k) r ∅ 0 ∗ reached ER (gc c k) r)

/-! ## Waits -/

/-- A wait for all of one round of a one-party cell. -/
theorem wait (k : Cell) (r i a b : ℕ) (hk : k ≠ .bar) (hr : r < k.rounds)
    (hi : i < 60) (ha : lvC (some k) i < 2 * a + 2) (hb : lvC (some k) i < 2 * b + 3)
    (w : TpuEff nD τ sig (Elt F) Λ₀ .tc PUnit)
    (hw : ∀ Φ : PUnit → sProp 𝕄, wpE (defs₀ (F := F)) 𝒱₀ (c : Thread nD τ) none Set.univ w Φ = waitSpec (c : Thread nD τ) Set.univ k.sem (k.units r) Φ)
    (l : List (P F)) (Q : PUnit → sProp 𝕄) :
    iprop(Ctx PB Z K ∗ cred (tallyAt (gc c k) i (k.units r)) ∗ Owe c (Ow c a b) ∗ at' c k r)
      ⊢ iprop((Owe c (Ow c a b) ∗ at' c k (r + 1) ∗ pay PB Z c k r false -∗ WP c l Q) -∗ WP c (Prog.lift w :: l) Q) := by
  unfold WP Owe at'
  rw [runL_op]
  iintro ⟨#HC, Hc, ⟨%W, HO⟩, Hp, -⟩ Hk
  iapply (Rounds.wp_wait_rest_token 𝒱₀ ER (rd PB Z) (c : Thread nD τ) none (κ := K (gc c k)) hw (Set.mem_univ _) i
      (O := Ow c a b) (W := W) (R := r) (m := 0) (T := ∅) ((Nat.zero_add _).trans (rd_expect PB Z c k r hr hk).symm)) $$ [Hc HO Hp]
  · isplitr; · iapply (ctx_inv PB Z K c k); iexact HC
    isplitl [Hc]; · iexact Hc
    isplitl [HO]; · iexact HO
    isplitr; · iapply (ctx_wait PB Z K c k i a b hi ha hb); iexact HC
    iexact Hp
  iintro ⟨HO, Hp, Hr, Hpay⟩
  ihave Hpay := (Entails.of_eq (rd_rest PB Z c k r hr hk)) $$ Hpay
  iapply Hk
  isplitl [HO]; · iexists _; iexact HO
  isplitr [Hpay]
  · isplitl [Hp]; · iexact Hp
    iexact Hr
  iexact Hpay

/-! ## Signals -/

theorem semSignalWord_eq (c' : Dev nD) (s : Sem sig) :
    (semSignalWord c' s 1#32 : P F) = Prog.lift (.semSignal (c' : Thread nD τ) s ((1 : ℕ) : ℤ)) := by
  unfold semSignalWord
  rw [show (1#32).toInt = ((1 : ℕ) : ℤ) from by decide]
  rfl
theorem semWaitWord_one (s : Sem sig) : (semWaitWord s 1#32 : P F) = Prog.lift (.semWait s ((1 : ℕ) : ℤ)) := by
  unfold semWaitWord
  rw [show (1#32).toInt = ((1 : ℕ) : ℤ) from by decide]
  rfl
theorem semWaitWord_two (s : Sem sig) : (semWaitWord s 2#32 : P F) = Prog.lift (.semWait s ((2 : ℕ) : ℤ)) := by
  unfold semWaitWord
  rw [show (2#32).toInt = ((2 : ℕ) : ℤ) from by decide]
  rfl

/-- A signal that pays one round of a one-party cell of another device. -/
theorem signal (c' : Dev nD) (s : Sem sig) (k : Cell) (hs : k.sem = .reg s) (r i : ℕ) (x : Bool) (hx : x ∈ k.duties r) (hu : k.units r = 1)
    (O : CellTallies nD τ sig ℕ) (l : List (P F)) (Q : PUnit → sProp 𝕄) :
    iprop(Ctx PB Z K ∗ Owe c (O + tallyAt (gc c' k) i 1) ∗ dutyTok ER (gc c' k) r x ∗ pay PB Z c' k r x ∗ reached ER (gc c' k) r)
      ⊢ iprop((Owe c O -∗ WP c l Q) -∗ WP c (semSignalWord c' s 1#32 :: l) Q) := by
  unfold WP Owe
  rw [semSignalWord_eq, runL_op]
  iintro ⟨#HC, ⟨%W, HO⟩, Ht, Hpay, Hr⟩ Hk
  have hd : x ∈ (rd PB Z).duties ((c' : Thread nD τ), SemLoc.reg s) r := by rw [← hs]; rw [rd_duties]; exact hx
  have ha : (rd PB Z).amount ((c' : Thread nD τ), SemLoc.reg s) r x = 1 := by rw [← hs]; rw [rd_amount]; exact hu
  iapply (Rounds.wp_signal 𝒱₀ ER (rd PB Z) (c : Thread nD τ) none (dst := (c' : Thread nD τ)) (sem := s) (r := r) (d := x) (κ := K (gc c' k))
      hd ha i (O₀ := O + tallyAt (gc c' k) i 1) O (by rw [← hs]) (W := W)) $$ [HO Ht Hpay Hr]
  · rw [← hs]
    isplitr; · iapply (ctx_inv PB Z K c' k); iexact HC
    isplitl [HO]; · iexact HO
    isplitl [Ht]; · iexact Ht
    isplitl [Hpay]
    · rw [rd_payload]; iexact Hpay
    iexact Hr
  iintro HO
  iapply Hk
  iexists _; iexact HO

/-! ## Transfers -/

theorem owns_written {sp : Space} {sh : Shape} (m : Memref sig .tc sp sh .f32) (X : sh.Idx → F .f32)
    (f : Buf (Elt F) (m.view.loc (c : Thread nD τ))) :
    (m.view.loc (c : Thread nD τ) ↦[m.view.set]{fullShare} m.view.write (Elt F) f X Finset.univ : sProp 𝕄)
      ⊢ owns (c : Thread nD τ) m fullShare X := by
  unfold owns
  iintro H
  iexists (m.view.write (Elt F) f X Finset.univ)
  isplitr
  · ipureintro; exact View.read_write_univ ..
  iexact H

theorem pay_send (s : ℕ) (d u x : Bool) :
    pay PB Z c (.send d (par s) u) (s / 2) x = (owns (c : Thread nD τ) (commV d (par s) u) fullShare.right (val PB Z d u s c) : sProp 𝕄) := by
  show (owns (c : Thread nD τ) (commV d (par s) u) fullShare.right (val PB Z d u (stepR (!par s) (s / 2)) c) : sProp 𝕄) = _
  rw [stepR_par]
theorem pay_recv (s : ℕ) (d u x : Bool) :
    pay PB Z c (.recv d (!par s) u) (s / 2) x = iprop(owns (c : Thread nD τ) (commV d (!par s) u) fullShare (val PB Z d u s (prv c d))
      ∗ reached ER (gc (prv c d) (.cred d (!par s) u)) (s / 2 + 1)) := by
  show iprop(owns (c : Thread nD τ) (commV d (!par s) u) fullShare (val PB Z d u (stepR (!par s) (s / 2)) (prv c d))
      ∗ reached ER (gc (prv c d) (.cred d (!par s) u)) (s / 2 + 1)) = _
  rw [stepR_par]
theorem pay_cred (b u d x : Bool) (r : ℕ) :
    pay PB Z c (.cred d b u) r x = iprop((∃ X, owns (nxt c d : Thread nD τ) (commV d b u) fullShare X)
      ∗ reached ER (gc (nxt c d) (.recv d b u)) r) := rfl
theorem pay_load (d u x : Bool) (r : ℕ) :
    pay PB Z c (.load d u) (loadR u r) x = iprop(owns (c : Thread nD τ) (pbufV d u) fullShare (add PB d u r c) ∗ partP PB c d u (r + 1)) := by
  cases u <;> rfl
theorem pay_own (d x : Bool) : pay PB Z c (.load d false) 0 x = ownP PB c d := rfl
theorem pay_store (s : ℕ) (h : 14 ≤ s) (d u x : Bool) :
    pay PB Z c (.store d (!par s) u) ((s - 14) / 2) x = iprop(outP PB Z c d u (s + 1)
      ∗ owns (c : Thread nD τ) (commV d (!par s) u) fullShare.left (val PB Z d u (s + 1) c)) := by
  show iprop(outP PB Z c d u (14 + stepR (!par s) ((s - 14) / 2) + 1)
      ∗ owns (c : Thread nD τ) (commV d (!par s) u) fullShare.left (val PB Z d u (14 + stepR (!par s) ((s - 14) / 2) + 1) c)) = _
  rw [show par s = par (s - 14) by rw [par_eq, par_eq]; congr 1; exact propext (by omega), stepR_par, show 14 + (s - 14) + 1 = s + 1 by omega]
theorem units_load (d u : Bool) (r : ℕ) : (Cell.load d u).units (loadR u r) = NP d := by
  show (if u = false ∧ loadR u r = 0 then NW d else NP d) = NP d
  exact if_neg fun h => by rw [h.1] at h; exact Nat.succ_ne_zero r h.2

/-- A local transfer that pays one round of an own cell. -/
theorem copy {sp sp' : Space} {sh : Shape} (src : Memref sig .tc sp sh .f32) (dst : Memref sig .tc sp' sh .f32) (S : DmaSem sig)
    (h : DmaTarget.Typed (nD := nD) sp (.dma S) (.here (p := (.tc : Proc τ)) dst))
    (k : Cell) (hs : k.sem = .dma S) (hk : k ≠ .bar) (r : ℕ) (hr : r < k.rounds) (hN : dst.view.dmaCredit = k.units r)
    (q : PosShare TreeShare) (fs : Buf (Elt F) (src.view.loc (c : Thread nD τ)))
    (hpay : iprop(owns (c : Thread nD τ) dst fullShare (src.view.read (Elt F) fs) ∗ (src.view.loc (c : Thread nD τ) ↦[src.view.set]{q} fs))
      ⊢ pay PB Z c k r false)
    (l : List (P F)) (Q : PUnit → sProp 𝕄) :
    iprop(Ctx PB Z K ∗ (src.view.loc (c : Thread nD τ) ↦[src.view.set]{q} fs) ∗ (∃ X, owns (c : Thread nD τ) dst fullShare X)
        ∗ dutyTok ER (gc c k) r false ∗ reached ER (gc c k) r)
      ⊢ iprop((cred (tallyAt (gc c k) 0 (k.units r)) -∗ WP c l Q) -∗ WP c (copyA src dst S h :: l) Q) := by
  unfold WP copyA owns
  rw [runL_op]
  iintro ⟨#HC, Hs, ⟨%X, %fd, -, Hd⟩, Ht, Hr⟩ Hk
  have hd : false ∈ (rd PB Z).duties ((c : Thread nD τ), SemLoc.dma S) r := by rw [← hs]; exact rd_mem PB Z c k r hr hk
  have ha : (rd PB Z).amount ((c : Thread nD τ), SemLoc.dma S) r false = k.units r := by rw [← hs]; rw [rd_amount]
  iapply (Rounds.wp_copy_pointsTo 𝒱₀ ER (rd PB Z) (c : Thread nD τ) none (src := src) (dst := dst) (sem := .dma S) (q := q) (fs := fs) (fd := fd)
      (r := r) (d := false) (κ := K (gc c k)) hd 0 (k.units r) hN ha (by
        rw [← hs, rd_payload]
        exact (sep_mono_left (owns_written c dst _ fd)).trans hpay)) $$ [Hs Hd Ht Hr]
  · rw [← hs]
    isplitr; · iapply (ctx_inv PB Z K c k); iexact HC
    isplitl [Hs]; · iexact Hs
    isplitl [Hd]; · iexact Hd
    isplitl [Ht]; · iexact Ht
    iexact Hr
  iintro Hc
  iapply Hk
  rw [← hs]
  iexact Hc

/-- The transfer of a half slot to the neighbour. -/
theorem send (s : ℕ) (hs : s < 30) (d u : Bool) (O : CellTallies nD τ sig ℕ) (l : List (P F)) (Q : PUnit → sProp 𝕄) :
    iprop(Ctx PB Z K ∗ owns (c : Thread nD τ) (commV d (par s) u) fullShare.right (val PB Z d u s c)
        ∗ (∃ X, owns (nxt c d : Thread nD τ) (commV d (!par s) u) fullShare X)
        ∗ reached ER (gc c (.cred d (!par s) u)) (s / 2 + 1)
        ∗ Owe c (O + recvT c (ph s u) d)
        ∗ dutyTok ER (gc c (.send d (par s) u)) (s / 2) false ∗ reached ER (gc c (.send d (par s) u)) (s / 2)
        ∗ dutyTok ER (gc (nxt c d) (.recv d (!par s) u)) (s / 2) false ∗ reached ER (gc (nxt c d) (.recv d (!par s) u)) (s / 2))
      ⊢ iprop((cred (tallyAt (gc c (.send d (par s) u)) 0 (NC d)) ∗ Owe c O -∗ WP c l Q) -∗ WP c (sendA c s d u :: l) Q) := by
  unfold WP sendA Owe owns
  rw [runL_op, recvT_ph]
  iintro ⟨#HC, ⟨%fs, %hfs, Hs⟩, ⟨%X, %fd, -, Hd⟩, Hcr, ⟨%W, HO⟩, Ht, Hr, Ht', Hr'⟩ Hk
  iapply (Rounds.wp_send_pointsTo_with 𝒱₀ ER (rd PB Z) (c : Thread nD τ) none (c' := (nxt c d : Thread nD τ)) (src := commV d (par s) u)
      (dst := commV d (!par s) u) (sS := .dma (sendS d (par s) u)) (sem := .dma (recvS d (!par s) u)) (q := fullShare.right) (fs := fs) (fd := fd)
      (F := reached ER (gc c (.cred d (!par s) u)) (s / 2 + 1)) (r₁ := s / 2) (r₂ := s / 2) (d₁ := false) (d₂ := false)
      (κ₁ := K (gc c (.send d (par s) u))) (κ₂ := K (gc (nxt c d) (.recv d (!par s) u)))
      (rd_mem PB Z c (.send d (par s) u) (s / 2) (show s / 2 < 15 by omega) (by simp))
      (rd_mem PB Z (nxt c d) (.recv d (!par s) u) (s / 2) (show s / 2 < 15 by omega) (by simp))
      (ph s u) 0 (NC d) (NC_eq d (!par s) u) (rd_amount PB Z c (.send d (par s) u) (s / 2) false)
      (rd_amount PB Z (nxt c d) (.recv d (!par s) u) (s / 2) false) O rfl (W := W)
      (by
        rw [show (rd PB Z).payload ((c : Thread nD τ), SemLoc.dma (sendS d (par s) u)) (s / 2) false = _ from
          rd_payload PB Z c (.send d (par s) u) (s / 2) false, pay_send]
        unfold owns
        iintro H
        iexists fs
        isplitr
        · ipureintro; exact hfs
        iexact H)
      (by
        rw [show (rd PB Z).payload ((nxt c d : Thread nD τ), SemLoc.dma (recvS d (!par s) u)) (s / 2) false = _ from
          rd_payload PB Z (nxt c d) (.recv d (!par s) u) (s / 2) false, pay_recv, prv_nxt, hfs]
        exact sep_mono_left (owns_written (nxt c d) (commV d (!par s) u) _ fd))) $$ [Hs Hd Hcr HO Ht Hr Ht' Hr']
  · isplitr; · iapply (ctx_inv PB Z K c (.send d (par s) u)); iexact HC
    isplitr; · iapply (ctx_inv PB Z K (nxt c d) (.recv d (!par s) u)); iexact HC
    isplitl [Hs]; · iexact Hs
    isplitl [Hd Hcr]
    · isplitl [Hd]; · iexact Hd
      iexact Hcr
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists _; iexact HO

/-! ## Accumulations -/

theorem owns_slot (d b u : Bool) (q : PosShare TreeShare) (X : FVec F S256x2048 .f32) :
    (owns (c : Thread nD τ) (commV d b u) q X : sProp 𝕄)
      = iprop(∃ f, ⌜shapeCast S256x2048 (((commM d).access (slotRect b u)).read (Elt F) f) shapeCasts_S1x256x2048_S256x2048 = X⌝
          ∗ (((commM d).access (slotRect b u)).loc (c : Thread nD τ) ↦[((commM d).access (slotRect b u)).set]{q} f)) := by
  unfold owns
  rw [set_comm]
  rfl
theorem owns_pbuf (d u : Bool) (q : PosShare TreeShare) (X : FVec F S256x2048 .f32) :
    (owns (c : Thread nD τ) (pbufV d u) q X : sProp 𝕄)
      = iprop(∃ f, ⌜shapeCast S256x2048 (((pbufM d).access (pbufRect u)).read (Elt F) f) shapeCasts_S1x256x2048_S256x2048 = X⌝
          ∗ (((pbufM d).access (pbufRect u)).loc (c : Thread nD τ) ↦[((pbufM d).access (pbufRect u)).set]{q} f)) := by
  unfold owns
  rw [set_pbuf]
  rfl

end Cert.KernelIdeal.Ring

end
-- ==== Proof.Lane.lean ====
/-
  The steps of the body on one lane (direction `d`, column half `u`), each with what it takes from the lane and what it leaves.
-/
module

public import proofs.«01_k».proof.Proof.Atoms
public import Idealize.SL.BI.BigOpNat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (PB : Dev nD → FVec F S4096x8192 .f32) (Z : Dev nD → F .f32) (K : GSem nD τ sig → ℕ) (c : Dev nD)

theorem acc_of (k : (Vec F S1x256x2048 .f32) → (Vec F S1x256x2048 .f32) → Vec F S1x256x2048 .f32)
    (g : FVec F S256x2048 .f32 → FVec F S256x2048 .f32 → FVec F S256x2048 .f32)
    (hkg : ∀ a p, shapeCast S256x2048 (k a p) shapeCasts_S1x256x2048_S256x2048
      = g (shapeCast S256x2048 a shapeCasts_S1x256x2048_S256x2048) (shapeCast S256x2048 p shapeCasts_S1x256x2048_S256x2048))
    (d b u : Bool) (X Y : FVec F S256x2048 .f32) (l : List (P F)) (Q : PUnit → sProp 𝕄) :
    iprop(owns (c : Thread nD τ) (commV d b u) fullShare X ∗ owns (c : Thread nD τ) (pbufV d u) fullShare Y)
      ⊢ iprop((owns (c : Thread nD τ) (commV d b u) fullShare (g X Y) ∗ owns (c : Thread nD τ) (pbufV d u) fullShare Y -∗ WP c l Q)
        -∗ WP c ((do
            let a : Vec F S1x256x2048 .f32 ← Prog.lift (.load (commM d) (slotRect b u).toLoadRect (View.loadsAt_vmem h_S1x256x2048))
            let p : Vec F S1x256x2048 .f32 ← Prog.lift (.load (pbufM d) (pbufRect u).toLoadRect (View.loadsAt_vmem h_S1x256x2048))
            let _ : Vec F S1x256x2048 .f32 ← Prog.lift (.load (commM d) (slotRect b u).toLoadRect (View.loadsAt_vmem h_S1x256x2048))
            Prog.lift (.store (commM d) (slotRect b u) (k a p) Finset.univ (View.stores_vmem_bits_univ h_S1x256x2048 rfl) (.inl rfl))) :: l) Q) := by
  unfold WP
  rw [owns_slot, owns_pbuf, owns_slot]
  iintro ⟨⟨%f, %hf, Hf⟩, ⟨%g', %hg, Hg⟩⟩ Hk
  simp only [runL, Prog.lift, Prog.bind_op, Prog.bind_ret, Prog.pure_eq_ret, Prog.bind_assoc]
  iapply (wp_load_rect 𝒱₀ (c : Thread nD τ) none Set.univ (m := commM d) (r := slotRect b u) (S := ((commM d).access (slotRect b u)).set) (q := fullShare) (f := f)
    subset_rfl) $$ Hf
  iintro Hf
  iapply (wp_load_rect 𝒱₀ (c : Thread nD τ) none Set.univ (m := pbufM d) (r := pbufRect u) (S := ((pbufM d).access (pbufRect u)).set) (q := fullShare) (f := g')
    subset_rfl) $$ Hg
  iintro Hg
  iapply (wp_load_rect 𝒱₀ (c : Thread nD τ) none Set.univ (m := commM d) (r := slotRect b u) (S := ((commM d).access (slotRect b u)).set) (q := fullShare) (f := f)
    subset_rfl) $$ Hf
  iintro Hf
  iapply (wp_store 𝒱₀ (c : Thread nD τ) none Set.univ (m := commM d) (r := slotRect b u) (S := ((commM d).access (slotRect b u)).set) (f := f)
    subset_rfl) $$ Hf
  iintro Hf
  iapply Hk
  isplitl [Hf]
  · iexists (((commM d).access (slotRect b u)).write (Elt F) f (k (((commM d).access (slotRect b u)).read (Elt F) f)
      (((pbufM d).access (pbufRect u)).read (Elt F) g')) Finset.univ)
    isplitr
    · ipureintro
      rw [View.read_write_univ, hkg, hf, hg]
    iexact Hf
  iexists g'
  isplitr
  · ipureintro; exact hg
  iexact Hg

/-! ## What a lane holds -/

section

variable (d u : Bool) (s : ℕ)

/-- The waits of the credit cells that are left, with the positions. -/
def Cr : sProp 𝕄 :=
  iprop((at' c (.cred d (!par s) u) (s / 2) ∗ at' c (.cred d (par s) u) ((s + 1) / 2))
    ∗ bigSep (Finset.Ico s 30) fun r => cred (tallyAt (gc c (.cred d (!par r) u)) (ph r u) 1))
/-- The waits of the receive cells that are left. -/
def Rv : sProp 𝕄 :=
  iprop((at' c (.recv d (!par s) u) (s / 2) ∗ at' c (.recv d (par s) u) ((s + 1) / 2))
    ∗ bigSep (Finset.Ico s 30) fun r => cred (tallyAt (gc c (.recv d (!par r) u)) (ph r u) (NC d)))
/-- The transfers that are left. -/
def Sd : sProp 𝕄 :=
  iprop((at' c (.send d (par s) u) (s / 2) ∗ at' c (.send d (!par s) u) ((s + 1) / 2))
    ∗ bigSep (Finset.Ico s 30) fun r => iprop(dutyTok ER (gc (nxt c d) (.recv d (!par r) u)) (r / 2) false
        ∗ dutyTok ER (gc c (.send d (par r) u)) (r / 2) false))
/-- While a transfer is under way. -/
def SdB : sProp 𝕄 :=
  iprop(cred (tallyAt (gc c (.send d (par s) u)) 0 (NC d)) ∗ (at' c (.send d (par s) u) (s / 2) ∗ at' c (.send d (!par s) u) ((s + 1) / 2))
    ∗ bigSep (Finset.Ico (s + 1) 30) fun r => iprop(dutyTok ER (gc (nxt c d) (.recv d (!par r) u)) (r / 2) false
        ∗ dutyTok ER (gc c (.send d (par r) u)) (r / 2) false))
/-- The credits to give that are left. -/
def Fr : sProp 𝕄 := bigSep (Finset.Ico s 30) fun r => dutyTok ER (gc (prv c d) (.cred d (!par r) u)) (r / 2) false
/-- The neighbour's credit cell is ready for step `s`. -/
def Rch : sProp 𝕄 := reached ER (gc (prv c d) (.cred d (!par s) u)) (s / 2)
/-- The loads that are left, the pieces not yet and those already loaded. -/
def LdT : sProp 𝕄 :=
  iprop((bigSep (Finset.Ico s 15) fun r => iprop(dutyTok ER (gc c (.load d u)) (loadR u r) false ∗ partP PB c d u (r + 1))))
def LdD : sProp 𝕄 := bigSep (Finset.range s) fun r => partP PB c d u (r + 1)
def LdR : sProp 𝕄 := iprop(at' c (.load d u) (loadR u s) ∗ LdT PB c d u s ∗ LdD PB c d u s)
def LdB : sProp 𝕄 := iprop(cred (tallyAt (gc c (.load d u)) 0 (NP d)) ∗ at' c (.load d u) (loadR u s) ∗ LdT PB c d u (s + 1) ∗ LdD PB c d u s)
/-- The partial-sum slot, at whatever contents. -/
def Pb : sProp 𝕄 := iprop(∃ X, owns (c : Thread nD τ) (pbufV d u) fullShare X)
/-- The stores to issue that are left. -/
def StT : sProp 𝕄 :=
  bigSep (Finset.Ico s 30) fun r => iprop(dutyTok ER (gc c (.store d (!par r) u)) ((r - 14) / 2) false
    ∗ ∃ X, owns (c : Thread nD τ) (pieceM outM (chunk d (r + 1) c) d u) fullShare X)
/-- The positions on the store cells before the wait for the store of step `s`, and the pieces already stored. -/
def StP : sProp 𝕄 :=
  iprop((at' c (.store d (!par s) u) ((s - 14) / 2) ∗ at' c (.store d (par s) u) ((s + 1 - 14) / 2))
    ∗ bigSep (Finset.Ico 14 s) fun r => outP PB Z c d u (r + 1))
/-- A store under way. -/
def StB : sProp 𝕄 := cred (tallyAt (gc c (.store d (!par s) u)) 0 NO)

end

/-! ## Steps -/

abbrev Post (F : FTy → Type) [FloatOps F] := PUnit → sProp (MT nD τ sig ℕ (Elt F) ℕ UU ℕ)

theorem part_src (d u : Bool) (s : ℕ) : partP PB c d u s
    ⊢ ((pieceM partM (chunk d s c) d u).view.loc (c : Thread nD τ) ↦[(pieceM partM (chunk d s c) d u).view.set]{fullShare} PB c : sProp 𝕄) := by
  rw [set_part]; exact BI.Entails.refl _

theorem par_succ_not (s : ℕ) : (!par (s + 1)) = par s := Bool.not_not _

theorem half_succ (s : ℕ) : (s + 1 + 1) / 2 = s / 2 + 1 := by omega

section

variable (d u : Bool) (s : ℕ) (a b : ℕ) (l : List (P F)) (Q : Post F)

theorem load_issue (h : s < 15) :
    iprop(Ctx PB Z K ∗ Pb c d u ∗ LdR PB c d u s) ⊢ iprop((LdB PB c d u s -∗ WP c l Q) -∗ WP c (loadA c ⟨s, h⟩ u d :: l) Q) := by
  unfold Pb LdR LdB LdT at' loadA
  rw [loadV_eq, bigSep_Ico_succ_bot h]
  iintro ⟨#HC, Hp, ⟨Ha, #Hr⟩, ⟨⟨Ht, Hs⟩, HT⟩, HD⟩ Hk
  iapply (copy PB Z K c (pieceM partM (chunk d (s + 1) c) d u) (pbufV d u) (loadS d u) _ (.load d u) rfl (by simp) (loadR u s)
    (by cases u <;> simp only [Cell.rounds, loadR, cond_true, cond_false] <;> omega) ((NP_eq d u).trans (units_load d u s).symm) fullShare (PB c)
    (by rw [pay_load, set_part]; exact BI.Entails.refl _) l Q) $$ [Hp Hs Ht]
  · isplitr; · iexact HC
    isplitl [Hs]; · iapply (part_src PB c d u (s + 1)); iexact Hs
    isplitl [Hp]; · iexact Hp
    isplitl [Ht]; · iexact Ht
    iexact Hr
  iintro Hc
  rw [units_load]
  iapply Hk
  isplitl [Hc]; · iexact Hc
  isplitl [Ha]
  · isplitl [Ha]; · iexact Ha
    iexact Hr
  isplitl [HT]; · iexact HT
  iexact HD

theorem load_wait (h : s < 15) :
    iprop(Ctx PB Z K ∗ LdB PB c d u s ∗ Owe c (Ow c a b))
      ⊢ iprop((owns (c : Thread nD τ) (pbufV d u) fullShare (add PB d u s c) ∗ LdR PB c d u (s + 1) ∗ Owe c (Ow c a b) -∗ WP c l Q)
        -∗ WP c (loadW c ⟨s, h⟩ u d :: l) Q) := by
  unfold LdR LdB LdD loadW waitA
  rw [bigSep_range_succ]
  iintro ⟨#HC, ⟨Hc, Ha, HT, HD⟩, HO⟩ Hk
  iapply (wait PB Z K c (.load d u) (loadR u s) 0 a b (by simp)
    (by cases u <;> simp only [Cell.rounds, loadR, cond_true, cond_false] <;> omega) (by omega) (by show 0 < _; omega) (by show 0 < _; omega)
    _ (fun Φ => by rw [units_load, ← NP_eq d u]; exact wpE_waitDma2_eq 𝒱₀ (c : Thread nD τ) none Set.univ Φ) l Q) $$ [Hc Ha HO]
  · isplitr; · iexact HC
    isplitl [Hc]; · rw [units_load]; iexact Hc
    isplitl [HO]; · iexact HO
    iexact Ha
  rw [pay_load]
  iintro ⟨HO, Ha, Hp, Hs⟩
  iapply Hk
  isplitl [Hp]; · iexact Hp
  isplitl [Ha HT HD Hs]
  · isplitl [Ha]
    · rw [show loadR u (s + 1) = loadR u s + 1 by cases u <;> rfl]; iexact Ha
    isplitl [HT]; · iexact HT
    isplitl [Hs]; · iexact Hs
    iexact HD
  iexact HO

theorem cred_wait (h : s < 30) (ha : ph s u < a) (hb : ph s u ≤ b) :
    iprop(Ctx PB Z K ∗ Cr c d u s ∗ Owe c (Ow c a b))
      ⊢ iprop((Cr c d u (s + 1) ∗ (∃ X, owns (nxt c d : Thread nD τ) (commV d (!par s) u) fullShare X)
          ∗ reached ER (gc (nxt c d) (.recv d (!par s) u)) (s / 2) ∗ reached ER (gc c (.cred d (!par s) u)) (s / 2 + 1)
          ∗ Owe c (Ow c a b) -∗ WP c l Q)
        -∗ WP c (credW s u d :: l) Q) := by
  unfold Cr credW
  rw [bigSep_Ico_succ_bot h, semWaitWord_one, par_succ_not, half_succ]
  iintro ⟨#HC, ⟨⟨Ha, Ha'⟩, Hc, HT⟩, HO⟩ Hk
  iapply (wait PB Z K c (.cred d (!par s) u) (s / 2) (ph s u) a b (by simp) (show s / 2 < 15 by omega)
    (by unfold ph; cases u <;> simp only [cond_true, cond_false] <;> omega)
    (by show 2 * ph s u + 2 < _; omega) (by show 2 * ph s u + 2 < _; omega)
    _ (fun Φ => wpE_semWait_eq 𝒱₀ (c : Thread nD τ) none Set.univ Φ) l Q) $$ [Hc Ha HO]
  · isplitr; · iexact HC
    isplitl [Hc]; · iexact Hc
    isplitl [HO]; · iexact HO
    iexact Ha
  rw [pay_cred]
  unfold at'
  iintro ⟨HO, ⟨Ha, #Hr⟩, Hp, Hr'⟩
  iapply Hk
  isplitl [Ha Ha' HT]
  · isplitl [Ha Ha']
    · isplitl [Ha']; · iexact Ha'
      isplitl [Ha]; · iexact Ha
      iexact Hr
    iexact HT
  isplitl [Hp]; · iexact Hp
  isplitl [Hr']; · iexact Hr'
  isplitr; · iexact Hr
  iexact HO

theorem send_issue (h : s < 30) (O : CellTallies nD τ sig ℕ) :
    iprop(Ctx PB Z K ∗ Sd c d u s ∗ owns (c : Thread nD τ) (commV d (par s) u) fullShare.right (val PB Z d u s c)
        ∗ (∃ X, owns (nxt c d : Thread nD τ) (commV d (!par s) u) fullShare X)
        ∗ reached ER (gc (nxt c d) (.recv d (!par s) u)) (s / 2) ∗ reached ER (gc c (.cred d (!par s) u)) (s / 2 + 1)
        ∗ Owe c (O + recvT c (ph s u) d))
      ⊢ iprop((SdB c d u s ∗ Owe c O -∗ WP c l Q) -∗ WP c (sendA c s d u :: l) Q) := by
  unfold Sd SdB at'
  rw [bigSep_Ico_succ_bot h]
  iintro ⟨#HC, ⟨⟨⟨Ha, #Hr⟩, Ha'⟩, ⟨Ht, Ht'⟩, HT⟩, Hs, Hd, Hr', Hcr, HO⟩ Hk
  iapply (send PB Z K c s h d u O l Q) $$ [Hs Hd Hr' Hcr HO Ht Ht']
  · isplitr; · iexact HC
    isplitl [Hs]; · iexact Hs
    isplitl [Hd]; · iexact Hd
    isplitl [Hcr]; · iexact Hcr
    isplitl [HO]; · iexact HO
    isplitl [Ht']; · iexact Ht'
    isplitr; · iexact Hr
    isplitl [Ht]; · iexact Ht
    iexact Hr'
  iintro ⟨Hc, HO⟩
  iapply Hk
  isplitr [HO]
  · isplitl [Hc]; · iexact Hc
    isplitl [Ha Ha']
    · isplitl [Ha]
      · isplitl [Ha]; · iexact Ha
        iexact Hr
      iexact Ha'
    iexact HT
  iexact HO

theorem send_wait (h : s < 30) :
    iprop(Ctx PB Z K ∗ SdB c d u s ∗ Owe c (Ow c a b))
      ⊢ iprop((Sd c d u (s + 1) ∗ owns (c : Thread nD τ) (commV d (par s) u) fullShare.right (val PB Z d u s c) ∗ Owe c (Ow c a b) -∗ WP c l Q)
        -∗ WP c (waitA (sendS d (par s) u) (commV d (!par s) u) (commV d (par s) u) :: l) Q) := by
  unfold Sd SdB waitA
  rw [par_succ_not, half_succ]
  iintro ⟨#HC, ⟨Hc, ⟨Ha, Ha'⟩, HT⟩, HO⟩ Hk
  iapply (wait PB Z K c (.send d (par s) u) (s / 2) 0 a b (by simp) (show s / 2 < 15 by omega) (by omega) (by show 0 < _; omega) (by show 0 < _; omega)
    _ (fun Φ => by
      rw [show (Cell.send d (par s) u).units (s / 2) = _ from (NC_eq d (par s) u).symm]
      exact wpE_waitDma2_eq 𝒱₀ (c : Thread nD τ) none Set.univ Φ) l Q) $$ [Hc Ha HO]
  · isplitr; · iexact HC
    isplitl [Hc]; · iexact Hc
    isplitl [HO]; · iexact HO
    iexact Ha
  rw [pay_send]
  iintro ⟨HO, Ha, Hp⟩
  iapply Hk
  isplitl [Ha Ha' HT]
  · isplitl [Ha Ha']
    · isplitl [Ha']; · iexact Ha'
      iexact Ha
    iexact HT
  isplitl [Hp]; · iexact Hp
  iexact HO

theorem recv_wait (h : s < 30) (ha : ph s u < a) (hb : ph s u < b) :
    iprop(Ctx PB Z K ∗ Rv c d u s ∗ Owe c (Ow c a b))
      ⊢ iprop((Rv c d u (s + 1) ∗ owns (c : Thread nD τ) (commV d (!par s) u) fullShare (val PB Z d u s (prv c d))
          ∗ Rch c d u (s + 2) ∗ Owe c (Ow c a b) -∗ WP c l Q)
        -∗ WP c (waitA (recvS d (!par s) u) (commV d (par s) u) (commV d (!par s) u) :: l) Q) := by
  unfold Rv Rch waitA
  rw [bigSep_Ico_succ_bot h, par_succ_not, half_succ]
  iintro ⟨#HC, ⟨⟨Ha, Ha'⟩, Hc, HT⟩, HO⟩ Hk
  iapply (wait PB Z K c (.recv d (!par s) u) (s / 2) (ph s u) a b (by simp) (show s / 2 < 15 by omega)
    (by unfold ph; cases u <;> simp only [cond_true, cond_false] <;> omega)
    (by show 2 * ph s u + 3 < _; omega) (by show 2 * ph s u + 3 < _; omega)
    _ (fun Φ => by
      rw [show (Cell.recv d (!par s) u).units (s / 2) = _ from (NC_eq d (!par s) u).symm]
      exact wpE_waitDma2_eq 𝒱₀ (c : Thread nD τ) none Set.univ Φ) l Q) $$ [Hc Ha HO]
  · isplitr; · iexact HC
    isplitl [Hc]; · iexact Hc
    isplitl [HO]; · iexact HO
    iexact Ha
  rw [pay_recv]
  iintro ⟨HO, Ha, Hp, Hr⟩
  iapply Hk
  isplitl [Ha Ha' HT]
  · isplitl [Ha Ha']
    · isplitl [Ha']; · iexact Ha'
      iexact Ha
    iexact HT
  isplitl [Hp]; · iexact Hp
  isplitl [Hr]
  · rw [par_add_two]; iexact Hr
  iexact HO

/-- The credit for step `s`. -/
theorem cred_give (h : s < 30) (O : CellTallies nD τ sig ℕ) :
    iprop(Ctx PB Z K ∗ Fr c d u s ∗ (∃ X, owns (c : Thread nD τ) (commV d (!par s) u) fullShare X)
        ∗ reached ER (gc c (.recv d (!par s) u)) (s / 2) ∗ Rch c d u s ∗ Owe c (O + credT c (ph s u) d))
      ⊢ iprop((Fr c d u (s + 1) ∗ Owe c O -∗ WP c l Q) -∗ WP c (credA c (!par s) u d :: l) Q) := by
  unfold Fr Rch credA
  rw [bigSep_Ico_succ_bot h, credT_ph]
  iintro ⟨#HC, ⟨Ht, HT⟩, Hs, Hr, Hr', HO⟩ Hk
  iapply (signal PB Z K c (prv c d) (credS d (!par s) u) (.cred d (!par s) u) rfl (s / 2) (ph s u) false
    (by rw [duties_one _ _ (show s / 2 < 15 by omega) (by simp)]; exact Finset.mem_singleton_self _) rfl O l Q) $$ [Ht Hs Hr Hr' HO]
  · isplitr; · iexact HC
    isplitl [HO]; · iexact HO
    isplitl [Ht]; · iexact Ht
    isplitr [Hr']
    · rw [pay_cred, nxt_prv]
      isplitl [Hs]; · iexact Hs
      iexact Hr
    iexact Hr'
  iintro HO
  iapply Hk
  isplitl [HT]; · iexact HT
  iexact HO

theorem copyA_congr {sp sp' : Space} {s : Shape} (src : Memref sig .tc sp s .f32) {dst dst' : Memref sig .tc sp' s .f32} (S : DmaSem sig)
    (e : dst = dst') (h : DmaTarget.Typed (nD := nD) sp (.dma S) (.here (p := (.tc : Proc τ)) dst))
    (h' : DmaTarget.Typed (nD := nD) sp (.dma S) (.here (p := (.tc : Proc τ)) dst')) :
    (copyA src dst S h : P F) = copyA src dst' S h' := by subst e; rfl

theorem storeA_eq (h : 14 ≤ s) (h' : s < 30) : (storeA c s u d : P F)
    = copyA (commV d (!par s) u) (pieceM outM (chunk d (s + 1) c) d u) (storeS d (!par s) u) ⟨Or.inl rfl, trivial⟩ :=
  copyA_congr _ _ (outV_eq c s h h' d u) _ _

theorem store_issue (h : 14 ≤ s) (h' : s < 30) :
    iprop(Ctx PB Z K ∗ StT c d u s ∗ owns (c : Thread nD τ) (commV d (!par s) u) fullShare.left (val PB Z d u (s + 1) c)
        ∗ reached ER (gc c (.store d (!par s) u)) ((s - 14) / 2))
      ⊢ iprop((StT c d u (s + 1) ∗ StB c d u s -∗ WP c l Q) -∗ WP c (storeA c s u d :: l) Q) := by
  unfold StT StB
  rw [storeA_eq c d u s h h', bigSep_Ico_succ_bot h']
  rw [show (owns (c : Thread nD τ) (commV d (!par s) u) fullShare.left (val PB Z d u (s + 1) c) : sProp 𝕄)
    = iprop(∃ f, ⌜(commV d (!par s) u).view.read (Elt F) f = val PB Z d u (s + 1) c⌝
      ∗ ((commV d (!par s) u).view.loc (c : Thread nD τ) ↦[(commV d (!par s) u).view.set]{fullShare.left} f)) from rfl]
  iintro ⟨#HC, ⟨⟨Ht, Hd⟩, HT⟩, ⟨%f, %hf, Hs⟩, Hr⟩ Hk
  iapply (copy PB Z K c (commV d (!par s) u) (pieceM outM (chunk d (s + 1) c) d u) (storeS d (!par s) u) _ (.store d (!par s) u) rfl (by simp)
    ((s - 14) / 2) (show (s - 14) / 2 < 8 by omega) (NO_eq _ d u) fullShare.left f
    (by
      rw [pay_store PB Z c s h, hf]
      refine sep_mono_right ?_
      rw [← hf]
      exact owns_intro (c : Thread nD τ) (commV d (!par s) u) fullShare.left f) l Q) $$ [Hd Hs Ht Hr]
  · isplitr; · iexact HC
    isplitl [Hs]; · iexact Hs
    isplitl [Hd]; · iexact Hd
    isplitl [Ht]; · iexact Ht
    iexact Hr
  iintro Hc
  iapply Hk
  isplitl [HT]; · iexact HT
  iexact Hc

theorem store_wait (h : 14 ≤ s) (h' : s < 30) :
    iprop(Ctx PB Z K ∗ StB c d u s ∗ StP PB Z c d u s ∗ Owe c (Ow c a b))
      ⊢ iprop((StP PB Z c d u (s + 1) ∗ owns (c : Thread nD τ) (commV d (!par s) u) fullShare.left (val PB Z d u (s + 1) c)
          ∗ Owe c (Ow c a b) -∗ WP c l Q)
        -∗ WP c (storeW c s u d :: l) Q) := by
  unfold StB StP storeW waitA
  rw [par_succ_not, bigSep_Ico_succ_top h, show (s + 1 + 1 - 14) / 2 = (s - 14) / 2 + 1 by omega, outV_eq c s h h']
  iintro ⟨#HC, Hc, ⟨⟨Ha, Ha'⟩, HD⟩, HO⟩ Hk
  iapply (wait PB Z K c (.store d (!par s) u) ((s - 14) / 2) 0 a b (by simp) (show (s - 14) / 2 < 8 by omega) (by omega)
    (by show 0 < _; omega) (by show 0 < _; omega)
    _ (fun Φ => by
      rw [show (Cell.store d (!par s) u).units ((s - 14) / 2) = _ from (NO_eq (chunk d (s + 1) c) d u).symm]
      exact wpE_waitDma2_eq 𝒱₀ (c : Thread nD τ) none Set.univ Φ) l Q) $$ [Hc Ha HO]
  · isplitr; · iexact HC
    isplitl [Hc]; · iexact Hc
    isplitl [HO]; · iexact HO
    iexact Ha
  rw [pay_store PB Z c s h]
  iintro ⟨HO, Ha, Hp, Hs⟩
  iapply Hk
  isplitl [Ha Ha' HD Hp]
  · isplitl [Ha Ha']
    · isplitl [Ha']; · iexact Ha'
      iexact Ha
    isplitl [Hp]; · iexact Hp
    iexact HD
  isplitl [Hs]; · iexact Hs
  iexact HO

theorem acc_add (b' : Bool) (X Y : FVec F S256x2048 .f32) :
    iprop(owns (c : Thread nD τ) (commV d b' u) fullShare X ∗ owns (c : Thread nD τ) (pbufV d u) fullShare Y)
      ⊢ iprop((owns (c : Thread nD τ) (commV d b' u) fullShare (addf X Y) ∗ owns (c : Thread nD τ) (pbufV d u) fullShare Y -∗ WP c l Q)
        -∗ WP c (accA d b' u :: l) Q) :=
  acc_of c k0_pay2 addf pay2_eq d b' u X Y l Q

theorem acc_fin (z : F .f32) (b' : Bool) (X Y : FVec F S256x2048 .f32) :
    iprop(owns (c : Thread nD τ) (commV d b' u) fullShare X ∗ owns (c : Thread nD τ) (pbufV d u) fullShare Y)
      ⊢ iprop((owns (c : Thread nD τ) (commV d b' u) fullShare (fin z X Y) ∗ owns (c : Thread nD τ) (pbufV d u) fullShare Y -∗ WP c l Q)
        -∗ WP c (accR z d b' u :: l) Q) :=
  acc_of c (k0_pay72 z) (fin z) (pay72_eq z) d b' u X Y l Q

end

end Cert.KernelIdeal.Ring

end
-- ==== Proof.Segs.lean ====
/-
  The starts and the finishes of the ring steps, both directions of one column half together.
-/
module

public import proofs.«01_k».proof.Proof.Lane

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What a lane, a device may hold. -/
abbrev SP (F : FTy → Type) [FloatOps F] := sProp (MT nD τ sig ℕ (Elt F) ℕ UU ℕ)

variable (PB : Dev nD → FVec F S4096x8192 .f32) (Z : Dev nD → F .f32) (K : GSem nD τ sig → ℕ) (c : Dev nD)

/-- From `A` the steps of `f` lead to `B`. -/
def Tr (A : SP F) (f : List (P F)) (B : SP F) : Prop :=
  ∀ (l : List (P F)) (Q : Post F), iprop(Ctx PB Z K ∗ A) ⊢ iprop((B -∗ WP c l Q) -∗ WP c (f ++ l) Q)

variable {PB Z K c}

theorem Tr.seq {A B C : SP F} {f g : List (P F)} (h : Tr PB Z K c A f B) (h' : Tr PB Z K c B g C) : Tr PB Z K c A (f ++ g) C := by
  intro l Q
  rw [List.append_assoc]
  iintro ⟨#HC, HA⟩ Hk
  iapply (h (g ++ l) Q) $$ [HA]
  · isplitr; · iexact HC
    iexact HA
  iintro HB
  iapply (h' l Q) $$ [HB]
  · isplitr; · iexact HC
    iexact HB
  iexact Hk

theorem Tr.of {A B : SP F} (h : A ⊢ B) : Tr PB Z K c A [] B := by
  intro l Q
  iintro ⟨-, HA⟩ Hk
  iapply Hk
  iapply h
  iexact HA

theorem Tr.conseq {A A' B B' : SP F} {f : List (P F)} (h : Tr PB Z K c A f B) (hA : A' ⊢ A) (hB : B ⊢ B') : Tr PB Z K c A' f B' := by
  intro l Q
  iintro ⟨#HC, HA⟩ Hk
  iapply (h l Q) $$ [HA]
  · isplitr; · iexact HC
    iapply hA; iexact HA
  iintro HB
  iapply Hk
  iapply hB
  iexact HB

theorem Tr.frame {A B : SP F} {f : List (P F)} (h : Tr PB Z K c A f B) (R : SP F) : Tr PB Z K c iprop(A ∗ R) f iprop(B ∗ R) := by
  intro l Q
  iintro ⟨#HC, HA, HR⟩ Hk
  iapply (h l Q) $$ [HA]
  · isplitr; · iexact HC
    iexact HA
  iintro HB
  iapply Hk
  isplitl [HB]; · iexact HB
  iexact HR

/-- A state of both directions, and what is owed. -/
def Two (c : Dev nD) (A : Bool → SP F) (O : CellTallies nD τ sig ℕ) : SP F := iprop((A false ∗ A true) ∗ Owe c O)

theorem two_list {A B : Bool → SP F} {O O' O'' : CellTallies nD τ sig ℕ} (f : Bool → List (P F))
    (h : Tr PB Z K c iprop(A false ∗ Owe c O) (f false) iprop(B false ∗ Owe c O'))
    (h' : Tr PB Z K c iprop(A true ∗ Owe c O') (f true) iprop(B true ∗ Owe c O'')) :
    Tr PB Z K c (Two c A O) (f false ++ f true) (Two c B O'') := by
  unfold Two
  refine Tr.seq (B := iprop(B false ∗ A true ∗ Owe c O')) ?_ ?_
  · refine (h.frame (A true)).conseq ?_ ?_
    · iintro ⟨⟨H, H'⟩, HO⟩
      isplitr [H']
      · isplitl [H]; · iexact H
        iexact HO
      iexact H'
    · iintro ⟨⟨H, HO⟩, H'⟩
      isplitl [H]; · iexact H
      isplitl [H']; · iexact H'
      iexact HO
  · refine (h'.frame (B false)).conseq ?_ ?_
    · iintro ⟨H, H'⟩
      isplitl [H']; · iexact H'
      iexact H
    · iintro ⟨⟨H, HO⟩, H'⟩
      isplitr [HO]
      · isplitl [H']; · iexact H'
        iexact H
      iexact HO

theorem two_same {A B : Bool → SP F} {O : CellTallies nD τ sig ℕ} (f : Bool → List (P F))
    (h : ∀ d, Tr PB Z K c iprop(A d ∗ Owe c O) (f d) iprop(B d ∗ Owe c O)) :
    Tr PB Z K c (Two c A O) (f false ++ f true) (Two c B O) :=
  two_list f (h false) (h true)

theorem two_both {A B : Bool → SP F} {O : CellTallies nD τ sig ℕ} (f : Bool → P F)
    (h : ∀ d, Tr PB Z K c iprop(A d ∗ Owe c O) [f d] iprop(B d ∗ Owe c O)) :
    Tr PB Z K c (Two c A O) (both f) (Two c B O) :=
  two_list (fun d => [f d]) (h false) (h true)

/-- Steps that pay. -/
theorem two_pay {A B : Bool → SP F} (f : Bool → P F) (x : Bool → CellTallies nD τ sig ℕ)
    (h : ∀ d O, Tr PB Z K c iprop(A d ∗ Owe c (O + x d)) [f d] iprop(B d ∗ Owe c O)) (O : CellTallies nD τ sig ℕ) :
    Tr PB Z K c (Two c A ((O + x true) + x false)) (both f) (Two c B O) :=
  two_list (fun d => [f d]) (h false (O + x true)) (h true O)

theorem two_of {A B : Bool → SP F} {O : CellTallies nD τ sig ℕ} (h : ∀ d, A d ⊢ B d) : Two c A O ⊢ Two c B O :=
  sep_mono_left (BIClass.sep_mono (h false) (h true))

variable (PB Z K c) (d u : Bool) (s : ℕ)

/-! ## States of a lane -/

/-- The right and the left half of the slot that step `s` reads; the slot itself, and the other. -/
def RH : SP F := owns (c : Thread nD τ) (commV d (par s) u) fullShare.right (val PB Z d u s c)
def LH : SP F := owns (c : Thread nD τ) (commV d (par s) u) fullShare.left (val PB Z d u s c)
def Slot : SP F := owns (c : Thread nD τ) (commV d (par s) u) fullShare (val PB Z d u s c)
def Come : SP F := owns (c : Thread nD τ) (commV d (!par s) u) fullShare (val PB Z d u s (prv c d))

theorem slot_halves : Slot PB Z c d u s ⊣⊢ iprop(LH PB Z c d u s ∗ RH PB Z c d u s) := owns_halves ..

/-- Ready to start step `s`, in the summing and in the gathering steps. -/
def Core : SP F := iprop(Cr c d u s ∗ Sd c d u s ∗ Rv c d u s ∗ Fr c d u (s + 1) ∗ Rch c d u (s + 1) ∗ RH PB Z c d u s)
def ReadyA : SP F := iprop(Core PB Z c d u s ∗ Pb c d u ∗ LdR PB c d u s ∗ LH PB Z c d u s ∗ StP PB Z c d u 14 ∗ StT c d u 14)
def RestC : SP F := iprop(Pb c d u ∗ LdR PB c d u 15 ∗ StB c d u (s - 1) ∗ StP PB Z c d u (s - 1) ∗ StT c d u s)
def ReadyC : SP F := iprop(Core PB Z c d u s ∗ RestC PB Z c d u s)
/-- The load issued. -/
def RestA : SP F := iprop(LdB PB c d u s ∗ LH PB Z c d u s ∗ StP PB Z c d u 14 ∗ StT c d u 14)
/-- The transfer under way. -/
def Fly : SP F := iprop(Cr c d u (s + 1) ∗ SdB c d u s ∗ Rv c d u s ∗ Fr c d u (s + 1) ∗ Rch c d u (s + 1))
/-- The neighbour's free slot in hand. -/
def Free : SP F :=
  iprop(Cr c d u (s + 1) ∗ Sd c d u s ∗ Rv c d u s ∗ Fr c d u (s + 1) ∗ Rch c d u (s + 1) ∗ RH PB Z c d u s
    ∗ (∃ X, owns (nxt c d : Thread nD τ) (commV d (!par s) u) fullShare X)
    ∗ reached ER (gc (nxt c d) (.recv d (!par s) u)) (s / 2) ∗ reached ER (gc c (.cred d (!par s) u)) (s / 2 + 1))
/-- Both transfers of step `s` over. -/
def Got : SP F := iprop(Cr c d u (s + 1) ∗ Sd c d u (s + 1) ∗ Rv c d u (s + 1) ∗ Fr c d u (s + 1) ∗ Rch c d u (s + 1) ∗ Rch c d u (s + 2)
  ∗ RH PB Z c d u s ∗ Come PB Z c d u s)
/-- The credit given. -/
def Gave : SP F := iprop(Cr c d u (s + 1) ∗ Sd c d u (s + 1) ∗ Rv c d u (s + 1) ∗ Fr c d u (s + 2) ∗ Rch c d u (s + 2))

/-! ## The steps of a lane, the rest framed -/

section

variable (O : CellTallies nD τ sig ℕ) (a b : ℕ)

theorem tr_loadA (h : s < 15) : Tr PB Z K c iprop(ReadyA PB Z c d u s ∗ Owe c O) [loadA c ⟨s, h⟩ u d]
    iprop((Core PB Z c d u s ∗ RestA PB Z c d u s) ∗ Owe c O) := by
  intro l Q
  unfold ReadyA RestA
  iintro ⟨#HC, ⟨H, Hp, Hl, Hr⟩, HO⟩ Hk
  iapply (load_issue PB Z K c d u s l Q h) $$ [Hp Hl]
  · isplitr; · iexact HC
    isplitl [Hp]; · iexact Hp
    iexact Hl
  iintro Hl
  iapply Hk
  isplitr [HO]
  · isplitl [H]; · iexact H
    isplitl [Hl]; · iexact Hl
    iexact Hr
  iexact HO

theorem tr_credW (h : s < 30) (ha : ph s u < a) (hb : ph s u ≤ b) (R : SP F) :
    Tr PB Z K c iprop((Core PB Z c d u s ∗ R) ∗ Owe c (Ow c a b)) [credW s u d] iprop((Free PB Z c d u s ∗ R) ∗ Owe c (Ow c a b)) := by
  intro l Q
  unfold Core Free
  iintro ⟨#HC, ⟨⟨Hc, H⟩, HR⟩, HO⟩ Hk
  iapply (cred_wait PB Z K c d u s a b l Q h ha hb) $$ [Hc HO]
  · isplitr; · iexact HC
    isplitl [Hc]; · iexact Hc
    iexact HO
  iintro ⟨Hc, Hf, Hr, Hr', HO⟩
  icases H with ⟨H1, H2, H3, H4, H5⟩
  iapply Hk
  isplitr [HO]
  · isplitr [HR]
    · isplitl [Hc]; · iexact Hc
      isplitl [H1]; · iexact H1
      isplitl [H2]; · iexact H2
      isplitl [H3]; · iexact H3
      isplitl [H4]; · iexact H4
      isplitl [H5]; · iexact H5
      isplitl [Hf]; · iexact Hf
      isplitl [Hr]; · iexact Hr
      iexact Hr'
    iexact HR
  iexact HO

theorem tr_sendA (h : s < 30) (R : SP F) :
    Tr PB Z K c iprop((Free PB Z c d u s ∗ R) ∗ Owe c (O + recvT c (ph s u) d)) [sendA c s d u] iprop((Fly c d u s ∗ R) ∗ Owe c O) := by
  intro l Q
  unfold Free Fly RH
  iintro ⟨#HC, ⟨⟨H1, H2, H3, H4, H5, H6, H7, H8⟩, HR⟩, HO⟩ Hk
  iapply (send_issue PB Z K c d u s l Q h O) $$ [H2 H6 H7 H8 HO]
  · isplitr; · iexact HC
    isplitl [H2]; · iexact H2
    isplitl [H6]; · iexact H6
    icases H8 with ⟨H8, H9⟩
    isplitl [H7]; · iexact H7
    isplitl [H8]; · iexact H8
    isplitl [H9]; · iexact H9
    iexact HO
  iintro ⟨H2, HO⟩
  iapply Hk
  isplitr [HO]
  · isplitr [HR]
    · isplitl [H1]; · iexact H1
      isplitl [H2]; · iexact H2
      isplitl [H3]; · iexact H3
      isplitl [H4]; · iexact H4
      iexact H5
    iexact HR
  iexact HO

theorem tr_transW (h : s < 30) (ha : ph s u < a) (hb : ph s u < b) (R : SP F) :
    Tr PB Z K c iprop((Fly c d u s ∗ R) ∗ Owe c (Ow c a b)) (transW s u d) iprop((Got PB Z c d u s ∗ R) ∗ Owe c (Ow c a b)) := by
  intro l Q
  unfold Fly Got RH Come transW
  iintro ⟨#HC, ⟨⟨H1, H2, H3, H4, H5⟩, HR⟩, HO⟩ Hk
  iapply (send_wait PB Z K c d u s a b _ Q h) $$ [H2 HO]
  · isplitr; · iexact HC
    isplitl [H2]; · iexact H2
    iexact HO
  iintro ⟨H2, H6, HO⟩
  iapply (recv_wait PB Z K c d u s a b l Q h ha hb) $$ [H3 HO]
  · isplitr; · iexact HC
    isplitl [H3]; · iexact H3
    iexact HO
  iintro ⟨H3, H7, H8, HO⟩
  iapply Hk
  isplitr [HO]
  · isplitr [HR]
    · isplitl [H1]; · iexact H1
      isplitl [H2]; · iexact H2
      isplitl [H3]; · iexact H3
      isplitl [H4]; · iexact H4
      isplitl [H5]; · iexact H5
      isplitl [H8]; · iexact H8
      isplitl [H6]; · iexact H6
      iexact H7
    iexact HR
  iexact HO

theorem tr_storeW (h : 15 ≤ s) (h' : s < 30) : Tr PB Z K c iprop((Got PB Z c d u s ∗ RestC PB Z c d u s) ∗ Owe c (Ow c a b)) [storeW c (s - 1) u d]
    iprop((Got PB Z c d u s ∗ LH PB Z c d u s ∗ Pb c d u ∗ LdR PB c d u 15 ∗ StP PB Z c d u s ∗ StT c d u s) ∗ Owe c (Ow c a b)) := by
  intro l Q
  unfold RestC
  iintro ⟨#HC, ⟨HG, H1, H2, H3, H4, H5⟩, HO⟩ Hk
  iapply (store_wait PB Z K c d u (s - 1) a b l Q (by omega) (by omega)) $$ [H3 H4 HO]
  · isplitr; · iexact HC
    isplitl [H3]; · iexact H3
    isplitl [H4]; · iexact H4
    iexact HO
  obtain ⟨s, rfl⟩ : ∃ t, s = t + 1 := ⟨s - 1, by omega⟩
  unfold LH
  rw [Nat.add_sub_cancel, show par (s + 1) = !par s from rfl]
  iintro ⟨H4, H3, HO⟩
  iapply Hk
  isplitr [HO]
  · isplitl [HG]; · iexact HG
    isplitl [H3]; · iexact H3
    isplitl [H1]; · iexact H1
    isplitl [H2]; · iexact H2
    isplitl [H4]; · iexact H4
    iexact H5
  iexact HO

theorem tr_credA (h : s + 1 < 30) (R : SP F) :
    Tr PB Z K c iprop((Got PB Z c d u s ∗ LH PB Z c d u s ∗ R) ∗ Owe c (O + credT c (ph (s + 1) u) d)) [credA c (par s) u d]
      iprop((Gave c d u s ∗ Come PB Z c d u s ∗ R) ∗ Owe c O) := by
  intro l Q
  unfold Got Gave
  iintro ⟨#HC, ⟨⟨H1, H2, H3, H4, H5, H6, H7, H8⟩, HL, HR⟩, HO⟩ Hk
  ihave HS := (slot_halves PB Z c d u s).2 $$ [HL H7]
  · isplitl [HL]; · iexact HL
    iexact H7
  unfold Rv at'
  icases H3 with ⟨⟨⟨Ha, #Hr⟩, Ha'⟩, HT⟩
  rw [← par_succ_not s]
  iapply (cred_give PB Z K c d u (s + 1) l Q h O) $$ [H4 HS H5 HO]
  · isplitr; · iexact HC
    isplitl [H4]; · iexact H4
    isplitl [HS]
    · iexists _
      unfold Slot
      rw [par_succ_not]
      iexact HS
    isplitr; · iexact Hr
    isplitl [H5]; · iexact H5
    iexact HO
  iintro ⟨H4, HO⟩
  iapply Hk
  isplitr [HO]
  · isplitr [HR H8]
    · isplitl [H1]; · iexact H1
      isplitl [H2]; · iexact H2
      isplitl [Ha Ha' HT]
      · isplitr [HT]
        · isplitl [Ha]
          · isplitl [Ha]; · iexact Ha
            iexact Hr
          iexact Ha'
        iexact HT
      isplitl [H4]; · iexact H4
      iexact H6
    isplitl [H8]; · iexact H8
    iexact HR
  iexact HO

theorem tr_loadW (h : s < 15) (R : SP F) : Tr PB Z K c iprop((LdB PB c d u s ∗ R) ∗ Owe c (Ow c a b)) [loadW c ⟨s, h⟩ u d]
    iprop(((owns (c : Thread nD τ) (pbufV d u) fullShare (add PB d u s c) ∗ LdR PB c d u (s + 1)) ∗ R) ∗ Owe c (Ow c a b)) := by
  intro l Q
  iintro ⟨#HC, ⟨H1, HR⟩, HO⟩ Hk
  iapply (load_wait PB Z K c d u s a b l Q h) $$ [H1 HO]
  · isplitr; · iexact HC
    isplitl [H1]; · iexact H1
    iexact HO
  iintro ⟨H1, H2, HO⟩
  iapply Hk
  isplitr [HO]
  · isplitr [HR]
    · isplitl [H1]; · iexact H1
      iexact H2
    iexact HR
  iexact HO

theorem tr_acc (h : s < 14) (R : SP F) :
    Tr PB Z K c iprop(((owns (c : Thread nD τ) (pbufV d u) fullShare (add PB d u s c) ∗ LdR PB c d u (s + 1)) ∗ Come PB Z c d u s ∗ R) ∗ Owe c O)
      [accA d (!par s) u] iprop((Slot PB Z c d u (s + 1) ∗ Pb c d u ∗ LdR PB c d u (s + 1) ∗ R) ∗ Owe c O) := by
  intro l Q
  unfold Come Slot Pb
  rw [val_acc PB Z d u s c h, show par (s + 1) = !par s from rfl]
  iintro ⟨#HC, ⟨⟨H1, H2⟩, H3, HR⟩, HO⟩ Hk
  iapply (acc_add c d u l Q (!par s) (val PB Z d u s (prv c d)) (add PB d u s c)) $$ [H1 H3]
  · isplitl [H3]; · iexact H3
    iexact H1
  iintro ⟨H3, H1⟩
  iapply Hk
  isplitr [HO]
  · isplitl [H3]; · iexact H3
    isplitl [H1]; · iexists _; iexact H1
    isplitl [H2]; · iexact H2
    iexact HR
  iexact HO

theorem tr_fin (R : SP F) :
    Tr PB Z K c iprop(((owns (c : Thread nD τ) (pbufV d u) fullShare (add PB d u 14 c) ∗ LdR PB c d u (14 + 1)) ∗ Come PB Z c d u 14 ∗ R) ∗ Owe c O)
      [accR (Z c) d (!par 14) u] iprop((Slot PB Z c d u 15 ∗ Pb c d u ∗ LdR PB c d u 15 ∗ R) ∗ Owe c O) := by
  intro l Q
  unfold Come Slot Pb
  rw [val_fin PB Z d u c, show par 15 = !par 14 from rfl]
  iintro ⟨#HC, ⟨⟨H1, H2⟩, H3, HR⟩, HO⟩ Hk
  iapply (acc_fin c d u l Q (Z c) (!par 14) (val PB Z d u 14 (prv c d)) (add PB d u 14 c)) $$ [H1 H3]
  · isplitl [H3]; · iexact H3
    iexact H1
  iintro ⟨H3, H1⟩
  iapply Hk
  isplitr [HO]
  · isplitl [H3]; · iexact H3
    isplitl [H1]; · iexists _; iexact H1
    isplitl [H2]; · iexact H2
    iexact HR
  iexact HO

theorem tr_storeA (h : 14 ≤ s) (h' : s < 30) (R : SP F) (hS : R ⊢ iprop(R ∗ reached ER (gc c (.store d (!par s) u)) ((s - 14) / 2))) :
    Tr PB Z K c iprop((Slot PB Z c d u (s + 1) ∗ StT c d u s ∗ R) ∗ Owe c O) [storeA c s u d]
      iprop((RH PB Z c d u (s + 1) ∗ StB c d u s ∗ StT c d u (s + 1) ∗ R) ∗ Owe c O) := by
  intro l Q
  iintro ⟨#HC, ⟨H1, H2, HR⟩, HO⟩ Hk
  ihave HS := (slot_halves PB Z c d u (s + 1)).1 $$ H1
  icases HS with ⟨HL, H1⟩
  ihave HR' := hS $$ HR
  icases HR' with ⟨HR, Hr⟩
  iapply (store_issue PB Z K c d u s l Q h h') $$ [H2 HL Hr]
  · isplitr; · iexact HC
    isplitl [H2]; · iexact H2
    isplitl [HL]; · unfold LH; iexact HL
    iexact Hr
  iintro ⟨H2, H3⟩
  iapply Hk
  isplitr [HO]
  · isplitl [H1]; · iexact H1
    isplitl [H3]; · iexact H3
    isplitl [H2]; · iexact H2
    iexact HR
  iexact HO

end

end Cert.KernelIdeal.Ring

end
-- ==== Proof.Loop.lean ====
/-
  The ring steps, one after another.
-/
module

public import proofs.«01_k».proof.Proof.Segs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (PB : Dev nD → FVec F S4096x8192 .f32) (Z : Dev nD → F .f32) (K : GSem nD τ sig → ℕ) (c : Dev nD)

/-! ## Start -/

theorem startA (u : Bool) (s a : ℕ) (h : s < 15) (ha : ph s u < a) :
    Tr PB Z K c (Two c (fun d => ReadyA PB Z c d u s) (Ow c a (ph s u))) (startL c s u)
      (Two c (fun d => iprop(Fly c d u s ∗ RestA PB Z c d u s)) (Ow c a (ph s u + 1))) := by
  have hp : ph s u < 60 := by unfold ph; cases u <;> simp only [cond_true, cond_false] <;> omega
  unfold startL
  rw [dif_pos h]
  refine ((two_both _ (fun d => tr_loadA PB Z K c d u s _ h)).seq
    (two_both _ (fun d => tr_credW PB Z K c d u s a _ (by omega) ha le_rfl _))).seq ?_
  rw [Ow_recv c a _ hp]
  exact two_pay _ (recvT c (ph s u)) (fun d O => tr_sendA PB Z K c d u s O (by omega) _) _

theorem startC (u : Bool) (s a : ℕ) (h : 15 ≤ s) (h' : s < 30) (ha : ph s u < a) :
    Tr PB Z K c (Two c (fun d => ReadyC PB Z c d u s) (Ow c a (ph s u))) (startL c s u)
      (Two c (fun d => iprop(Fly c d u s ∗ RestC PB Z c d u s)) (Ow c a (ph s u + 1))) := by
  have hp : ph s u < 60 := by unfold ph; cases u <;> simp only [cond_true, cond_false] <;> omega
  unfold startL
  rw [dif_neg (by omega), List.nil_append]
  refine (two_both _ (fun d => tr_credW PB Z K c d u s a _ (by omega) ha le_rfl _)).seq ?_
  rw [Ow_recv c a _ hp]
  exact two_pay _ (recvT c (ph s u)) (fun d O => tr_sendA PB Z K c d u s O (by omega) _) _

/-! ## Finish -/

/-- The credits for the next step. -/
theorem give (u : Bool) (s b : ℕ) (h : s + 1 < 30) (R : Bool → SP F) :
    Tr PB Z K c (Two c (fun d => iprop(Got PB Z c d u s ∗ LH PB Z c d u s ∗ R d)) (Ow c (ph (s + 1) u) b)) (both (credA c (par s) u))
      (Two c (fun d => iprop(Gave c d u s ∗ Come PB Z c d u s ∗ R d)) (Ow c (ph (s + 1) u + 1) b)) := by
  have hp : ph (s + 1) u < 60 := by unfold ph; cases u <;> simp only [cond_true, cond_false] <;> omega
  rw [Ow_cred c _ b hp]
  exact two_pay _ (credT c (ph (s + 1) u)) (fun d O => tr_credA PB Z K c d u s O h (R d)) _

theorem core_of (d u : Bool) (s : ℕ) : iprop(Gave c d u s ∗ RH PB Z c d u (s + 1)) ⊢ Core PB Z c d u (s + 1) := by
  unfold Gave Core
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

/-- The summing steps up to the load's wait. -/
theorem sum_to (u : Bool) (s b : ℕ) (h : s < 15) (hb : ph s u < b) :
    Tr PB Z K c (Two c (fun d => iprop(Fly c d u s ∗ RestA PB Z c d u s)) (Ow c (ph (s + 1) u) b))
      (((transW s u false ++ transW s u true) ++ both (credA c (par s) u)) ++ both (loadW c ⟨s, h⟩ u))
      (Two c (fun d => iprop(((owns (c : Thread nD τ) (pbufV d u) fullShare (add PB d u s c) ∗ LdR PB c d u (s + 1))
        ∗ Come PB Z c d u s ∗ Gave c d u s ∗ StP PB Z c d u 14 ∗ StT c d u 14))) (Ow c (ph (s + 1) u + 1) b)) := by
  have ha : ph s u < ph (s + 1) u := by unfold ph; omega
  refine Tr.seq (Tr.seq (two_same (transW s u) (fun d => tr_transW PB Z K c d u s _ b (by omega) ha hb _))
    ((give PB Z K c u s b (by omega) fun d => iprop(LdB PB c d u s ∗ StP PB Z c d u 14 ∗ StT c d u 14)).conseq (two_of fun d => ?_) (two_of fun d => ?_)))
    (two_both _ (fun d => tr_loadW PB Z K c d u s _ b h _))
  · unfold RestA
    iintro ⟨H1, H2, H3, H4⟩
    isplitl [H1]; · iexact H1
    isplitl [H3]; · iexact H3
    isplitl [H2]; · iexact H2
    iexact H4
  · iintro ⟨H1, H2, H3, H4⟩
    isplitl [H3]; · iexact H3
    isplitl [H2]; · iexact H2
    isplitl [H1]; · iexact H1
    iexact H4

theorem finishA (u : Bool) (s b : ℕ) (h : s < 14) (hb : ph s u < b) :
    Tr PB Z K c (Two c (fun d => iprop(Fly c d u s ∗ RestA PB Z c d u s)) (Ow c (ph (s + 1) u) b)) (finishL c (Z c) s u)
      (Two c (fun d => ReadyA PB Z c d u (s + 1)) (Ow c (ph (s + 1) u + 1) b)) := by
  unfold finishL
  rw [if_pos (by omega), if_neg (by omega), dif_pos (by omega), if_neg (by omega), if_neg (by omega), List.append_nil, List.nil_append, ← List.append_assoc]
  refine (sum_to PB Z K c u s b (by omega) hb).seq
    ((two_both _ (fun d => tr_acc PB Z K c d u s _ h _)).conseq (BI.Entails.refl _) (two_of fun d => ?_))
  unfold ReadyA
  iintro ⟨H1, H2, H3, H4, H5⟩
  ihave HS := (slot_halves PB Z c d u (s + 1)).1 $$ H1
  icases HS with ⟨HL, H1⟩
  isplitl [H1 H4]
  · iapply (core_of PB Z c d u s)
    isplitl [H4]; · iexact H4
    iexact H1
  isplitl [H2]; · iexact H2
  isplitl [H3]; · iexact H3
  isplitl [HL]; · iexact HL
  iexact H5

theorem reach_first (d u : Bool) (R : SP F) : iprop(R ∗ StP PB Z c d u 14)
    ⊢ iprop((R ∗ StP PB Z c d u 14) ∗ reached ER (gc c (.store d (!par 14) u)) ((14 - 14) / 2)) := by
  unfold StP at'
  iintro ⟨HR, ⟨⟨H1, #H2⟩, H3⟩, H4⟩
  isplitl
  · isplitl [HR]; · iexact HR
    isplitr [H4]
    · isplitr [H3]
      · isplitl [H1]; · iexact H1
        iexact H2
      iexact H3
    iexact H4
  iexact H2

theorem reach_next (d u : Bool) (s : ℕ) (h : 1 ≤ s) (R : SP F) : iprop(R ∗ StP PB Z c d u (s - 1))
    ⊢ iprop((R ∗ StP PB Z c d u (s - 1)) ∗ reached ER (gc c (.store d (!par s) u)) ((s - 14) / 2)) := by
  obtain ⟨s, rfl⟩ : ∃ t, s = t + 1 := ⟨s - 1, by omega⟩
  rw [Nat.add_sub_cancel, par_succ_not]
  unfold StP at'
  iintro ⟨HR, ⟨H3, ⟨H1, #H2⟩⟩, H4⟩
  isplitl
  · isplitl [HR]; · iexact HR
    isplitr [H4]
    · isplitl [H3]; · iexact H3
      isplitl [H1]; · iexact H1
      iexact H2
    iexact H4
  iexact H2

theorem reach_same (d u : Bool) (s : ℕ) (R : SP F) : iprop(R ∗ StP PB Z c d u s)
    ⊢ iprop((R ∗ StP PB Z c d u s) ∗ reached ER (gc c (.store d (!par s) u)) ((s - 14) / 2)) := by
  unfold StP at'
  iintro ⟨HR, ⟨⟨H1, #H2⟩, H3⟩, H4⟩
  isplitl
  · isplitl [HR]; · iexact HR
    isplitr [H4]
    · isplitr [H3]
      · isplitl [H1]; · iexact H1
        iexact H2
      iexact H3
    iexact H4
  iexact H2

theorem finishB (u : Bool) (b : ℕ) (hb : ph 14 u < b) :
    Tr PB Z K c (Two c (fun d => iprop(Fly c d u 14 ∗ RestA PB Z c d u 14)) (Ow c (ph 15 u) b)) (finishL c (Z c) 14 u)
      (Two c (fun d => ReadyC PB Z c d u 15) (Ow c (ph 15 u + 1) b)) := by
  unfold finishL
  rw [if_pos (by omega), if_neg (by omega), dif_pos (by omega), if_pos (by omega), if_pos (by omega), List.nil_append, ← List.append_assoc]
  refine ((sum_to PB Z K c u 14 b (by omega) hb).seq
    ((two_both _ (fun d => tr_fin PB Z K c d u _ _)).conseq (BI.Entails.refl _) (two_of fun d => ?_))).seq
    (B := Two c (fun d => iprop((Slot PB Z c d u 15 ∗ StT c d u 14 ∗ (Gave c d u 14 ∗ Pb c d u ∗ LdR PB c d u 15) ∗ StP PB Z c d u 14))) (Ow c (ph 15 u + 1) b))
    ((two_both _ (fun d => tr_storeA PB Z K c d u 14 _ (by omega) (by omega) _ (reach_same PB Z c d u 14 _))).conseq (BI.Entails.refl _) (two_of fun d => ?_))
  · iintro ⟨H1, H2, H3, H4, H5, H6⟩
    isplitl [H1]; · iexact H1
    isplitl [H6]; · iexact H6
    isplitr [H5]
    · isplitl [H4]; · iexact H4
      isplitl [H2]; · iexact H2
      iexact H3
    iexact H5
  · unfold ReadyC RestC
    iintro ⟨H1, H2, H3, ⟨H4, H5, H6⟩, H7⟩
    isplitl [H1 H4]
    · iapply (core_of PB Z c d u 14)
      isplitl [H4]; · iexact H4
      iexact H1
    isplitl [H5]; · iexact H5
    isplitl [H6]; · iexact H6
    isplitl [H2]; · iexact H2
    isplitl [H7]; · iexact H7
    iexact H3

theorem come_slot (d u : Bool) (s : ℕ) (h : 15 ≤ s) : Come PB Z c d u s ⊢ Slot PB Z c d u (s + 1) := by
  unfold Come Slot
  rw [val_pass PB Z d u s c h]
  exact BI.Entails.refl _

theorem finishC (u : Bool) (s b : ℕ) (h : 15 ≤ s) (h' : s + 1 < 30) (hb : ph s u < b) :
    Tr PB Z K c (Two c (fun d => iprop(Fly c d u s ∗ RestC PB Z c d u s)) (Ow c (ph (s + 1) u) b)) (finishL c (Z c) s u)
      (Two c (fun d => ReadyC PB Z c d u (s + 1)) (Ow c (ph (s + 1) u + 1) b)) := by
  have ha : ph s u < ph (s + 1) u := by unfold ph; omega
  unfold finishL
  rw [if_pos h', if_pos h, dif_neg (by omega), if_pos (by omega), List.append_nil]
  refine ((two_same (transW s u) (fun d => tr_transW PB Z K c d u s _ b (by omega) ha hb _)).seq
    ((two_both _ (fun d => tr_storeW PB Z K c d u s _ b h (by omega))).seq
      ((give PB Z K c u s b h' fun d => iprop(Pb c d u ∗ LdR PB c d u 15 ∗ StP PB Z c d u s ∗ StT c d u s)).conseq (BI.Entails.refl _)
        (two_of (B := fun d => iprop((Slot PB Z c d u (s + 1) ∗ StT c d u s ∗ (Gave c d u s ∗ Pb c d u ∗ LdR PB c d u 15) ∗ StP PB Z c d u s)))
          fun d => ?_)))).seq
    ((two_both _ (fun d => tr_storeA PB Z K c d u s _ (by omega) (by omega) _ (reach_same PB Z c d u s _))).conseq (BI.Entails.refl _) (two_of fun d => ?_))
  · iintro ⟨H4, H1, H2, H3, H5, H6⟩
    isplitl [H1]; · iapply (come_slot PB Z c d u s h); iexact H1
    isplitl [H6]; · iexact H6
    isplitr [H5]
    · isplitl [H4]; · iexact H4
      isplitl [H2]; · iexact H2
      iexact H3
    iexact H5
  · unfold ReadyC RestC
    iintro ⟨H1, H2, H3, ⟨H4, H5, H6⟩, H7⟩
    isplitl [H1 H4]
    · iapply (core_of PB Z c d u s)
      isplitl [H4]; · iexact H4
      iexact H1
    isplitl [H5]; · iexact H5
    isplitl [H6]; · iexact H6
    isplitl [H2]; · iexact H2
    isplitl [H7]; · iexact H7
    iexact H3

/-- What a lane holds after the last step, two stores under way. -/
def Done (d u : Bool) : SP F :=
  iprop(RH PB Z c d u 30 ∗ StB c d u 29 ∗ StT c d u 30 ∗ (Cr c d u 30 ∗ Sd c d u 30 ∗ Rv c d u 30 ∗ RH PB Z c d u 29
    ∗ Pb c d u ∗ LdR PB c d u 15 ∗ StB c d u 28) ∗ StP PB Z c d u 28)

theorem finishD (u : Bool) (a b : ℕ) (ha : ph 29 u < a) (hb : ph 29 u < b) :
    Tr PB Z K c (Two c (fun d => iprop(Fly c d u 29 ∗ RestC PB Z c d u 29)) (Ow c a b)) (finishL c (Z c) 29 u)
      (Two c (fun d => Done PB Z c d u) (Ow c a b)) := by
  unfold finishL
  rw [if_neg (by omega), dif_neg (by omega), if_pos (by omega), List.append_nil, List.append_nil]
  refine ((two_same (transW 29 u) (fun d => tr_transW PB Z K c d u 29 _ b (by omega) ha hb _)).conseq
    (BI.Entails.refl _) (two_of fun d => ?_)).seq
    (two_both _ (fun d => tr_storeA PB Z K c d u 29 _ (by omega) (by omega) _ (reach_next PB Z c d u 29 (by omega) _)))
  unfold Got RestC
  iintro ⟨⟨H1, H2, H3, -, -, -, H4, H5⟩, H6, H7, H8, H9, H10⟩
  isplitl [H5]; · iapply (come_slot PB Z c d u 29 (by omega)); iexact H5
  isplitl [H10]; · iexact H10
  isplitr [H9]
  · isplitl [H1]; · iexact H1
    isplitl [H2]; · iexact H2
    isplitl [H3]; · iexact H3
    isplitl [H4]; · iexact H4
    isplitl [H6]; · iexact H6
    isplitl [H7]; · iexact H7
    iexact H8
  iexact H9

/-! ## Whole steps -/

/-- Ready for step `s`; in step `s`. -/
def Ready (d u : Bool) (s : ℕ) : SP F := if s < 15 then ReadyA PB Z c d u s else ReadyC PB Z c d u s
def Flying (d u : Bool) (s : ℕ) : SP F :=
  if s < 15 then iprop(Fly c d u s ∗ RestA PB Z c d u s) else iprop(Fly c d u s ∗ RestC PB Z c d u s)

theorem start (u : Bool) (s a : ℕ) (h : s < 30) (ha : ph s u < a) :
    Tr PB Z K c (Two c (fun d => Ready PB Z c d u s) (Ow c a (ph s u))) (startL c s u)
      (Two c (fun d => Flying PB Z c d u s) (Ow c a (ph s u + 1))) := by
  unfold Ready Flying
  by_cases hs : s < 15
  · simp only [if_pos hs]; exact startA PB Z K c u s a hs ha
  · simp only [if_neg hs]; exact startC PB Z K c u s a (by omega) h ha

theorem finish (u : Bool) (s b : ℕ) (h : s + 1 < 30) (hb : ph s u < b) :
    Tr PB Z K c (Two c (fun d => Flying PB Z c d u s) (Ow c (ph (s + 1) u) b)) (finishL c (Z c) s u)
      (Two c (fun d => Ready PB Z c d u (s + 1)) (Ow c (ph (s + 1) u + 1) b)) := by
  unfold Ready Flying
  rcases lt_trichotomy s 14 with hs | rfl | hs
  · simp only [if_pos (show s < 15 by omega), if_pos (show s + 1 < 15 by omega)]; exact finishA PB Z K c u s b hs hb
  · simp only [if_pos (show 14 < 15 by omega), if_neg (show ¬ 14 + 1 < 15 by omega)]; exact finishB PB Z K c u b hb
  · simp only [if_neg (show ¬ s < 15 by omega), if_neg (show ¬ s + 1 < 15 by omega)]; exact finishC PB Z K c u s b (by omega) h hb

/-- Step `s` is to begin: half 0 under way, half 1 ready. -/
def Mid (s : ℕ) : SP F :=
  iprop(((Flying PB Z c false false s ∗ Flying PB Z c true false s) ∗ (Ready PB Z c false true s ∗ Ready PB Z c true true s))
    ∗ Owe c (Ow c (2 * s + 2) (2 * s + 1)))

/-- A segment of one half, the other half's state framed. -/
theorem Tr.at0 {A B : Bool → SP F} {O O' : CellTallies nD τ sig ℕ} {f : List (P F)} (h : Tr PB Z K c (Two c A O) f (Two c B O')) (R : SP F) :
    Tr PB Z K c iprop(((A false ∗ A true) ∗ R) ∗ Owe c O) f iprop(((B false ∗ B true) ∗ R) ∗ Owe c O') := by
  refine (h.frame R).conseq ?_ ?_
  · unfold Two
    iintro ⟨⟨H, HR⟩, HO⟩
    isplitr [HR]
    · isplitl [H]; · iexact H
      iexact HO
    iexact HR
  · unfold Two
    iintro ⟨⟨H, HO⟩, HR⟩
    isplitr [HO]
    · isplitl [H]; · iexact H
      iexact HR
    iexact HO
theorem Tr.at1 {A B : Bool → SP F} {O O' : CellTallies nD τ sig ℕ} {f : List (P F)} (h : Tr PB Z K c (Two c A O) f (Two c B O')) (R : SP F) :
    Tr PB Z K c iprop((R ∗ (A false ∗ A true)) ∗ Owe c O) f iprop((R ∗ (B false ∗ B true)) ∗ Owe c O') := by
  refine (h.frame R).conseq ?_ ?_
  · unfold Two
    iintro ⟨⟨HR, H⟩, HO⟩
    isplitr [HR]
    · isplitl [H]; · iexact H
      iexact HO
    iexact HR
  · unfold Two
    iintro ⟨⟨H, HO⟩, HR⟩
    isplitr [HO]
    · isplitl [HR]; · iexact HR
      iexact H
    iexact HO

theorem step (s : ℕ) (h : s + 1 < 30) : Tr PB Z K c (Mid PB Z c s) (stepL c (Z c) s) (Mid PB Z c (s + 1)) := by
  unfold Mid stepL
  rw [if_pos h]
  have e0 : ∀ t, ph t false = 2 * t := fun t => rfl
  have e1 : ∀ t, ph t true = 2 * t + 1 := fun t => rfl
  have s1 := start PB Z K c true s (2 * s + 2) (by omega) (by rw [e1]; omega)
  have f0 := finish PB Z K c false s (2 * s + 2) h (by rw [e0]; omega)
  have s0 := start PB Z K c false (s + 1) (2 * s + 3) h (by rw [e0]; omega)
  have f1 := finish PB Z K c true s (2 * s + 3) h (by rw [e1]; omega)
  rw [e1] at s1 f1
  rw [e0] at f0 s0
  exact ((((s1.at1 PB Z K c _).seq (f0.at0 PB Z K c _)).seq (s0.at0 PB Z K c _)).seq (f1.at1 PB Z K c _))

theorem steps (n s : ℕ) (h : s + n < 30) : Tr PB Z K c (Mid PB Z c s) (stepsL c (Z c) s n) (Mid PB Z c (s + n)) := by
  induction n generalizing s with
  | zero => exact Tr.of (BI.Entails.refl _)
  | succ n ih =>
    have e : s + (n + 1) = s + 1 + n := by omega
    rw [e]
    exact (step PB Z K c s (by omega)).seq (ih (s + 1) (by omega))

theorem stepLast : Tr PB Z K c (Mid PB Z c 29) (stepL c (Z c) 29)
    iprop(((Done PB Z c false false ∗ Done PB Z c true false) ∗ (Done PB Z c false true ∗ Done PB Z c true true)) ∗ Owe c (Ow c 60 60)) := by
  unfold Mid stepL
  rw [if_neg (by omega), List.append_nil]
  have s1 := start PB Z K c true 29 60 (by omega) (by decide)
  have f0 := finishD PB Z K c false 60 60 (by decide) (by decide)
  have f1 := finishD PB Z K c true 60 60 (by decide) (by decide)
  have e : ∀ d u, Flying PB Z c d u 29 = iprop(Fly c d u 29 ∗ RestC PB Z c d u 29) := fun d u => if_neg (by omega)
  simp only [e] at s1 ⊢
  exact ((s1.at1 PB Z K c _).seq (f0.at0 PB Z K c _)).seq (f1.at1 PB Z K c _)

theorem stepsL_append (z : F .f32) (n m s : ℕ) : stepsL c z s (n + m) = stepsL c z s n ++ stepsL c z (s + n) m := by
  induction n generalizing s with
  | zero => rw [Nat.zero_add]; rfl
  | succ n ih =>
    rw [show n + 1 + m = (n + m) + 1 by omega]
    show stepL c z s ++ stepsL c z (s + 1) (n + m) = (stepL c z s ++ stepsL c z (s + 1) n) ++ _
    rw [ih, List.append_assoc, show s + 1 + n = s + (n + 1) by omega]

theorem ring : Tr PB Z K c (Mid PB Z c 0) (stepsL c (Z c) 0 30)
    iprop(((Done PB Z c false false ∗ Done PB Z c true false) ∗ (Done PB Z c false true ∗ Done PB Z c true true)) ∗ Owe c (Ow c 60 60)) := by
  rw [show 30 = 29 + 1 from rfl, stepsL_append]
  refine (steps PB Z K c 29 0 (by omega)).seq ?_
  have := stepLast PB Z K c
  rw [← List.append_nil (stepL c (Z c) 29)] at this
  exact this

end Cert.KernelIdeal.Ring

end
-- ==== Proof.Slots.lean ====
/-
  The buffers cut into the pieces the lanes hold: a whole slot into its two halves, a communication buffer into four half
  slots, a partial-sum buffer into its two slots, the partial product and the result into the lanes' pieces.
-/
module

public import proofs.«01_k».proof.Proof.Loop
public import Idealize.SL.BI.BigOpNat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (PB : Dev nD → FVec F S4096x8192 .f32) (Z : Dev nD → F .f32) (c : Dev nD)

/-! ## A slot's halves -/

def halfOff (u : Bool) : Fin 2 → Nat := ![0, cond u 2048 0]
theorem halfOff_inb : ∀ u : Bool, ∀ a, halfOff u a + S256x2048.size a ≤ S256x4096.size a := by decide
abbrev halfR (u : Bool) : Rect S256x4096 := Rect.unit (s := S256x4096) (halfOff u) S256x2048.size (halfOff_inb u)
abbrev wholeR : Rect S2x256x4096 := Rect.unit (s := S2x256x4096) ![0, 0, 0] S1x256x4096.size inb_S2x256x4096_S1x256x4096_0_0_0

/-- A matrix's index in front of which a unit axis is put. -/
theorem lead_val {m n : ℕ} (h : (⟨2, ![m, n]⟩ : Shape).numel = (⟨3, ![1, m, n]⟩ : Shape).numel) (x : (⟨2, ![m, n]⟩ : Shape).Idx) :
    (Shape.reshapeEquiv h x 0).val = 0 ∧ (Shape.reshapeEquiv h x 1).val = (x 0).val ∧ (Shape.reshapeEquiv h x 2).val = (x 1).val := by
  have e := Shape.rowMajor_reshapeEquiv h x
  rw [Shape.rowMajor_val_three, Shape.rowMajor_val_two] at e
  have h0 : (Shape.reshapeEquiv h x 0).val < 1 := (Shape.reshapeEquiv h x 0).isLt
  have h1 : (Shape.reshapeEquiv h x 1).val < m := (Shape.reshapeEquiv h x 1).isLt
  have h2 : (Shape.reshapeEquiv h x 2).val < n := (Shape.reshapeEquiv h x 2).isLt
  have h3 : (x 1).val < n := (x 1).isLt
  have z : (Shape.reshapeEquiv h x 0).val = 0 := by omega
  have e' : (Shape.reshapeEquiv h x 1).val * n + (Shape.reshapeEquiv h x 2).val = (x 0).val * n + (x 1).val := by
    rw [z, Nat.zero_mul, Nat.zero_add] at e; exact e
  have q := congrArg (· / n) e'
  have r := congrArg (· % n) e'
  simp only at q r
  rw [Nat.mul_comm _ n, Nat.mul_comm _ n, Nat.mul_add_div (by omega), Nat.mul_add_div (by omega), Nat.div_eq_of_lt h2, Nat.div_eq_of_lt h3] at q
  rw [Nat.mul_comm _ n, Nat.mul_comm _ n, Nat.mul_add_mod, Nat.mul_add_mod, Nat.mod_eq_of_lt h2, Nat.mod_eq_of_lt h3] at r
  exact ⟨z, by omega, r⟩

theorem half_at (u : Bool) (x : S256x2048.Idx) :
    (slotRect false u).emb (Shape.reshapeEquiv squeezes_S1x256x2048_S256x2048.numel_eq x)
      = wholeR.emb (Shape.reshapeEquiv squeezes_S1x256x4096_S256x4096.numel_eq ((halfR u).emb x)) := by
  obtain ⟨a0, a1, a2⟩ := lead_val (m := 256) (n := 2048) squeezes_S1x256x2048_S256x2048.numel_eq x
  obtain ⟨b0, b1, b2⟩ := lead_val (m := 256) (n := 4096) squeezes_S1x256x4096_S256x4096.numel_eq ((halfR u).emb x)
  funext a
  apply Fin.ext
  revert a
  refine Fin.forall_fin_succ.mpr ⟨?_, Fin.forall_fin_two.mpr ⟨?_, ?_⟩⟩
  · show 0 + 1 * _ = 0 + 1 * _
    rw [Nat.one_mul, Nat.one_mul]; exact congrArg _ (a0.trans b0.symm)
  · show 0 + 1 * _ = 0 + 1 * _
    rw [Nat.one_mul, Nat.one_mul]
    refine congrArg _ (a1.trans (Eq.trans ?_ b1.symm))
    show _ = 0 + 1 * (x 0).val
    omega
  · show cond u 2048 0 + 1 * _ = 0 + 1 * _
    rw [Nat.one_mul, Nat.one_mul, Nat.zero_add]
    refine Eq.trans (congrArg _ a2) (Eq.trans ?_ b2.symm)
    show _ = cond u 2048 0 + 1 * (x 1).val
    omega

theorem commV_emb (d u : Bool) (x : S256x2048.Idx) :
    (commV d false u).view.emb x = ((commW d).slice (halfR u) (fun _ => rfl)).view.emb x :=
  congrArg (commM d).view.emb (half_at u x)

/-- A half of slot 0 is the slice of the slot. -/
theorem owns_half (d u : Bool) (q : PosShare TreeShare) (X : FVec F S256x2048 .f32) :
    (owns (c : Thread nD τ) ((commW d).slice (halfR u) (fun _ => rfl)) q X : sProp 𝕄) ⊢ owns (c : Thread nD τ) (commV d false u) q X := by
  have hs : (commV d false u).view.set = ((commW d).slice (halfR u) (fun _ => rfl)).view.set :=
    congrArg (fun e => Finset.map e Finset.univ) (Function.Embedding.ext (commV_emb d u))
  have hr (f : (commM d).view.ty.Contents (Elt F)) : (commV d false u).view.read (Elt F) f = ((commW d).slice (halfR u) (fun _ => rfl)).view.read (Elt F) f :=
    funext fun x => congrArg (fun i => _root_.cast (congrArg (Elt F) (commV d false u).view.elt_eq) (f i)) (commV_emb d u x)
  unfold owns
  iintro ⟨%f, %hf, H⟩
  iexists f
  isplitr
  · ipureintro; exact (hr f).trans hf
  rw [hs]
  iexact H

theorem half_cover : (Finset.univ.biUnion fun u => (halfR u).set) = Finset.univ := by
  refine Finset.eq_univ_of_forall fun i => Finset.mem_biUnion.mpr ?_
  have h0 : (i 0).val < 256 := (i 0).isLt
  have h1 : (i 1).val < 4096 := (i 1).isLt
  by_cases h : (i 1).val < 2048
  · refine ⟨false, Finset.mem_univ _, Rect.mem_set_unit.mpr (Fin.forall_fin_two.mpr ⟨?_, ?_⟩)⟩
    · show 0 ≤ _ ∧ _ < 0 + 256; omega
    · show 0 ≤ _ ∧ _ < 0 + 2048; omega
  · refine ⟨true, Finset.mem_univ _, Rect.mem_set_unit.mpr (Fin.forall_fin_two.mpr ⟨?_, ?_⟩)⟩
    · show 0 ≤ _ ∧ _ < 0 + 256; omega
    · show 2048 ≤ _ ∧ _ < 2048 + 2048; omega

theorem half_disjoint (u u' : Bool) (h : u ≠ u') : Disjoint (halfR u).set (halfR u').set := by
  refine Finset.disjoint_left.mpr fun i hi hi' => h ?_
  have e := (Fin.forall_fin_two.mp (Rect.mem_set_unit.mp hi)).2
  have e' := (Fin.forall_fin_two.mp (Rect.mem_set_unit.mp hi')).2
  replace e : cond u 2048 0 ≤ (i 1).val ∧ (i 1).val < cond u 2048 0 + 2048 := e
  replace e' : cond u' 2048 0 ≤ (i 1).val ∧ (i 1).val < cond u' 2048 0 + 2048 := e'
  cases u <;> cases u' <;> first | rfl | (simp only [cond_true, cond_false] at e e'; omega)

theorem oc_half (k : Dev nD) (d u : Bool) {α : Type} (f : S4096x8192.Idx → α) : (fun x => oc k d f ((halfR u).emb x)) = pc k d u f := by
  funext x
  refine congrArg f ?_
  funext a
  apply Fin.ext
  revert a
  refine Fin.forall_fin_two.mpr ⟨?_, ?_⟩
  · show 256 * k.val + 1 * (0 + 1 * _) = 256 * k.val + 1 * _; omega
  · show cond d 4096 0 + 1 * (cond u 2048 0 + 1 * _) = cond d 4096 0 + cond u 2048 0 + 1 * _; omega

theorem bigSep_bool (Φ : Bool → sProp 𝕄) : bigSep Finset.univ Φ = iprop(Φ false ∗ Φ true) := by
  rw [show (Finset.univ : Finset Bool) = {false, true} from by decide, bigSep_insert (by decide), bigSep_singleton]; rfl

/-- The own chunk in slot 0 is what both lanes hold at step 0. -/
theorem own_slots (d : Bool) : (owns (c : Thread nD τ) (commW d) fullShare (oc c d (PB c)) : sProp 𝕄)
    ⊢ iprop(Slot PB Z c d false 0 ∗ Slot PB Z c d true 0) := by
  refine (owns_rects (c : Thread nD τ) (commW d) fullShare halfR (fun _ _ => rfl) half_disjoint half_cover _).trans ?_
  rw [bigSep_bool, oc_half, oc_half]
  exact BIClass.sep_mono (owns_half c d false _ _) (owns_half c d true _ _)

/-! ## Joining at whatever contents -/

theorem any_join {T : Type} [DecidableEq T] (ℓ : Loc nD τ sig) (q : PosShare TreeShare) (S : Finset T) (K : T → Finset (Idx ℓ)) (f₀ : Buf (Elt F) ℓ)
    (h : ∀ t ∈ S, ∀ t' ∈ S, t ≠ t' → Disjoint (K t) (K t')) :
    bigSep S (fun t => iprop(∃ f, ℓ ↦[K t]{q} f)) ⊢ (iprop(∃ f, ℓ ↦[S.biUnion K]{q} f) : sProp 𝕄) := by
  induction S using Finset.induction_on with
  | empty =>
    iintro -
    iexists f₀
    rw [Finset.biUnion_empty, pointsTo_empty]
    iempintro
  | insert t S ht ih =>
    rw [bigSep_insert ht, Finset.biUnion_insert]
    show iprop(iprop(∃ f, ℓ ↦[K t]{q} f) ∗ bigSep S fun t => iprop(∃ f, ℓ ↦[K t]{q} f)) ⊢ (_ : sProp 𝕄)
    iintro ⟨⟨%f, Hf⟩, H⟩
    ihave H := (ih fun x hx y hy => h x (Finset.mem_insert_of_mem hx) y (Finset.mem_insert_of_mem hy)) $$ H
    icases H with ⟨%g, Hg⟩
    iexists _
    iapply (pointsTo_join (f := f) (g := g) (Finset.disjoint_biUnion_right _ _ _ |>.mpr fun y hy =>
      h t (Finset.mem_insert_self _ _) y (Finset.mem_insert_of_mem hy) fun e => ht (e ▸ hy)))
    isplitl [Hf]; · iexact Hf
    iexact Hg

/-- A memref's elements at whatever contents. -/
def anyOf {sp : Space} {sh : Shape} (m : Memref sig .tc sp sh .f32) : sProp 𝕄 := iprop(∃ f, m.view.loc (c : Thread nD τ) ↦[m.view.set]{fullShare} f)

theorem anyOf_owns {sp : Space} {sh : Shape} (m : Memref sig .tc sp sh .f32) :
    (anyOf c m : sProp 𝕄) ⊣⊢ iprop(∃ X, owns (c : Thread nD τ) m fullShare X) := by
  unfold anyOf owns
  constructor
  · iintro ⟨%f, H⟩
    iexists (m.view.read (Elt F) f)
    iexists f
    isplitr
    · ipureintro; rfl
    iexact H
  · iintro ⟨%X, %f, -, H⟩
    iexists f
    iexact H

theorem any_rects {sp : Space} {sh : Shape} (m : Memref sig .tc sp sh .f32) {T : Type} [Fintype T] [DecidableEq T] (r : T → Rect sh)
    (hr : ∀ t a, (r t).stride a = 1) (hd : ∀ t t', t ≠ t' → Disjoint (r t).set (r t').set) (hc : (Finset.univ.biUnion fun t => (r t).set) = Finset.univ) :
    (anyOf c m : sProp 𝕄) ⊣⊢ bigSep Finset.univ fun t => anyOf c (m.slice (r t) (hr t)) := by
  have hd' : ∀ t ∈ (Finset.univ : Finset T), ∀ t' ∈ (Finset.univ : Finset T), t ≠ t' →
      Disjoint (m.slice (r t) (hr t)).view.set (m.slice (r t') (hr t')).view.set := fun t _ t' _ h => by
    show Disjoint (m.view.slice (r t)).set (m.view.slice (r t')).set
    rw [View.set_slice, View.set_slice]; exact (Finset.disjoint_map _).mpr (hd t t' h)
  have hc' : (Finset.univ : Finset T).biUnion (fun t => (m.slice (r t) (hr t)).view.set) = m.view.set := by
    show (Finset.univ : Finset T).biUnion (fun t => (m.view.slice (r t)).set) = Finset.univ.map m.view.emb
    rw [← hc, Finset.map_eq_image, Finset.biUnion_image]
    refine Finset.biUnion_congr rfl fun t _ => ?_
    rw [View.set_slice, Finset.map_eq_image]
  constructor
  · unfold anyOf
    iintro ⟨%f, H⟩
    rw [← hc']
    ihave H := (Entails.of_eq (pointsTo_biUnion (q := fullShare) (f := f) (ℓ := m.view.loc (c : Thread nD τ)) Finset.univ
      (fun t => (m.slice (r t) (hr t)).view.set) hd')) $$ H
    have key : bigSep Finset.univ (fun t => (m.view.loc (c : Thread nD τ) ↦[(m.slice (r t) (hr t)).view.set]{fullShare} f : sProp 𝕄))
        ⊢ bigSep Finset.univ fun t => iprop(∃ f, (m.slice (r t) (hr t)).view.loc (c : Thread nD τ) ↦[(m.slice (r t) (hr t)).view.set]{fullShare} f) :=
      bigSep_mono fun t _ => (show (m.view.loc (c : Thread nD τ) ↦[(m.slice (r t) (hr t)).view.set]{fullShare} f : sProp 𝕄)
        ⊢ iprop(∃ f, (m.slice (r t) (hr t)).view.loc (c : Thread nD τ) ↦[(m.slice (r t) (hr t)).view.set]{fullShare} f) by
          iintro H; iexists f; iexact H)
    iapply key
    iexact H
  · refine (any_join (m.view.loc (c : Thread nD τ)) fullShare Finset.univ (fun t => (m.slice (r t) (hr t)).view.set)
      (fun _ => _root_.cast (congrArg (Elt F) m.view.elt_eq).symm (Scalar.ofBits .f32 0x00000000#32 : F .f32)) hd').trans ?_
    rw [hc']
    exact BI.Entails.refl _

/-! ## The communication buffers and the partial-sum buffers -/

theorem any_slot (d b u : Bool) : (anyOf c ((commM d).slice (slotRect b u) (fun _ => rfl)) : sProp 𝕄) = anyOf c (commV d b u) := by
  unfold anyOf; rw [set_comm]; rfl
theorem any_pslot (d u : Bool) : (anyOf c ((pbufM d).slice (pbufRect u) (fun _ => rfl)) : sProp 𝕄) = anyOf c (pbufV d u) := by
  unfold anyOf; rw [set_pbuf]; rfl
theorem any_half (d u : Bool) : (anyOf c ((commW d).slice (halfR u) (fun _ => rfl)) : sProp 𝕄) = anyOf c (commV d false u) := by
  have hs : (commV d false u).view.set = ((commW d).slice (halfR u) (fun _ => rfl)).view.set :=
    congrArg (fun e => Finset.map e Finset.univ) (Function.Embedding.ext (commV_emb d u))
  unfold anyOf; rw [hs]; rfl

/-- A communication buffer is its four half slots. -/
theorem comm_slots (d : Bool) : (anyOf c (commM d) : sProp 𝕄)
    ⊣⊢ iprop((anyOf c (commV d false false) ∗ anyOf c (commV d false true)) ∗ (anyOf c (commV d true false) ∗ anyOf c (commV d true true))) := by
  have h := any_rects (F := F) c (commM d) (fun x : Bool × Bool => slotRect x.1 x.2) (fun _ _ => rfl)
    (fun t t' h => slot_disjoint t (Finset.mem_univ _) t' (Finset.mem_univ _) h) slot_cover
  rw [bigSep_univ_prod, bigSep_bool, bigSep_bool, bigSep_bool] at h
  simp only [any_slot] at h
  exact h
theorem comm_whole (d : Bool) : (anyOf c (commW d) : sProp 𝕄) ⊣⊢ iprop(anyOf c (commV d false false) ∗ anyOf c (commV d false true)) := by
  have h := any_rects (F := F) c (commW d) halfR (fun _ _ => rfl) half_disjoint half_cover
  rw [bigSep_bool] at h
  simp only [any_half] at h
  exact h
/-- A partial-sum buffer is its two slots. -/
theorem pbuf_slots (d : Bool) : (anyOf c (pbufM d) : sProp 𝕄) ⊣⊢ iprop(anyOf c (pbufV d false) ∗ anyOf c (pbufV d true)) := by
  have h := any_rects (F := F) c (pbufM d) pbufRect (fun _ _ => rfl)
    (fun t t' h => pbuf_disjoint t (Finset.mem_univ _) t' (Finset.mem_univ _) h) pbuf_cover
  rw [bigSep_bool] at h
  simp only [any_pslot] at h
  exact h

/-! ## Runs of sixteen -/

theorem bigSep_fin_Ico (n : ℕ) (A : ℕ → sProp 𝕄) : bigSep (Finset.univ : Finset (Fin n)) (fun i => A i.val) = bigSep (Finset.Ico 0 n) A := by
  have e : (Finset.univ : Finset (Fin n)).map Fin.valEmbedding = Finset.Ico 0 n := by
    ext x; simp only [Finset.mem_map, Finset.mem_univ, true_and, Fin.valEmbedding_apply, Finset.mem_Ico]
    exact ⟨fun ⟨i, h⟩ => by have := i.isLt; omega, fun h => ⟨⟨x, h.2⟩, rfl⟩⟩
  rw [← e, bigSep_map]; rfl
theorem bigSep_shift (A : ℕ → sProp 𝕄) (a b k : ℕ) : bigSep (Finset.Ico a b) (fun g => A (g + k)) = bigSep (Finset.Ico (a + k) (b + k)) A := by
  have e : (Finset.Ico a b).map (addRightEmbedding k) = Finset.Ico (a + k) (b + k) := by
    ext x; simp only [Finset.mem_map, addRightEmbedding_apply, Finset.mem_Ico]
    exact ⟨fun ⟨i, h⟩ => by omega, fun h => ⟨x - k, by omega⟩⟩
  rw [← e, bigSep_map]; rfl

/-- Each chunk passes a device once in sixteen steps. -/
theorem chunk_bij (d : Bool) (c : Dev nD) (k : ℕ) : Function.Bijective fun i : Fin 16 => chunk d (i.val + k) c := by
  refine Function.Injective.bijective_of_finite fun i j h => ?_
  have hi := i.isLt
  have hj := j.isLt
  have h' : (chunk d (i.val + k) c).val = (chunk d (j.val + k) c).val := congrArg Fin.val h
  apply Fin.ext
  cases d
  · rw [chunk_false, chunk_false] at h'; omega
  · rw [chunk_true, chunk_true] at h'; omega
theorem bigSep_chunks (d : Bool) (k : ℕ) (A : Dev nD → sProp 𝕄) :
    bigSep Finset.univ A = bigSep (Finset.Ico k (16 + k)) fun s => A (chunk d s c) := by
  rw [bigSep_univ_equiv (Equiv.ofBijective _ (chunk_bij d c k)) A]
  refine (bigSep_fin_Ico 16 fun i => A (chunk d (i + k) c)).trans ?_
  rw [bigSep_shift (fun s => A (chunk d s c)) 0 16 k, Nat.zero_add]

/-! ## The pieces of the partial product and of the result -/

abbrev pieceT : Bool × Bool × Dev nD → Rect S4096x8192 := fun t => pieceR t.2.2 t.1 t.2.1
theorem piece_cover : (Finset.univ.biUnion fun t => (pieceT t).set) = Finset.univ := by
  refine Finset.eq_univ_of_forall fun i => Finset.mem_biUnion.mpr ?_
  have h0 : (i 0).val < 4096 := (i 0).isLt
  have h1 : (i 1).val < 8192 := (i 1).isLt
  refine ⟨(decide (2 ≤ (i 1).val / 2048), decide ((i 1).val / 2048 % 2 = 1), (⟨(i 0).val / 256, by unfold nD; omega⟩ : Dev nD)),
    Finset.mem_univ _, (mem_piece _ _ _ _).mpr ⟨rfl, ?_⟩⟩
  by_cases h : 2 ≤ (i 1).val / 2048 <;> by_cases h' : (i 1).val / 2048 % 2 = 1 <;>
    simp only [h, h', decide_true, decide_false, cond_true, cond_false] <;> omega
theorem piece_disjoint (t t' : Bool × Bool × Dev nD) (hne : t ≠ t') : Disjoint (pieceT t).set (pieceT t').set := by
  obtain ⟨d, u, k⟩ := t
  obtain ⟨d', u', k'⟩ := t'
  refine Finset.disjoint_left.mpr fun i hi hi' => hne ?_
  have h := (mem_piece _ _ _ _).mp hi
  have h' := (mem_piece _ _ _ _).mp hi'
  have e : cond d 2 0 + cond u 1 0 = cond d' 2 0 + cond u' 1 0 := h.2.symm.trans h'.2
  have hd : d = d' ∧ u = u' := by revert e; clear * -; revert d u d' u'; decide
  obtain ⟨rfl, rfl⟩ := hd
  rw [show k = k' from Fin.ext (h.1.symm.trans h'.1)]

/-- The result's array at whatever contents is the lanes' pieces. -/
theorem out_split : (anyOf c outM : sProp 𝕄) ⊢ bigSep Finset.univ fun d => bigSep Finset.univ fun u =>
    bigSep (Finset.Ico 14 30) fun s => anyOf c (pieceM outM (chunk d (s + 1) c) d u) := by
  refine (any_rects (F := F) c outM pieceT (fun _ _ => rfl) piece_disjoint piece_cover).1.trans (Entails.of_eq ?_)
  rw [bigSep_univ_prod]
  refine bigSep_congr fun d _ => ?_
  rw [bigSep_univ_prod]
  refine bigSep_congr fun u _ => ?_
  rw [bigSep_shift (fun s => anyOf c (pieceM outM (chunk d s c) d u)) 14 30 1]
  exact bigSep_chunks c d 15 fun k => anyOf c (pieceM outM k d u)

/-- The finished result: what the device that finished a chunk holds of it. -/
def Res : FVec F S4096x8192 .f32 := fun i =>
  W PB Z (decide (4096 ≤ (i 1).val)) 15 (prv ⟨(i 0).val / 256, by have : (i 0).val < 4096 := (i 0).isLt; unfold nD; omega⟩ (decide (4096 ≤ (i 1).val))) i

theorem chunk_last : ∀ (d : Bool) (c : Dev nD), prv (chunk d 15 c) d = c := by decide +kernel

theorem val_res (d u : Bool) (s : ℕ) (c : Dev nD) : val PB Z d u (s + 15) c = pc (chunk d (s + 15) c) d u (Res PB Z) := by
  induction s generalizing c with
  | zero =>
    rw [Nat.zero_add]
    funext x
    have h0 : (x 0).val < 256 := (x 0).isLt
    have h1 : (x 1).val < 2048 := (x 1).isLt
    have e0 : (((pieceR (chunk d 15 c) d u).emb x) 0).val = 256 * (chunk d 15 c).val + 1 * (x 0).val := rfl
    have e1 : (((pieceR (chunk d 15 c) d u).emb x) 1).val = cond d 4096 0 + cond u 2048 0 + 1 * (x 1).val := rfl
    have hd : decide (4096 ≤ (((pieceR (chunk d 15 c) d u).emb x) 1).val) = d := by
      rw [e1]; cases d <;> cases u <;> simp only [cond_true, cond_false, decide_eq_true_eq, decide_eq_false_iff_not] <;> omega
    have hk (p) : (⟨(((pieceR (chunk d 15 c) d u).emb x) 0).val / 256, p⟩ : Dev nD) = chunk d 15 c := by
      apply Fin.ext
      show (((pieceR (chunk d 15 c) d u).emb x) 0).val / 256 = _
      rw [e0]; omega
    unfold val pc Res
    rw [hd, hk, chunk_last]
  | succ s ih =>
    rw [show s + 1 + 15 = s + 15 + 1 by omega, val_pass PB Z d u (s + 15) c (by omega), ih]; rfl

/-- The lanes' finished pieces are the result's array at the finished result. -/
theorem out_join : (bigSep Finset.univ fun d => bigSep Finset.univ fun u => bigSep (Finset.Ico 14 30) fun s => outP PB Z c d u (s + 1))
    ⊢ (owns (c : Thread nD τ) outM fullShare (Res PB Z) : sProp 𝕄) := by
  refine (Entails.of_eq ?_).trans (owns_of_rects (Val := Elt F) (c : Thread nD τ) outM fullShare pieceT (fun _ _ => rfl) piece_disjoint piece_cover (Res PB Z))
  rw [bigSep_univ_prod]
  refine bigSep_congr fun d _ => ?_
  rw [bigSep_univ_prod]
  refine bigSep_congr fun u _ => ?_
  refine Eq.trans ?_ (bigSep_chunks c d 15 fun k => (owns (c : Thread nD τ) (pieceM outM k d u) fullShare (pc k d u (Res PB Z)) : sProp 𝕄)).symm
  rw [← bigSep_shift (fun s => (owns (c : Thread nD τ) (pieceM outM (chunk d s c) d u) fullShare (pc (chunk d s c) d u (Res PB Z)) : sProp 𝕄)) 14 30 1]
  refine bigSep_congr fun s hs => ?_
  rw [Finset.mem_Ico] at hs
  obtain ⟨t, rfl⟩ : ∃ t, s = t + 14 := ⟨s - 14, by omega⟩
  rw [show t + 14 + 1 = t + 15 by omega]
  show (owns (c : Thread nD τ) (pieceM outM (chunk d (t + 15) c) d u) fullShare (val PB Z d u (t + 15) c) : sProp 𝕄) = _
  rw [val_res]

theorem own_pieces (k : Dev nD) (d : Bool) : (ownR k d).set = (pieceR k d false).set ∪ (pieceR k d true).set := by
  ext i
  rw [Finset.mem_union, mem_piece, mem_piece, Rect.mem_set_unit]
  refine Iff.trans Fin.forall_fin_two ?_
  show (256 * k.val ≤ (i 0).val ∧ (i 0).val < 256 * k.val + 256) ∧ (cond d 4096 0 ≤ (i 1).val ∧ (i 1).val < cond d 4096 0 + 4096) ↔ _
  cases d <;> simp only [cond_true, cond_false] <;> omega

theorem sep_four (A B C D : sProp 𝕄) : iprop((A ∗ B) ∗ C ∗ D) = iprop((A ∗ C) ∗ B ∗ D) := by
  have h (A B C D : sProp 𝕄) : iprop((A ∗ B) ∗ C ∗ D) ⊢ iprop((A ∗ C) ∗ B ∗ D) := by
    iintro ⟨⟨H1, H2⟩, H3, H4⟩
    isplitl [H1 H3]
    · isplitl [H1]; · iexact H1
      iexact H3
    isplitl [H2]; · iexact H2
    iexact H4
  exact equiv_iff.mp ⟨h A B C D, h A C B D⟩

theorem part_biUnion {T : Type} (S : Finset T) (A : T → Finset S4096x8192.Idx) (h : ∀ t ∈ S, ∀ t' ∈ S, t ≠ t' → Disjoint (A t) (A t')) :
    (partS PB c (S.biUnion A) : sProp 𝕄) = bigSep S fun t => partS PB c (A t) :=
  pointsTo_biUnion (ℓ := partM.view.loc (c : Thread nD τ)) S A h
theorem part_union {A B : Finset S4096x8192.Idx} (h : Disjoint A B) :
    (partS PB c (A ∪ B) : sProp 𝕄) = iprop(partS PB c A ∗ partS PB c B) :=
  by
  have e := pointsTo_union (ℓ := partM.view.loc (c : Thread nD τ)) (q := fullShare) (f := PB c) (Val := Elt F) (Name := ℕ) (Lvl := ℕ) (Ix := ℕ) (U := UU) h
  exact equiv_iff.mp ⟨e.1, e.2⟩

/-- The partial product is the own chunks and the lanes' pieces. -/
theorem part_pieces : (partS PB c Finset.univ : sProp 𝕄) = bigSep Finset.univ fun d =>
    iprop(partS PB c (ownR c d).set ∗ (bigSep (Finset.Ico 0 15) fun r => partP PB c d false (r + 1)) ∗ bigSep (Finset.Ico 0 15) fun r => partP PB c d true (r + 1)) := by
  have h : (partS PB c Finset.univ : sProp 𝕄) = bigSep Finset.univ fun t => partS PB c (pieceT t).set := by
    rw [← part_biUnion PB c Finset.univ (fun t => (pieceT t).set) fun t _ t' _ h => piece_disjoint t t' h, piece_cover]
  have h' (d u : Bool) : (bigSep Finset.univ fun k : Dev nD => partS PB c (pieceR k d u).set : sProp 𝕄)
      = iprop(partP PB c d u 0 ∗ bigSep (Finset.Ico 0 15) fun r => partP PB c d u (r + 1)) := by
    rw [bigSep_chunks c d 0, bigSep_Ico_succ_bot (by omega), bigSep_shift (fun s => partP PB c d u s) 0 15 1]
  have ho (d : Bool) : (partS PB c (ownR c d).set : sProp 𝕄) = iprop(partP PB c d false 0 ∗ partP PB c d true 0) := by
    rw [own_pieces]
    exact part_union PB c (piece_disjoint (d, false, c) (d, true, c) fun e => Bool.noConfusion (congrArg (fun t => t.2.1) e))
  rw [h, bigSep_univ_prod]
  refine bigSep_congr fun d _ => ?_
  rw [bigSep_univ_prod, bigSep_bool, ho]
  show iprop((bigSep Finset.univ fun k : Dev nD => partS PB c (pieceR k d false).set) ∗ bigSep Finset.univ fun k : Dev nD => partS PB c (pieceR k d true).set) = _
  rw [h', h']
  exact sep_four _ _ _ _

end Cert.KernelIdeal.Ring

end
-- ==== Proof.Ends.lean ====
/-
  What comes before the ring (the own chunks loaded, the barrier, the first credits, the start of half 0) and what comes
  after it (the waits for the last stores).
-/
module

public import proofs.«01_k».proof.Proof.Slots

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (PB : Dev nD → FVec F S4096x8192 .f32) (Z : Dev nD → F .f32) (K : GSem nD τ sig → ℕ) (c : Dev nD) (d u : Bool)

/-! ## Before the ring -/

/-- A lane's share, but for its load position and the slot it reads at step 0. -/
def Base : SP F := iprop(Cr c d u 0 ∗ Sd c d u 0 ∗ Rv c d u 0 ∗ Fr c d u 0 ∗ Pb c d u ∗ (LdT PB c d u 0 ∗ LdD PB c d u 0)
  ∗ StP PB Z c d u 14 ∗ StT c d u 14 ∗ ∃ X, owns (c : Thread nD τ) (commV d true u) fullShare X)
/-- A direction's share at the outset. -/
def Pre : SP F := iprop((dutyTok ER (gc c (.load d false)) 0 false ∗ (∃ X, owns (c : Thread nD τ) (commW d) fullShare X) ∗ partS PB c (ownR c d).set
  ∗ at' c (.load d false) 0) ∗ (at' c (.load d true) 0 ∗ Base PB Z c d false ∗ Base PB Z c d true))
def PreB : SP F := iprop((cred (tallyAt (gc c (.load d false)) 0 (NW d)) ∗ at' c (.load d false) 0)
  ∗ (at' c (.load d true) 0 ∗ Base PB Z c d false ∗ Base PB Z c d true))
def PreC : SP F := iprop((at' c (.load d false) 1 ∗ ownP PB c d) ∗ (at' c (.load d true) 0 ∗ Base PB Z c d false ∗ Base PB Z c d true))

theorem units_own : (Cell.load d false).units 0 = NW d := by
  show (if false = false ∧ 0 = 0 then NW d else NP d) = NW d
  exact if_pos ⟨rfl, rfl⟩
theorem bar_duty (x : Bool) : x ∈ Cell.bar.duties 0 := by
  show x ∈ (Finset.univ : Finset Bool)
  exact Finset.mem_univ x

theorem own_src : partS PB c (ownR c d).set
    ⊢ ((ownM c d).view.loc (c : Thread nD τ) ↦[(ownM c d).view.set]{fullShare} PB c : sProp 𝕄) := by
  rw [set_own]; exact BI.Entails.refl _

theorem tr_ownA (O : CellTallies nD τ sig ℕ) : Tr PB Z K c iprop(Pre PB Z c d ∗ Owe c O) [copyA (ownV c d) (commW d) (loadS d false) ⟨Or.inl rfl, trivial⟩]
    iprop(PreB PB Z c d ∗ Owe c O) := by
  intro l Q
  unfold Pre PreB at'
  rw [ownV_eq]
  iintro ⟨#HC, ⟨⟨Ht, Hd, Hs, Ha, #Hr⟩, HR⟩, HO⟩ Hk
  iapply (copy PB Z K c (ownM c d) (commW d) (loadS d false) ⟨Or.inl rfl, trivial⟩ (.load d false) rfl (by simp) 0 (show 0 < 16 by omega)
    ((NW_eq d).trans (units_own d).symm) fullShare (PB c) (by
      rw [pay_own, set_own, read_own]
      exact BI.Entails.refl _) l Q) $$ [Ht Hd Hs]
  · isplitr; · iexact HC
    isplitl [Hs]
    · iapply (own_src PB c d); iexact Hs
    isplitl [Hd]; · iexact Hd
    isplitl [Ht]; · iexact Ht
    iexact Hr
  rw [units_own]
  iintro Hc
  iapply Hk
  isplitr [HO]
  · isplitr [HR]
    · isplitl [Hc]; · iexact Hc
      isplitl [Ha]; · iexact Ha
      iexact Hr
    iexact HR
  iexact HO

theorem tr_ownW (a b : ℕ) : Tr PB Z K c iprop(PreB PB Z c d ∗ Owe c (Ow c a b)) [waitA (loadS d false) (ownV c d) (commW d)]
    iprop(PreC PB Z c d ∗ Owe c (Ow c a b)) := by
  intro l Q
  unfold PreB PreC waitA
  iintro ⟨#HC, ⟨⟨Hc, Ha⟩, HR⟩, HO⟩ Hk
  iapply (wait PB Z K c (.load d false) 0 0 a b (by simp) (show 0 < 16 by omega) (by omega) (by show 0 < _; omega) (by show 0 < _; omega)
    _ (fun Φ => by
      rw [units_own]
      rw [← NW_eq d]; rfl) l Q) $$ [Hc Ha HO]
  · isplitr; · iexact HC
    isplitl [Hc]
    · rw [units_own]; iexact Hc
    isplitl [HO]; · iexact HO
    iexact Ha
  rw [pay_own]
  iintro ⟨HO, Ha, Hp⟩
  iapply Hk
  isplitr [HO]
  · isplitr [HR]
    · isplitl [Ha]; · iexact Ha
      iexact Hp
    iexact HR
  iexact HO

/-- What the neighbour's barrier signal says. -/
def Opened (d : Bool) : SP F := pay PB Z c .bar 0 d
instance Opened_persistent : BI.Persistent (Opened PB Z c d) := by unfold Opened pay; infer_instance

theorem opened_rch (s : ℕ) (hs : s < 2) : Opened PB Z c d ⊢ Rch c d u s := by
  have h : s = 0 ∨ s = 1 := by omega
  unfold Opened Rch pay
  rcases h with rfl | rfl <;> cases u <;> iintro ⟨#H1, #H2, #H3, #H4⟩
  · iexact H3
  · iexact H4
  · iexact H1
  · iexact H2

/-- The barrier: both signals, the wait. -/
def BarA : SP F := iprop((dutyTok ER (gc (prv c false) .bar) 0 true ∗ reached ER (gc (prv c false) .bar) 0)
  ∗ (dutyTok ER (gc (nxt c false) .bar) 0 false ∗ reached ER (gc (nxt c false) .bar) 0)
  ∗ (cred (tallyAt (gc c .bar) 0 2) ∗ atPos ER (gc c .bar) 0 ∅ 0)
  ∗ (pay PB Z (prv c false) .bar 0 true ∗ pay PB Z (nxt c false) .bar 0 false))
def BarB : SP F := iprop(at' c .bar 1 ∗ Opened PB Z c true ∗ Opened PB Z c false)

theorem tr_bar : Tr PB Z K c iprop(BarA PB Z c ∗ Owe c ((Ow c 0 0 + tallyAt (gc (nxt c false) .bar) 0 1) + tallyAt (gc (prv c false) .bar) 0 1))
    [semSignalWord (prv c false) barS 1#32, semSignalWord (nxt c false) barS 1#32, semWaitWord barS 2#32]
    iprop(BarB PB Z c ∗ Owe c (Ow c 0 0)) := by
  intro l Q
  unfold BarA BarB Opened
  iintro ⟨#HC, ⟨⟨Ht, Hr⟩, ⟨Ht', Hr'⟩, ⟨Hc, Ha⟩, Hp, Hp'⟩, HO⟩ Hk
  iapply (signal PB Z K c (prv c false) barS .bar rfl 0 0 true (bar_duty _) rfl _
    (semSignalWord (nxt c false) barS 1#32 :: semWaitWord barS 2#32 :: l) Q) $$ [HO Ht Hr Hp]
  · isplitr; · iexact HC
    isplitl [HO]; · iexact HO
    isplitl [Ht]; · iexact Ht
    isplitl [Hp]; · iexact Hp
    iexact Hr
  iintro HO
  iapply (signal PB Z K c (nxt c false) barS .bar rfl 0 0 false (bar_duty _) rfl _
    (semWaitWord barS 2#32 :: l) Q) $$ [HO Ht' Hr' Hp']
  · isplitr; · iexact HC
    isplitl [HO]; · iexact HO
    isplitl [Ht']; · iexact Ht'
    isplitl [Hp']; · iexact Hp'
    iexact Hr'
  iintro HO
  unfold WP Owe at'
  rw [semWaitWord_two, runL_op]
  icases HO with ⟨%W, HO⟩
  iapply (Rounds.wp_wait_rest_token 𝒱₀ ER (rd PB Z) (c : Thread nD τ) none (κ := K (gc c .bar)) (sm := .reg barS) (fun Φ => rfl) (Set.mem_univ _) 0
      (O := Ow c 0 0) (W := W) (R := 0) (m := 0) (T := ∅) ((Nat.zero_add _).trans (rd_expect_bar PB Z c).symm)) $$ [Hc HO Ha]
  · isplitr; · iapply (ctx_inv PB Z K c .bar); iexact HC
    isplitl [Hc]; · iexact Hc
    isplitl [HO]; · iexact HO
    isplitr; · iapply (ctx_wait PB Z K c .bar 0 0 0 (by omega) (by show 1 < 2; omega) (by show 1 < 3; omega)); iexact HC
    iexact Ha
  iintro ⟨HO, Hp, Hr, Hpay⟩
  ihave Hpay := (Entails.of_eq (show bigSep ((rd PB Z).duties ((c : Thread nD τ), SemLoc.reg barS) 0 \ ∅)
    (fun x => (rd PB Z).payload ((c : Thread nD τ), SemLoc.reg barS) 0 x) = _ from rd_rest_bar PB Z c)) $$ Hpay
  iapply Hk
  isplitr [HO]
  · isplitl [Hp Hr]
    · isplitl [Hp]; · iexact Hp
      iexact Hr
    iexact Hpay
  iexists _; iexact HO

/-- A lane before its first credit. -/
def PreL : SP F := iprop(at' c (.load d u) (loadR u 0) ∗ Base PB Z c d u ∗ Slot PB Z c d u 0 ∗ Opened PB Z c d)

theorem tr_cred0 (O : CellTallies nD τ sig ℕ) :
    Tr PB Z K c iprop(PreL PB Z c d u ∗ Owe c (O + credT c (ph 0 u) d)) [credA c true u d] iprop(Ready PB Z c d u 0 ∗ Owe c O) := by
  intro l Q
  unfold Ready
  rw [if_pos (by omega)]
  unfold PreL Base ReadyA Core LdR
  iintro ⟨#HC, ⟨Ha, ⟨H1, H2, H3, H4, H5, ⟨H6, H6'⟩, H7, H8, Hx⟩, HS, #Ho⟩, HO⟩ Hk
  unfold Rv at'
  icases H3 with ⟨⟨⟨Hv, #Hr⟩, Hv'⟩, HT⟩
  ihave #R0 := (opened_rch PB Z c d u 0 (by omega)) $$ Ho
  ihave #R1 := (opened_rch PB Z c d u 1 (by omega)) $$ Ho
  iapply (cred_give PB Z K c d u 0 l Q (by omega) O) $$ [H4 Hx HO]
  · isplitr; · iexact HC
    isplitl [H4]; · iexact H4
    isplitl [Hx]; · iexact Hx
    isplitr; · iexact Hr
    isplitr; · iexact R0
    iexact HO
  iintro ⟨H4, HO⟩
  ihave HS := (slot_halves PB Z c d u 0).1 $$ HS
  icases HS with ⟨HL, HR⟩
  iapply Hk
  isplitr [HO]
  · isplitl [H1 H2 Hv Hv' HT H4 HR]
    · isplitl [H1]; · iexact H1
      isplitl [H2]; · iexact H2
      isplitl [Hv Hv' HT]
      · isplitr [HT]
        · isplitl [Hv]
          · isplitl [Hv]; · iexact Hv
            iexact Hr
          iexact Hv'
        iexact HT
      isplitl [H4]; · iexact H4
      isplitr; · iexact R1
      iexact HR
    isplitl [H5]; · iexact H5
    isplitl [Ha H6 H6']
    · isplitl [Ha]; · iexact Ha
      isplitl [H6]; · iexact H6
      iexact H6'
    isplitl [HL]; · iexact HL
    isplitl [H7]; · iexact H7
    iexact H8
  iexact HO

/-- The own chunk loaded: both lanes of the direction, and the own chunk of the partial product back. -/
theorem preC_lanes : iprop(PreC PB Z c d ∗ Opened PB Z c d) ⊢ iprop((PreL PB Z c d false ∗ PreL PB Z c d true) ∗ partS PB c (ownR c d).set) := by
  unfold PreC PreL
  iintro ⟨⟨⟨Ha, Ho, Hp⟩, Ha', HB, HB'⟩, #HR⟩
  ihave Ho := (own_slots PB Z c d) $$ Ho
  icases Ho with ⟨HS, HS'⟩
  isplitr [Hp]
  · isplitl [Ha HB HS]
    · isplitl [Ha]; · iexact Ha
      isplitl [HB]; · iexact HB
      isplitl [HS]; · iexact HS
      iexact HR
    isplitl [Ha']; · iexact Ha'
    isplitl [HB']; · iexact HB'
    isplitl [HS']; · iexact HS'
    iexact HR
  iexact Hp

theorem tr_creds (u : Bool) : Tr PB Z K c (Two c (fun d => PreL PB Z c d u) (Ow c (ph 0 u) 0)) (both (credA c true u)) (Two c (fun d => Ready PB Z c d u 0) (Ow c (ph 0 u + 1) 0)) := by
  rw [Ow_cred c (ph 0 u) 0 (by unfold ph; cases u <;> simp)]
  exact two_pay _ (credT c (ph 0 u)) (fun d O => tr_cred0 PB Z K c d u O) _

/-- From the outset to the ring. -/
theorem prologue : Tr PB Z K c
    iprop(((Pre PB Z c false ∗ Pre PB Z c true) ∗ BarA PB Z c)
      ∗ Owe c ((Ow c 0 0 + tallyAt (gc (nxt c false) .bar) 0 1) + tallyAt (gc (prv c false) .bar) 0 1))
    (preL c) iprop(Mid PB Z c 0 ∗ (partS PB c (ownR c false).set ∗ partS PB c (ownR c true).set) ∗ at' c .bar 1) := by
  unfold preL
  refine Tr.seq (Tr.seq (Tr.seq (Tr.seq (Tr.seq (Tr.at0 PB Z K c (two_both _ fun d => tr_ownA PB Z K c d _) _)
    (((tr_bar PB Z K c).frame iprop(PreB PB Z c false ∗ PreB PB Z c true)).conseq ?_ ?_ (B' := iprop(Two c (PreB PB Z c) (Ow c 0 0) ∗ BarB PB Z c))))
    ((two_both _ fun d => tr_ownW PB Z K c d 0 0).frame _))
    (((tr_creds PB Z K c false).frame iprop((PreL PB Z c false true ∗ PreL PB Z c true true)
        ∗ (partS PB c (ownR c false).set ∗ partS PB c (ownR c true).set) ∗ at' c .bar 1)).conseq ?_ (BI.Entails.refl _)))
    (((tr_creds PB Z K c true).frame iprop((Ready PB Z c false false 0 ∗ Ready PB Z c true false 0)
        ∗ (partS PB c (ownR c false).set ∗ partS PB c (ownR c true).set) ∗ at' c .bar 1)).conseq ?_ (BI.Entails.refl _)))
    (((start PB Z K c false 0 2 (by omega) (by unfold ph; simp)).frame iprop((Ready PB Z c false true 0 ∗ Ready PB Z c true true 0)
        ∗ (partS PB c (ownR c false).set ∗ partS PB c (ownR c true).set) ∗ at' c .bar 1)).conseq ?_ ?_)
  · iintro ⟨⟨H, HB⟩, HO⟩
    isplitr [H]
    · isplitl [HB]; · iexact HB
      iexact HO
    iexact H
  · unfold Two
    iintro ⟨⟨HB, HO⟩, H⟩
    isplitr [HB]
    · isplitl [H]; · iexact H
      iexact HO
    iexact HB
  · unfold Two BarB
    iintro ⟨⟨⟨H, H'⟩, HO⟩, Ha, #Rt, #Rf⟩
    ihave H := (preC_lanes PB Z c false) $$ [H]
    · isplitl [H]; · iexact H
      iexact Rf
    ihave H' := (preC_lanes PB Z c true) $$ [H']
    · isplitl [H']; · iexact H'
      iexact Rt
    icases H with ⟨⟨H1, H2⟩, H3⟩
    icases H' with ⟨⟨H4, H5⟩, H6⟩
    isplitl [H1 H4 HO]
    · isplitr [HO]
      · isplitl [H1]; · iexact H1
        iexact H4
      iexact HO
    isplitl [H2 H5]
    · isplitl [H2]; · iexact H2
      iexact H5
    isplitl [H3 H6]
    · isplitl [H3]; · iexact H3
      iexact H6
    iexact Ha
  · unfold Two
    iintro ⟨⟨H, HO⟩, H', HR⟩
    isplitl [H' HO]
    · isplitl [H']; · iexact H'
      iexact HO
    isplitl [H]; · iexact H
    iexact HR
  · unfold Two
    iintro ⟨⟨H, HO⟩, H', HR⟩
    isplitl [H' HO]
    · isplitl [H']; · iexact H'
      iexact HO
    isplitl [H]; · iexact H
    iexact HR
  · unfold Two Mid
    iintro ⟨⟨H, HO⟩, H', HR⟩
    isplitr [HR]
    · isplitr [HO]
      · isplitl [H]; · iexact H
        iexact H'
      iexact HO
    iexact HR

/-! ## After the ring -/

/-- A lane with only the store of step 29 to wait for, and with none. -/
def Fin1 : SP F := iprop(RH PB Z c d u 30 ∗ StB c d u 29 ∗ StT c d u 30 ∗ (Cr c d u 30 ∗ Sd c d u 30 ∗ Rv c d u 30
    ∗ Slot PB Z c d u 29 ∗ Pb c d u ∗ LdR PB c d u 15) ∗ StP PB Z c d u 29)
def Fin2 : SP F := iprop(Slot PB Z c d u 30 ∗ StT c d u 30 ∗ (Cr c d u 30 ∗ Sd c d u 30 ∗ Rv c d u 30
    ∗ Slot PB Z c d u 29 ∗ Pb c d u ∗ LdR PB c d u 15) ∗ StP PB Z c d u 30)

theorem tr_last1 (a b : ℕ) : Tr PB Z K c iprop(Done PB Z c d u ∗ Owe c (Ow c a b)) [storeW c 28 u d] iprop(Fin1 PB Z c d u ∗ Owe c (Ow c a b)) := by
  intro l Q
  unfold Done Fin1
  iintro ⟨#HC, ⟨H1, H2, H3, ⟨H4, H5, H6, H7, H8, H9, HB⟩, HP⟩, HO⟩ Hk
  iapply (store_wait PB Z K c d u 28 a b l Q (by omega) (by omega)) $$ [HB HP HO]
  · isplitr; · iexact HC
    isplitl [HB]; · iexact HB
    isplitl [HP]; · iexact HP
    iexact HO
  iintro ⟨HP, HL, HO⟩
  ihave HS := (slot_halves PB Z c d u 29).2 $$ [HL H7]
  · isplitl [HL]; · unfold LH; iexact HL
    iexact H7
  iapply Hk
  isplitr [HO]
  · isplitl [H1]; · iexact H1
    isplitl [H2]; · iexact H2
    isplitl [H3]; · iexact H3
    isplitr [HP]
    · isplitl [H4]; · iexact H4
      isplitl [H5]; · iexact H5
      isplitl [H6]; · iexact H6
      isplitl [HS]; · iexact HS
      isplitl [H8]; · iexact H8
      iexact H9
    iexact HP
  iexact HO

theorem tr_last2 (a b : ℕ) : Tr PB Z K c iprop(Fin1 PB Z c d u ∗ Owe c (Ow c a b)) [storeW c 29 u d] iprop(Fin2 PB Z c d u ∗ Owe c (Ow c a b)) := by
  intro l Q
  unfold Fin1 Fin2
  iintro ⟨#HC, ⟨H1, HB, H3, H4, HP⟩, HO⟩ Hk
  iapply (store_wait PB Z K c d u 29 a b l Q (by omega) (by omega)) $$ [HB HP HO]
  · isplitr; · iexact HC
    isplitl [HB]; · iexact HB
    isplitl [HP]; · iexact HP
    iexact HO
  iintro ⟨HP, HL, HO⟩
  ihave HS := (slot_halves PB Z c d u 30).2 $$ [HL H1]
  · isplitl [HL]; · unfold LH; iexact HL
    iexact H1
  iapply Hk
  isplitr [HO]
  · isplitl [HS]; · iexact HS
    isplitl [H3]; · iexact H3
    isplitl [H4]; · iexact H4
    iexact HP
  iexact HO

theorem epilogue : Tr PB Z K c
    iprop(((Done PB Z c false false ∗ Done PB Z c true false) ∗ (Done PB Z c false true ∗ Done PB Z c true true)) ∗ Owe c (Ow c 60 60)) (postL c)
    iprop(((Fin2 PB Z c false false ∗ Fin2 PB Z c true false) ∗ (Fin2 PB Z c false true ∗ Fin2 PB Z c true true)) ∗ Owe c (Ow c 60 60)) := by
  unfold postL
  exact (((Tr.at0 PB Z K c (two_both _ fun d => tr_last1 PB Z K c d false 60 60) _).seq (Tr.at1 PB Z K c (two_both _ fun d => tr_last1 PB Z K c d true 60 60) _)).seq
    (Tr.at0 PB Z K c (two_both _ fun d => tr_last2 PB Z K c d false 60 60) _)).seq (Tr.at1 PB Z K c (two_both _ fun d => tr_last2 PB Z K c d true 60 60) _)

/-- The whole list of steps. -/
theorem body_list : Tr PB Z K c
    iprop(((Pre PB Z c false ∗ Pre PB Z c true) ∗ BarA PB Z c)
      ∗ Owe c ((Ow c 0 0 + tallyAt (gc (nxt c false) .bar) 0 1) + tallyAt (gc (prv c false) .bar) 0 1))
    (bodyL c (Z c))
    iprop((((Fin2 PB Z c false false ∗ Fin2 PB Z c true false) ∗ (Fin2 PB Z c false true ∗ Fin2 PB Z c true true)) ∗ Owe c (Ow c 60 60))
      ∗ (partS PB c (ownR c false).set ∗ partS PB c (ownR c true).set) ∗ at' c .bar 1) := by
  unfold bodyL
  exact ((prologue PB Z K c).seq ((ring PB Z K c).frame _)).seq ((epilogue PB Z K c).frame _)

end Cert.KernelIdeal.Ring

end
-- ==== Proof.State.lean ====
/-
  A device's state before and after the body, whole: every cell's position, the duties it is to pay and the waits it may make,
  its buffers. Afterwards every cell is past its last round and is closed.
-/
module

public import proofs.«01_k».proof.Proof.Ends

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells but the barrier's, lane by lane -/

/-- A lane's nine cells: two credit, two receive, two send, two store, one load. -/
abbrev Part : Type := Bool ⊕ Bool ⊕ Bool ⊕ Bool ⊕ Unit
abbrev OSem : Type := Bool × Bool × Part
instance : DecidableEq Part := inferInstance
instance : DecidableEq OSem := inferInstance

def ocell : OSem → Cell
  | (d, u, .inl b) => .cred d b u
  | (d, u, .inr (.inl b)) => .recv d b u
  | (d, u, .inr (.inr (.inl b))) => .send d b u
  | (d, u, .inr (.inr (.inr (.inl b)))) => .store d b u
  | (d, u, .inr (.inr (.inr (.inr _)))) => .load d u

abbrev osem (k : OSem) : SemLoc sig := (ocell k).sem

theorem ocell_inj : Function.Injective ocell := by decide +kernel
theorem ocell_ne : ∀ k, ocell k ≠ .bar := by decide +kernel

/-- A lane's nine cells, one by one. -/
def LC (Φ : Cell → SP F) (d u : Bool) : SP F :=
  iprop((Φ (.cred d false u) ∗ Φ (.cred d true u)) ∗ (Φ (.recv d false u) ∗ Φ (.recv d true u))
    ∗ (Φ (.send d false u) ∗ Φ (.send d true u)) ∗ (Φ (.store d false u) ∗ Φ (.store d true u)) ∗ Φ (.load d u))

/-- The four lanes. -/
def Four (A : Bool → Bool → SP F) : SP F := iprop((A false false ∗ A false true) ∗ (A true false ∗ A true true))

theorem four_eq (A : Bool → Bool → SP F) : (bigSep Finset.univ fun d => bigSep Finset.univ fun u => A d u) = Four A := by
  rw [bigSep_bool, bigSep_bool, bigSep_bool]; rfl

theorem cells_lanes (Φ : Cell → SP F) : (bigSep Finset.univ fun k : OSem => Φ (ocell k)) = Four (LC Φ) := by
  rw [bigSep_univ_prod, ← four_eq]
  refine bigSep_congr fun d _ => ?_
  rw [bigSep_univ_prod]
  refine bigSep_congr fun u _ => ?_
  rw [bigSep_univ_sum, bigSep_univ_sum, bigSep_univ_sum, bigSep_univ_sum, bigSep_bool, bigSep_bool, bigSep_bool, bigSep_bool]
  rw [show (Finset.univ : Finset Unit) = {()} from rfl, bigSep_singleton]
  rfl

variable (PB : Dev nD → FVec F S4096x8192 .f32) (Z : Dev nD → F .f32) (K : GSem nD τ sig → ℕ) (c : Dev nD) (d u : Bool)

/-! ## Before -/

/-- A lane's waits and duties. -/
def Toks : SP F := iprop((bigSep (Finset.Ico 0 30) fun r => cred (tallyAt (gc c (.cred d (!par r) u)) (ph r u) 1))
  ∗ (bigSep (Finset.Ico 0 30) fun r => cred (tallyAt (gc c (.recv d (!par r) u)) (ph r u) (NC d)))
  ∗ (bigSep (Finset.Ico 0 30) fun r => iprop(dutyTok ER (gc (nxt c d) (.recv d (!par r) u)) (r / 2) false
        ∗ dutyTok ER (gc c (.send d (par r) u)) (r / 2) false))
  ∗ Fr c d u 0
  ∗ (bigSep (Finset.Ico 0 15) fun r => dutyTok ER (gc c (.load d u)) (loadR u r) false)
  ∗ bigSep (Finset.Ico 14 30) fun r => dutyTok ER (gc c (.store d (!par r) u)) ((r - 14) / 2) false)

theorem base_intro : iprop(LC (fun k => at' c k 0) d u ∗ Toks c d u ∗ anyOf c (commV d true u) ∗ anyOf c (pbufV d u)
      ∗ (bigSep (Finset.Ico 0 15) fun r => partP PB c d u (r + 1))
      ∗ bigSep (Finset.Ico 14 30) fun s => anyOf c (pieceM outM (chunk d (s + 1) c) d u))
    ⊢ iprop(at' c (.load d u) 0 ∗ Base PB Z c d u) := by
  unfold LC Toks Base Cr Sd Rv Pb LdT LdD StP StT
  rw [bigSep_sep' (Finset.Ico 0 15), bigSep_sep' (Finset.Ico 14 30), Finset.range_zero, bigSep_empty, Finset.Ico_self, bigSep_empty]
  iintro ⟨⟨⟨A1, A2⟩, ⟨A3, A4⟩, ⟨A5, A6⟩, ⟨A7, A8⟩, A9⟩, ⟨T1, T2, T3, T4, T5, T6⟩, Hc, Hp, HP, HO⟩
  isplitl [A9]; · iexact A9
  isplitl [A1 A2 T1]
  · isplitr [T1]
    · isplitl [A2]; · iexact A2
      iexact A1
    iexact T1
  isplitl [A5 A6 T3]
  · isplitr [T3]
    · isplitl [A5]; · iexact A5
      iexact A6
    iexact T3
  isplitl [A3 A4 T2]
  · isplitr [T2]
    · isplitl [A4]; · iexact A4
      iexact A3
    iexact T2
  isplitl [T4]; · iexact T4
  isplitl [Hp]; · iapply ((anyOf_owns c (pbufV d u)).1) $$ Hp
  isplitl [T5 HP]
  · isplitl [T5 HP]
    · isplitl [T5]; · iexact T5
      iexact HP
    iempintro
  isplitl [A7 A8]
  · isplitl [A7 A8]
    · isplitl [A8]; · iexact A8
      iexact A7
    iempintro
  isplitl [T6 HO]
  · isplitl [T6]; · iexact T6
    iapply (show (bigSep (Finset.Ico 14 30) fun s => anyOf c (pieceM outM (chunk d (s + 1) c) d u) : SP F)
      ⊢ bigSep (Finset.Ico 14 30) fun s => iprop(∃ X, owns (c : Thread nD τ) (pieceM outM (chunk d (s + 1) c) d u) fullShare X) from
        bigSep_mono fun s _ => (anyOf_owns c _).1) $$ HO
  iapply ((anyOf_owns c (commV d true u)).1) $$ Hc

/-- What a device has of the protocol when the body starts. -/
def Ghost : SP F := iprop(Four (Toks c) ∗ (dutyTok ER (gc c (.load false false)) 0 false ∗ dutyTok ER (gc c (.load true false)) 0 false) ∗ BarA PB Z c)
/-- The scratch buffers. -/
def Scratch : SP F := iprop((anyOf c (commM false) ∗ anyOf c (commM true)) ∗ (anyOf c (pbufM false) ∗ anyOf c (pbufM true)))

theorem pre_intro : iprop((LC (fun k => at' c k 0) d false ∗ LC (fun k => at' c k 0) d true) ∗ (Toks c d false ∗ Toks c d true)
      ∗ dutyTok ER (gc c (.load d false)) 0 false ∗ anyOf c (commM d) ∗ anyOf c (pbufM d)
      ∗ iprop(partS PB c (ownR c d).set ∗ (bigSep (Finset.Ico 0 15) fun r => partP PB c d false (r + 1)) ∗ bigSep (Finset.Ico 0 15) fun r => partP PB c d true (r + 1))
      ∗ ((bigSep (Finset.Ico 14 30) fun s => anyOf c (pieceM outM (chunk d (s + 1) c) d false))
        ∗ bigSep (Finset.Ico 14 30) fun s => anyOf c (pieceM outM (chunk d (s + 1) c) d true)))
    ⊢ Pre PB Z c d := by
  unfold Pre
  iintro ⟨⟨A, A'⟩, ⟨T, T'⟩, Hd, Hc, Hp, ⟨P1, P2, P3⟩, O1, O2⟩
  ihave Hc := (comm_slots c d).1 $$ Hc
  icases Hc with ⟨⟨C1, C2⟩, C3, C4⟩
  ihave Hp := (pbuf_slots c d).1 $$ Hp
  icases Hp with ⟨B1, B2⟩
  ihave H := (base_intro PB Z c d false) $$ [A T C3 B1 P2 O1]
  · isplitl [A]; · iexact A
    isplitl [T]; · iexact T
    isplitl [C3]; · iexact C3
    isplitl [B1]; · iexact B1
    isplitl [P2]; · iexact P2
    iexact O1
  ihave H' := (base_intro PB Z c d true) $$ [A' T' C4 B2 P3 O2]
  · isplitl [A']; · iexact A'
    isplitl [T']; · iexact T'
    isplitl [C4]; · iexact C4
    isplitl [B2]; · iexact B2
    isplitl [P3]; · iexact P3
    iexact O2
  icases H with ⟨L, H⟩
  icases H' with ⟨L', H'⟩
  ihave Hc := (comm_whole c d).2 $$ [C1 C2]
  · isplitl [C1]; · iexact C1
    iexact C2
  isplitl [Hd Hc P1 L]
  · isplitl [Hd]; · iexact Hd
    isplitl [Hc]; · iapply ((anyOf_owns c (commW d)).1) $$ Hc
    isplitl [P1]; · iexact P1
    iexact L
  isplitl [L']; · iexact L'
  isplitl [H]; · iexact H
  iexact H'

/-- The state the body starts in. -/
def Begin : SP F := iprop((bigSep Finset.univ fun k : OSem => at' c (ocell k) 0) ∗ Ghost PB Z c ∗ Scratch c ∗ partS PB c Finset.univ ∗ anyOf c outM)

theorem begin_elim : Begin PB Z c ⊢ iprop((Pre PB Z c false ∗ Pre PB Z c true) ∗ BarA PB Z c) := by
  unfold Begin Ghost Scratch
  rw [cells_lanes (fun k => at' c k 0), part_pieces, bigSep_bool]
  unfold Four
  iintro ⟨⟨⟨A1, A2⟩, A3, A4⟩, ⟨⟨⟨T1, T2⟩, T3, T4⟩, ⟨D, D'⟩, HB⟩, ⟨⟨C, C'⟩, B, B'⟩, ⟨P, P'⟩, HO⟩
  ihave HO := (out_split c) $$ HO
  ihave HO := (Entails.of_eq (four_eq fun d u => bigSep (Finset.Ico 14 30) fun s => (anyOf c (pieceM outM (chunk d (s + 1) c) d u) : SP F))) $$ HO
  unfold Four
  icases HO with ⟨HO, HO'⟩
  isplitr [HB]
  · isplitl [A1 A2 T1 T2 D C B P HO]
    · iapply (pre_intro PB Z c false)
      isplitl [A1 A2]
      · isplitl [A1]; · iexact A1
        iexact A2
      isplitl [T1 T2]
      · isplitl [T1]; · iexact T1
        iexact T2
      isplitl [D]; · iexact D
      isplitl [C]; · iexact C
      isplitl [B]; · iexact B
      isplitl [P]; · iexact P
      iexact HO
    · iapply (pre_intro PB Z c true)
      isplitl [A3 A4]
      · isplitl [A3]; · iexact A3
        iexact A4
      isplitl [T3 T4]
      · isplitl [T3]; · iexact T3
        iexact T4
      isplitl [D']; · iexact D'
      isplitl [C']; · iexact C'
      isplitl [B']; · iexact B'
      isplitl [P']; · iexact P'
      iexact HO'
  iexact HB

/-! ## After -/

/-- A lane's cells are all past their last rounds; its slots, its pieces of the partial product and of the result are back. -/
def Over : SP F := iprop(LC (fun k => at' c k k.rounds) d u ∗ (anyOf c (commV d false u) ∗ anyOf c (commV d true u) ∗ anyOf c (pbufV d u))
  ∗ (bigSep (Finset.Ico 0 15) fun r => partP PB c d u (r + 1)) ∗ bigSep (Finset.Ico 14 30) fun s => outP PB Z c d u (s + 1))

theorem fin_over : Fin2 PB Z c d u ⊢ Over PB Z c d u := by
  unfold Fin2 Over LC Cr Sd Rv LdR LdD StP Slot Pb
  rw [show loadR u 15 = (Cell.load d u).rounds by cases u <;> rfl, Finset.range_eq_Ico]
  iintro ⟨S1, -, ⟨⟨⟨A1, A2⟩, -⟩, ⟨⟨A5, A6⟩, -⟩, ⟨⟨A3, A4⟩, -⟩, S2, Hp, A9, -, HP⟩, ⟨A7, A8⟩, HO⟩
  isplitr [S1 S2 Hp HP HO]
  · isplitl [A1 A2]
    · isplitl [A2]; · iexact A2
      iexact A1
    isplitl [A3 A4]
    · isplitl [A4]; · iexact A4
      iexact A3
    isplitl [A5 A6]
    · isplitl [A5]; · iexact A5
      iexact A6
    isplitl [A7 A8]
    · isplitl [A8]; · iexact A8
      iexact A7
    iexact A9
  isplitl [S1 S2 Hp]
  · isplitl [S1]
    · iapply ((anyOf_owns c (commV d false u)).2)
      iexists _; iexact S1
    isplitl [S2]
    · iapply ((anyOf_owns c (commV d true u)).2)
      iexists _; iexact S2
    iapply ((anyOf_owns c (pbufV d u)).2) $$ Hp
  isplitl [HP]; · iexact HP
  iexact HO

/-- The state the body ends in: every cell closed. -/
def End : SP F := iprop((bigSep Finset.univ fun k : OSem => semVal (gc c (ocell k)) 0) ∗ semVal (gc c .bar) 0 ∗ Scratch c ∗ partS PB c Finset.univ
  ∗ owns (c : Thread nD τ) outM fullShare (Res PB Z))

theorem close (k : Cell) : iprop(Ctx PB Z K ∗ at' c k k.rounds) ⊢ iprop(|={Set.univ}=> semVal (gc c k) 0 : SP F) := by
  unfold at'
  iintro ⟨#HC, Ha, -⟩
  iapply (Rounds.cell_close (E := ER) (Rd := rd PB Z) (g := gc c k) (κ := K (gc c k)) (Set.mem_univ _) (fun h => h) (R := k.rounds)
    (fun r hr => by rw [rd_duties, duties_later k r hr]))
  isplitr
  · iapply (ctx_inv PB Z K c k); iexact HC
  iexact Ha

theorem close_all : iprop(Ctx PB Z K ∗ bigSep Finset.univ fun k : OSem => at' c (ocell k) (ocell k).rounds)
    ⊢ iprop(|={Set.univ}=> bigSep Finset.univ fun k : OSem => (semVal (gc c (ocell k)) 0 : SP F)) :=
  (bigSep_with_persistent (R := Ctx PB Z K) fun k _ => close PB Z K c (ocell k)).trans (bigSep_fupd _ _)

/-- A direction's buffers and its parts of the partial product. -/
theorem over_dir : iprop((anyOf c (commV d false false) ∗ anyOf c (commV d true false) ∗ anyOf c (pbufV d false))
      ∗ (anyOf c (commV d false true) ∗ anyOf c (commV d true true) ∗ anyOf c (pbufV d true)))
    ⊢ (iprop(anyOf c (commM d) ∗ anyOf c (pbufM d)) : SP F) := by
  iintro ⟨⟨C1, C2, B1⟩, C3, C4, B2⟩
  isplitr [B1 B2]
  · iapply (comm_slots c d).2
    isplitl [C1 C3]
    · isplitl [C1]; · iexact C1
      iexact C3
    isplitl [C2]; · iexact C2
    iexact C4
  · iapply (pbuf_slots c d).2
    isplitl [B1]; · iexact B1
    iexact B2

theorem over_end : iprop(((Over PB Z c false false ∗ Over PB Z c true false) ∗ (Over PB Z c false true ∗ Over PB Z c true true))
      ∗ (partS PB c (ownR c false).set ∗ partS PB c (ownR c true).set))
    ⊢ iprop((bigSep Finset.univ fun k : OSem => at' c (ocell k) (ocell k).rounds) ∗ Scratch c ∗ partS PB c Finset.univ
        ∗ owns (c : Thread nD τ) outM fullShare (Res PB Z)) := by
  rw [cells_lanes (fun k => at' c k k.rounds), part_pieces, bigSep_bool]
  unfold Over Four Scratch
  iintro ⟨⟨⟨⟨A1, S1, P1, O1⟩, A2, S2, P2, O2⟩, ⟨A3, S3, P3, O3⟩, A4, S4, P4, O4⟩, W1, W2⟩
  isplitl [A1 A2 A3 A4]
  · isplitl [A1 A3]
    · isplitl [A1]; · iexact A1
      iexact A3
    isplitl [A2]; · iexact A2
    iexact A4
  ihave H := (over_dir c false) $$ [S1 S3]
  · isplitl [S1]; · iexact S1
    iexact S3
  ihave H' := (over_dir c true) $$ [S2 S4]
  · isplitl [S2]; · iexact S2
    iexact S4
  icases H with ⟨C, B⟩
  icases H' with ⟨C', B'⟩
  isplitl [C B C' B']
  · isplitl [C C']
    · isplitl [C]; · iexact C
      iexact C'
    isplitl [B]; · iexact B
    iexact B'
  isplitl [P1 P2 P3 P4 W1 W2]
  · isplitl [P1 P3 W1]
    · isplitl [W1]; · iexact W1
      isplitl [P1]; · iexact P1
      iexact P3
    isplitl [W2]; · iexact W2
    isplitl [P2]; · iexact P2
    iexact P4
  iapply (out_join PB Z c)
  iapply (Entails.of_eq (four_eq fun d u => bigSep (Finset.Ico 14 30) fun s => (outP PB Z c d u (s + 1) : SP F)).symm)
  unfold Four
  isplitl [O1 O3]
  · isplitl [O1]; · iexact O1
    iexact O3
  isplitl [O2]; · iexact O2
  iexact O4

/-- What a device owes at the outset: its two barrier signals, then every credit and every transfer. -/
def O₀ : CellTallies nD τ sig ℕ := (Ow c 0 0 + tallyAt (gc (nxt c false) .bar) 0 1) + tallyAt (gc (prv c false) .bar) 0 1

/-- THE BODY'S STEPS, from the whole state to the whole state. -/
theorem steps_run (Q : Post F) : iprop(Ctx PB Z K ∗ Begin PB Z c ∗ Owe c (O₀ c))
    ⊢ iprop((End PB Z c ∗ Owe c 0 -∗ Q ⟨⟩) -∗ WP c (bodyL c (Z c)) Q) := by
  unfold O₀
  iintro ⟨#HC, HB, HO⟩ Hk
  ihave HB := (begin_elim PB Z c) $$ HB
  rw [← List.append_nil (bodyL c (Z c))]
  iapply (body_list PB Z K c [] Q) $$ [HB HO]
  · isplitr; · iexact HC
    isplitl [HB]; · iexact HB
    iexact HO
  iintro ⟨⟨⟨⟨H1, H2⟩, H3, H4⟩, HO⟩, HW, Hb⟩
  unfold WP
  rw [runL, Prog.pure_eq_ret, wp_ret]
  ihave H := (over_end PB Z c) $$ [H1 H2 H3 H4 HW]
  · isplitr [HW]
    · isplitl [H1 H2]
      · isplitl [H1]; · iapply (fin_over PB Z c false false) $$ H1
        iapply (fin_over PB Z c true false) $$ H2
      isplitl [H3]; · iapply (fin_over PB Z c false true) $$ H3
      iapply (fin_over PB Z c true true) $$ H4
    iexact HW
  icases H with ⟨HA, HR⟩
  imod (close_all PB Z K c) $$ [HA] with HA
  · isplitr; · iexact HC
    iexact HA
  imod (close PB Z K c .bar) $$ [Hb] with Hb
  · isplitr; · iexact HC
    iexact Hb
  imodintro
  iapply Hk
  isplitr [HO]
  · unfold End
    isplitl [HA]; · iexact HA
    isplitl [Hb]; · iexact Hb
    iexact HR
  rw [Ow_end c 60 60 (by omega) (by omega)]
  iexact HO

end Cert.KernelIdeal.Ring

end
-- ==== Proof.Body.lean ====
/-
  The body's obligation: the proof data of the one region (two windows, the scales), the two scales read off their staging
  buffers, then the steps of `State`.
-/
module

public import proofs.«01_k».proof.Proof.State
public import proofs.«01_k».proof.Proof.Gen.KernelIdeal.Frame

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## A scale's one word -/

instance : Subsingleton S1.Idx := ⟨fun a b => by
  funext i
  obtain rfl : i = 0 := Subsingleton.elim _ _
  exact Fin.ext (by have h : (a 0).val < 1 := (a 0).isLt; have h' : (b 0).val < 1 := (b 0).isLt; omega)⟩
def i0 : S1.Idx := Shape.Idx.first (by decide)

theorem word (a : Memref sig .tc .smem S1 .f32) (X : S1.Idx → Elt F .f32) (k : Elt F .f32 → P F) (Q : Post F) :
    (owns (c : Thread nD τ) a fullShare X : SP F)
      ⊢ iprop((owns (c : Thread nD τ) a fullShare X -∗ wp frame (wpE (defs₀ (F := F)) 𝒱₀ (c : Thread nD τ) none) Set.univ (k (X i0)) Q)
        -∗ wp frame (wpE (defs₀ (F := F)) 𝒱₀ (c : Thread nD τ) none) Set.univ
          (smemLoad a (Rect.unit (s := S1) ![0] S1.size inb_S1_S1_0) numel1_S1 rfl >>= k) Q) := by
  unfold owns
  iintro ⟨%f, %hf, Hf⟩ Hk
  unfold smemLoad smemLoadElt
  simp only [Prog.bind_op, Prog.bind_ret]
  iapply (wp_load_rect 𝒱₀ (c : Thread nD τ) none Set.univ (m := a) (r := Rect.unit (s := S1) ![0] S1.size inb_S1_S1_0) (S := a.view.set) (q := fullShare) (f := f)
    (View.set_slice_subset _ _)) $$ Hf
  iintro Hf
  subst hf
  rw [show (a.access (Rect.unit (s := S1) ![0] S1.size inb_S1_S1_0)).read (Elt F) f (Shape.Idx.first (numel1_S1.symm ▸ Nat.one_pos))
      = a.view.read (Elt F) f i0 from congrArg (a.view.read (Elt F) f) (Subsingleton.elim (α := S1.Idx) _ _)]
  iapply Hk
  iexists f
  isplitr
  · ipureintro; rfl
  iexact Hf

/-! ## The proof data -/

/-- Each device's partial product, and the product of its scales, as the region finds them. -/
def PBm (c : Dev nD) : FVec F S4096x8192 .f32 := V m c main_v1
def Zm (c : Dev nD) : F .f32 := k0_pay1 (V m c main_arg2 i0) (V m c main_arg3 i0)

def Phi0 : SP F := iprop((∃ K, Ctx (PBm m) (Zm m) K) ∗ Begin (PBm m) (Zm m) c ∗ ∃ r, prngReg c r)
def Phi1 : SP F := iprop(End (PBm m) (Zm m) c ∗ ∃ r, prngReg c r)

def dat (c : Dev nD) : Dat τ (Elt F) ℕ ℕ UU ℕ cfg0 c where
  A w := V m c (Pipeline.arrRef spec0 w)
  after := fun | 0 => fun t => iblk m c 0 t | 1 => fun t => iblk m c 1 t | ⟨_ + 2, h⟩ => absurd h (Nat.not_lt.2 (Nat.le_add_left _ _))
  Φ t := if t.val = 0 then Phi0 m c else Phi1 m c
  q _ := fullShare
  owed t := if t.val = 0 then O₀ c else 0

theorem before_0 (t : Fin cfg0.N) (d) : (dat m c).before 0 t d = iblk m c 0 t :=
  ((dat m c).before_in_eq_fetched 0 rfl (fun _ => rfl) (fun _ _ _ => rfl) (fun _ => rfl) t d).trans rfl
theorem before_1 (t : Fin cfg0.N) (d) : (dat m c).before 1 t d = iblk m c 1 t :=
  ((dat m c).before_in_eq_fetched 1 rfl (fun _ => rfl) (fun _ _ _ => rfl) (fun _ => rfl) t d).trans rfl

theorem iblk_0 (t : Fin cfg0.N) : iblk m c 0 t i0 = V m c main_arg2 i0 :=
  congrArg (V m c main_arg2) (Subsingleton.elim (α := S1.Idx) _ _)
theorem iblk_1 (t : Fin cfg0.N) : iblk m c 1 t i0 = V m c main_arg3 i0 :=
  congrArg (V m c main_arg3) (Subsingleton.elim (α := S1.Idx) _ _)

theorem owed_first : (dat m c).owed t0_0.castSucc = O₀ c := by
  show (if (t0_0.castSucc : Fin (cfg0.N + 1)).val = 0 then O₀ c else 0) = O₀ c; exact if_pos rfl
theorem owed_last : (dat m c).owed (Fin.last _) = 0 := by
  show (if (Fin.last cfg0.N).val = 0 then O₀ c else 0) = 0
  rw [Fin.val_last, if_neg (by rw [show cfg0.N = 1 from N_0]; decide)]
theorem owed_succ : (dat m c).owed t0_0.succ = 0 := by
  show (if (t0_0.succ : Fin (cfg0.N + 1)).val = 0 then O₀ c else 0) = 0
  rw [Fin.val_succ, if_neg (by omega)]

theorem owesAt_in (t : Fin (cfg0.N + 1)) (O : CellTallies nD τ sig ℕ) (h : (dat m c).owed t = O) :
    ((dat m c).owesAt 0 t : SP F) ⊢ Owe c O := by
  unfold Owe Dat.owesAt Pipeline.owesWithin
  rw [h]
  iintro ⟨%W, -, HO⟩
  iexists W; iexact HO
theorem owesAt_out (t : Fin (cfg0.N + 1)) (O : CellTallies nD τ sig ℕ) (h : (dat m c).owed t = O) :
    Owe c O ⊢ ((dat m c).owesAt 0 t : SP F) := by
  unfold Owe Dat.owesAt Pipeline.owesWithin Dat.bound
  rw [h]
  iintro ⟨%W, HO⟩
  iexists W
  isplitr
  · ipureintro; exact fun _ _ => Or.inl trivial
  iexact HO

theorem row_eq (t : Fin cfg0.N) : defs₀ (F := F) .tc cfg0.body (cfg0.bodyArgs t (cfg0.slots t)) = bodyAt0 t := by
  unfold defs₀; rw [Defs.onTc_tc]

/-- THE BODY'S OBLIGATION. -/
theorem body : BodyObligation (dat m c) defs₀ 𝒱₀ 0 Set.univ := fun t => by
  obtain rfl := fin_N0 t
  rw [bigSep_W0, bigSep_W0]
  rw [show (dat m c).Φ t0_0.castSucc = Phi0 m c from rfl, show (dat m c).Φ t0_0.succ = Phi1 m c from rfl]
  rw [row_eq, body_eq]
  unfold Phi0 Phi1 bodyP
  iintro ⟨⟨⟨%K, #HC⟩, HB, Hr⟩, HO, ⟨%d0, H0⟩, ⟨%d1, H1⟩⟩
  ihave HO := (owesAt_in m c _ _ (owed_first m c)) $$ HO
  simp only [Prog.lift, Prog.bind_op, Prog.bind_ret, wp_deviceId]
  iapply (word c (win0_0.stage (cfg0.slots t0_0 0)) (iblk m c 0 t0_0)) $$ [H0]
  · iapply (Entails.of_eq (congrArg (owns (c : Thread nD τ) (win0_0.stage (cfg0.slots t0_0 0)) fullShare) (before_0 m c t0_0 d0))) $$ H0
  iintro H0
  iapply (word c (win0_1.stage (cfg0.slots t0_0 1)) (iblk m c 1 t0_0)) $$ [H1]
  · iapply (Entails.of_eq (congrArg (owns (c : Thread nD τ) (win0_1.stage (cfg0.slots t0_0 1)) fullShare) (before_1 m c t0_0 d1))) $$ H1
  iintro H1
  rw [iblk_0, iblk_1, show k0_pay1 (V m c main_arg2 i0) (V m c main_arg3 i0) = Zm m c from rfl]
  iapply (show iprop(Ctx (PBm m) (Zm m) K ∗ Begin (PBm m) (Zm m) c ∗ Owe c (O₀ c)) ⊢ iprop((End (PBm m) (Zm m) c ∗ Owe c 0 -∗ _)
    -∗ wp frame (wpE (defs₀ (F := F)) 𝒱₀ (c : Thread nD τ) none) Set.univ (runL (bodyL c (Zm m c))) _) from steps_run (PBm m) (Zm m) K c _) $$ [HB HO]
  · isplitr; · iexact HC
    isplitl [HB]; · iexact HB
    iexact HO
  iintro ⟨HE, HO⟩
  isplitl [HE Hr]
  · isplitl [HE]; · iexact HE
    iexact Hr
  isplitl [HO]
  · iapply (owesAt_out m c _ _ (owed_succ m c)) $$ HO
  isplitl [H0]; · iexact H0
  iexact H1

end Cert.KernelIdeal.Ring

end
-- ==== Proof.Deal.lean ====
/-
  What the launch deals: the credit each device's waits need, the tokens of every duty, each token handed to the device that
  pays it. The ring's steps are bijections of the devices, so a token indexed by its cell's owner is one indexed by its payer.
-/
module

public import proofs.«01_k».proof.Proof.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Credit -/

variable (c : Dev nD)

/-- A family over the sixty phases, as one over the steps for each half. -/
theorem by_halves (A : ℕ → SP F) (n : ℕ) : bigSep (Finset.Ico 0 (2 * n)) A
    = iprop((bigSep (Finset.Ico 0 n) fun r => A (ph r false)) ∗ bigSep (Finset.Ico 0 n) fun r => A (ph r true)) := by
  induction n with
  | zero => rw [Nat.mul_zero, Finset.Ico_self, bigSep_empty, bigSep_empty]; exact (BI.equiv_iff.mp sep_emp).symm
  | succ n ih =>
    rw [show 2 * (n + 1) = 2 * n + 1 + 1 by ring, bigSep_Ico_succ_top (by omega), bigSep_Ico_succ_top (by omega), ih,
      bigSep_Ico_succ_top (by omega), bigSep_Ico_succ_top (by omega)]
    rw [show ph n false = 2 * n from rfl, show ph n true = 2 * n + 1 from rfl]
    refine BI.Entails.antisymm (show _ ⊢ (_ : SP F) from ?_) (show _ ⊢ (_ : SP F) from ?_)
    · iintro ⟨H4, H3, H1, H2⟩
      isplitl [H1 H3]
      · isplitl [H3] <;> iassumption
      isplitl [H4] <;> iassumption
    · iintro ⟨⟨H3, H1⟩, H4, H2⟩
      isplitl [H4]; · iexact H4
      isplitl [H3]; · iexact H3
      isplitl [H1] <;> iassumption

/-- The credit of one family of payments, to the device that waits. -/
theorem creds_of (X : Dev nD → ℕ → Bool → CellTallies nD τ sig ℕ) (k : Bool → ℕ → Bool → Cell) (n : Bool → ℕ)
    (hX : ∀ t d, (Pipeline.launchCred (fun c => X c t d) c : SP F) ⊢ cred (tallyAt (gc c (k d (t / 2) (bit1 t))) t (n d))) :
    (bigSep (Finset.Ico 0 60) fun t => iprop(Pipeline.launchCred (fun c => X c t true) c ∗ Pipeline.launchCred (fun c => X c t false) c) : SP F)
      ⊢ Four fun d u => bigSep (Finset.Ico 0 30) fun r => cred (tallyAt (gc c (k d r u)) (ph r u) (n d)) := by
  refine (bigSep_mono fun t _ => BIClass.sep_mono (hX t true) (hX t false)).trans ?_
  rw [show (60 : ℕ) = 2 * 30 from rfl, by_halves]
  simp only [ph_half, ph_bit]
  rw [bigSep_sep', bigSep_sep']
  unfold Four
  refine (show _ ⊢ (_ : SP F) from ?_)
  iintro ⟨⟨H1, H2⟩, H3, H4⟩
  isplitl [H2 H4]
  · isplitl [H2] <;> iassumption
  isplitl [H1] <;> iassumption

theorem creds : (Pipeline.launchCred O₀ c : SP F) ⊢ iprop((Four (fun d u => bigSep (Finset.Ico 0 30) fun r => cred (tallyAt (gc c (.cred d (!par r) u)) (ph r u) 1))
    ∗ Four (fun d u => bigSep (Finset.Ico 0 30) fun r => cred (tallyAt (gc c (.recv d (!par r) u)) (ph r u) (NC d)))) ∗ cred (tallyAt (gc c .bar) 0 2)) := by
  rw [show (O₀ : Dev nD → CellTallies nD τ sig ℕ) = fun c => (((∑ t ∈ Finset.Ico 0 60, (credT c t true + credT c t false))
      + ∑ t ∈ Finset.Ico 0 60, (recvT c t true + recvT c t false)) + tallyAt (gc (nxt c false) .bar) 0 1) + tallyAt (gc (prv c false) .bar) 0 1 from rfl]
  rw [Pipeline.launchCred_add, Pipeline.launchCred_add, Pipeline.launchCred_add, Pipeline.launchCred_sum, Pipeline.launchCred_sum]
  simp only [Pipeline.launchCred_add]
  iintro ⟨⟨⟨H1, H2⟩, H3⟩, H4⟩
  isplitr [H3 H4]
  · isplitl [H1]
    · iapply (creds_of c credT (fun d r u => .cred d (!par r) u) (fun _ => 1) fun t d =>
        Pipeline.launchCred_tallyAt _ (fun c => prv c d) (fun c => nxt c d) (prv_nxt d) (nxt_prv d) t 1 c) $$ H1
    iapply (creds_of c recvT (fun d r u => .recv d (!par r) u) NC fun t d =>
        Pipeline.launchCred_tallyAt _ (fun c => nxt c d) (fun c => prv c d) (nxt_prv d) (prv_nxt d) t (NC d) c) $$ H2
  · rw [show (2 : ℕ) = 1 + 1 from rfl, ← tallyAt_add]
    iapply (cred_add _ _).2
    isplitl [H3]
    · iapply (Pipeline.launchCred_tallyAt (Cell.bar.sem) (fun c => nxt c false) (fun c => prv c false) (nxt_prv false) (prv_nxt false) 0 1 c) $$ H3
    iapply (Pipeline.launchCred_tallyAt (Cell.bar.sem) (fun c => prv c false) (fun c => nxt c false) (prv_nxt false) (nxt_prv false) 0 1 c) $$ H4

/-! ## Tokens -/

/-- A device's tokens: the barrier's two, the own chunks' loads, then lane by lane the credits, the receives, the sends, the
    loads and the stores. -/
abbrev Tok : Type := Bool ⊕ Bool ⊕ (Bool × Bool × Fin 30) ⊕ (Bool × Bool × Fin 30) ⊕ (Bool × Bool × Fin 30) ⊕ (Bool × Bool × Fin 15) ⊕ (Bool × Bool × Fin 16)
instance : DecidableEq (Bool × Bool × Fin 30) := inferInstance
instance : DecidableEq (Bool × Bool × Fin 15) := inferInstance
instance : DecidableEq (Bool × Bool × Fin 16) := inferInstance
instance : DecidableEq ((Bool × Bool × Fin 15) ⊕ (Bool × Bool × Fin 16)) := inferInstance
instance : DecidableEq ((Bool × Bool × Fin 30) ⊕ (Bool × Bool × Fin 15) ⊕ (Bool × Bool × Fin 16)) := inferInstance
instance : DecidableEq ((Bool × Bool × Fin 30) ⊕ (Bool × Bool × Fin 30) ⊕ (Bool × Bool × Fin 15) ⊕ (Bool × Bool × Fin 16)) := inferInstance
instance : DecidableEq ((Bool × Bool × Fin 30) ⊕ (Bool × Bool × Fin 30) ⊕ (Bool × Bool × Fin 30) ⊕ (Bool × Bool × Fin 15) ⊕ (Bool × Bool × Fin 16)) := inferInstance
instance : DecidableEq Tok := instDecidableEqSum

def tok : Tok → Cell × ℕ × Bool
  | .inl x => (.bar, 0, x)
  | .inr (.inl d) => (.load d false, 0, false)
  | .inr (.inr (.inl (d, u, r))) => (.cred d (!par r) u, r / 2, false)
  | .inr (.inr (.inr (.inl (d, u, r)))) => (.recv d (!par r) u, r / 2, false)
  | .inr (.inr (.inr (.inr (.inl (d, u, r))))) => (.send d (par r) u, r / 2, false)
  | .inr (.inr (.inr (.inr (.inr (.inl (d, u, r)))))) => (.load d u, loadR u r, false)
  | .inr (.inr (.inr (.inr (.inr (.inr (d, u, r)))))) => (.store d (!par (r + 14)) u, (r + 14 - 14) / 2, false)

/-- The token of a cell's round. -/
def untok : Cell × ℕ × Bool → Tok
  | (.bar, _, x) => .inl x
  | (.cred d b u, k, _) => .inr (.inr (.inl (d, u, Fin.ofNat 30 (stepR b k))))
  | (.recv d b u, k, _) => .inr (.inr (.inr (.inl (d, u, Fin.ofNat 30 (stepR b k)))))
  | (.send d b u, k, _) => .inr (.inr (.inr (.inr (.inl (d, u, Fin.ofNat 30 (stepR (!b) k))))))
  | (.load d true, k, _) => .inr (.inr (.inr (.inr (.inr (.inl (d, true, Fin.ofNat 15 k))))))
  | (.load d false, 0, _) => .inr (.inl d)
  | (.load d false, k + 1, _) => .inr (.inr (.inr (.inr (.inr (.inl (d, false, Fin.ofNat 15 k))))))
  | (.store d b u, k, _) => .inr (.inr (.inr (.inr (.inr (.inr (d, u, Fin.ofNat 16 (stepR b k)))))))

theorem untok_tok : ∀ t, untok (tok t) = t := by decide +kernel

def tokEmb : Dev nD × Tok ↪ GSem nD τ sig × ℕ × Bool :=
  ⟨fun x => (gc x.1 (tok x.2).1, (tok x.2).2), fun x y h => by
    have h1 : x.1 = y.1 := congrArg (fun t : GSem nD τ sig × ℕ × Bool => t.1.1.1) h
    have h2 : (tok x.2).1 = (tok y.2).1 := sem_inj (congrArg (fun t : GSem nD τ sig × ℕ × Bool => t.1.2) h)
    have h3 : (tok x.2).2 = (tok y.2).2 := congrArg (fun t : GSem nD τ sig × ℕ × Bool => t.2) h
    refine Prod.ext h1 ?_
    rw [← untok_tok x.2, ← untok_tok y.2, Prod.ext h2 h3]⟩
abbrev toks : Finset (GSem nD τ sig × ℕ × Bool) := Finset.univ.map tokEmb

/-- The token of round `r` of the cell. -/
abbrev dt (c : Dev nD) (k : Cell) (r : ℕ) (x : Bool) : SP F := dutyTok ER (gc c k) r x

/-- A device's tokens, family by family. -/
def Own : SP F := iprop((dt c .bar 0 false ∗ dt c .bar 0 true) ∗ (dt c (.load false false) 0 false ∗ dt c (.load true false) 0 false)
  ∗ Four (fun d u => bigSep (Finset.Ico 0 30) fun r => dt c (.cred d (!par r) u) (r / 2) false)
  ∗ Four (fun d u => bigSep (Finset.Ico 0 30) fun r => dt c (.recv d (!par r) u) (r / 2) false)
  ∗ Four (fun d u => bigSep (Finset.Ico 0 30) fun r => dt c (.send d (par r) u) (r / 2) false)
  ∗ Four (fun d u => bigSep (Finset.Ico 0 15) fun r => dt c (.load d u) (loadR u r) false)
  ∗ Four (fun d u => bigSep (Finset.Ico 14 30) fun r => dt c (.store d (!par r) u) ((r - 14) / 2) false))

theorem four_fin (n : ℕ) (A : Bool → Bool → ℕ → SP F) : (bigSep Finset.univ fun x : Bool × Bool × Fin n => A x.1 x.2.1 x.2.2.val)
    = Four fun d u => bigSep (Finset.Ico 0 n) (A d u) := by
  rw [bigSep_univ_prod, ← four_eq]
  refine bigSep_congr fun d _ => ?_
  rw [bigSep_univ_prod]
  exact bigSep_congr fun u _ => bigSep_fin_Ico n (A d u)

theorem toks_own : (bigSep toks fun x => (dutyTok ER x.1 x.2.1 x.2.2 : SP F)) = bigSep Finset.univ fun c => Own c := by
  unfold toks
  rw [bigSep_map, bigSep_univ_prod]
  refine bigSep_congr fun c _ => ?_
  unfold Own
  rw [bigSep_univ_sum, bigSep_univ_sum, bigSep_univ_sum, bigSep_univ_sum, bigSep_univ_sum, bigSep_univ_sum, bigSep_bool, bigSep_bool,
    ← four_fin 30 (fun d u r => dt c (.cred d (!par r) u) (r / 2) false), ← four_fin 30 (fun d u r => dt c (.recv d (!par r) u) (r / 2) false),
    ← four_fin 30 (fun d u r => dt c (.send d (par r) u) (r / 2) false), ← four_fin 15 (fun d u r => dt c (.load d u) (loadR u r) false)]
  rw [show (Four (fun d u => bigSep (Finset.Ico 14 30) fun r => dt c (.store d (!par r) u) ((r - 14) / 2) false) : SP F)
      = Four (fun d u => bigSep (Finset.Ico 0 16) fun r => dt c (.store d (!par (r + 14)) u) ((r + 14 - 14) / 2) false) from
    congrArg Four (funext fun d => funext fun u => (bigSep_shift (fun r => dt c (.store d (!par r) u) ((r - 14) / 2) false) 0 16 14).symm),
    ← four_fin 16 (fun d u r => dt c (.store d (!par (r + 14)) u) ((r + 14 - 14) / 2) false)]
  rfl

def prvE (d : Bool) : Dev nD ≃ Dev nD := ⟨fun c => prv c d, fun c => nxt c d, nxt_prv d, prv_nxt d⟩
def nxtE (d : Bool) : Dev nD ≃ Dev nD := ⟨fun c => nxt c d, fun c => prv c d, prv_nxt d, nxt_prv d⟩

/-- A family by device and lane, each direction's devices moved along the ring. -/
theorem four_around (e : Bool → Dev nD ≃ Dev nD) (A : Dev nD → Bool → Bool → SP F) :
    (bigSep Finset.univ fun c => Four fun d u => A c d u) = bigSep Finset.univ fun c => Four fun d u => A (e d c) d u := by
  unfold Four
  rw [bigSep_sep', bigSep_sep', bigSep_sep', bigSep_sep', bigSep_sep', bigSep_sep',
    bigSep_univ_equiv (e false) fun c => A c false false, bigSep_univ_equiv (e false) fun c => A c false true,
    bigSep_univ_equiv (e true) fun c => A c true false, bigSep_univ_equiv (e true) fun c => A c true true]

/-- The tokens a device pays with. -/
def Pays : SP F := iprop((dt (nxt c false) .bar 0 false ∗ dt (prv c false) .bar 0 true) ∗ (dt c (.load false false) 0 false ∗ dt c (.load true false) 0 false)
  ∗ Four (fun d u => bigSep (Finset.Ico 0 30) fun r => dt (prv c d) (.cred d (!par r) u) (r / 2) false)
  ∗ Four (fun d u => bigSep (Finset.Ico 0 30) fun r => dt (nxt c d) (.recv d (!par r) u) (r / 2) false)
  ∗ Four (fun d u => bigSep (Finset.Ico 0 30) fun r => dt c (.send d (par r) u) (r / 2) false)
  ∗ Four (fun d u => bigSep (Finset.Ico 0 15) fun r => dt c (.load d u) (loadR u r) false)
  ∗ Four (fun d u => bigSep (Finset.Ico 14 30) fun r => dt c (.store d (!par r) u) ((r - 14) / 2) false))

theorem toks_around : (bigSep Finset.univ fun c => (Own c : SP F)) = bigSep Finset.univ fun c => Pays c := by
  unfold Own Pays
  simp only [bigSep_sep']
  rw [four_around prvE fun c d u => bigSep (Finset.Ico 0 30) fun r => dt c (.cred d (!par r) u) (r / 2) false,
    four_around nxtE fun c d u => bigSep (Finset.Ico 0 30) fun r => dt c (.recv d (!par r) u) (r / 2) false,
    bigSep_univ_equiv (nxtE false) fun c => dt c .bar 0 false, bigSep_univ_equiv (prvE false) fun c => dt c .bar 0 true]
  rfl

/-- Six families by lane, as the lanes' six shares. -/
theorem toks_intro : iprop(Four (fun d u => bigSep (Finset.Ico 0 30) fun r => cred (tallyAt (gc c (.cred d (!par r) u)) (ph r u) 1))
      ∗ Four (fun d u => bigSep (Finset.Ico 0 30) fun r => cred (tallyAt (gc c (.recv d (!par r) u)) (ph r u) (NC d)))
      ∗ Four (fun d u => bigSep (Finset.Ico 0 30) fun r => dt (prv c d) (.cred d (!par r) u) (r / 2) false)
      ∗ Four (fun d u => bigSep (Finset.Ico 0 30) fun r => dt (nxt c d) (.recv d (!par r) u) (r / 2) false)
      ∗ Four (fun d u => bigSep (Finset.Ico 0 30) fun r => dt c (.send d (par r) u) (r / 2) false)
      ∗ Four (fun d u => bigSep (Finset.Ico 0 15) fun r => dt c (.load d u) (loadR u r) false)
      ∗ Four (fun d u => bigSep (Finset.Ico 14 30) fun r => dt c (.store d (!par r) u) ((r - 14) / 2) false))
    ⊢ (Four (Toks c) : SP F) := by
  rw [← four_eq (Toks c)]
  simp only [← four_eq]
  unfold Toks Fr
  simp only [bigSep_sep']
  iintro ⟨H1, H2, H3, H4, H5, H6, H7⟩
  isplitl [H1]; · iexact H1
  isplitl [H2]; · iexact H2
  isplitl [H4 H5]
  · isplitl [H4]; · iexact H4
    iexact H5
  isplitl [H3]; · iexact H3
  isplitl [H6]; · iexact H6
  iexact H7

end Cert.KernelIdeal.Ring

end
-- ==== Proof.Launch.lean ====
/-
  From the launch to the run: the cells funded (the barrier's from its counter, the others at the region's entry), the tokens and
  the credit dealt, the host operation and the region in order.
-/
module

public import proofs.«01_k».proof.Proof.Deal
public import Idealize.ShloMosaic.Lib.Pipeline.RegionTalk
public import Idealize.ShloMosaic.Adequacy
public import Idealize.ShloMosaic.Init

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig ℕ (Elt F) ℕ UU ℕ

variable (m : (ℓ : Loc nD τ sig) → Buf (Elt F) ℓ) (ρ : Dev nD → PrngReg) (K : GSem nD τ sig → ℕ) (c : Dev nD)

/-! ## Before and after the region -/

/-- Every cell's invariant. -/
def Invs : SP F := bigSep Finset.univ fun x : Dev nD × Cell => cellInv ER (rd (PBm m) (Zm m)) (K (gc x.1 x.2)) (gc x.1 x.2)
instance Invs_persistent : BI.Persistent (Invs m K) := by unfold Invs; infer_instance

/-- A device's credit for its waits. -/
def Creds : SP F := iprop((Four (fun d u => bigSep (Finset.Ico 0 30) fun r => cred (tallyAt (gc c (.cred d (!par r) u)) (ph r u) 1))
    ∗ Four (fun d u => bigSep (Finset.Ico 0 30) fun r => cred (tallyAt (gc c (.recv d (!par r) u)) (ph r u) (NC d)))) ∗ cred (tallyAt (gc c .bar) 0 2))

/-- A device's rights to open its cells, its place at the barrier, its tokens. -/
def Lin : SP F := iprop((bigSep Finset.univ fun k : OSem => openTok ER (gc c (ocell k))) ∗ atPos ER (gc c .bar) 0 ∅ 0 ∗ Pays c)

def Tk : SP F := iprop((∃ K, Invs m K ∗ reached ER (gc (prv c false) .bar) 0 ∗ reached ER (gc (nxt c false) .bar) 0) ∗ Lin c ∗ Creds c)
def Xk : SP F := iprop((∃ K, Ctx (PBm m) (Zm m) K) ∗ (bigSep Finset.univ fun k : OSem => at' c (ocell k) 0) ∗ Ghost (PBm m) (Zm m) c)
def Yk : SP F := semVal (gc c .bar) 0

theorem prv_prv : ∀ c : Dev nD, prv (prv c false) true = c := by decide +kernel
theorem pay_bar (k : Dev nD) (d : Bool) : pay (PBm m) (Zm m) k .bar 0 d
    = iprop(reached ER (gc (prv k d) (.cred d false false)) 0 ∗ reached ER (gc (prv k d) (.cred d false true)) 0
      ∗ reached ER (gc (prv k d) (.cred d true false)) 0 ∗ reached ER (gc (prv k d) (.cred d true true)) 0) := rfl

/-- Every cell opened. -/
theorem open_all : iprop(Invs m K ∗ (bigSep Finset.univ fun k : OSem => openTok ER (gc c (ocell k))) ∗ Pipeline.ownSems0 osem c)
    ⊢ iprop(|={Set.univ}=> bigSep Finset.univ fun k : OSem => at' c (ocell k) 0) := by
  unfold Pipeline.ownSems0
  have h : iprop(Invs m K ∗ bigSep Finset.univ fun k : OSem => iprop(openTok ER (gc c (ocell k)) ∗ semVal (gc c (ocell k)) 0))
      ⊢ (iprop(|={Set.univ}=> bigSep Finset.univ fun k : OSem => at' c (ocell k) 0) : SP F) :=
    (bigSep_with_persistent (R := Invs m K) (Ψ := fun k : OSem => iprop(|={Set.univ}=> at' c (ocell k) 0)) fun k _ => by
      unfold at' Invs
      iintro ⟨#HI, Ho, Hs⟩
      iapply (Rounds.cell_open ER (rd (PBm m) (Zm m)) (g := gc c (ocell k)) (Set.mem_univ (K (gc c (ocell k)))))
      isplitr
      · iapply (inv_at (PBm m) (Zm m) K c (ocell k)); iexact HI
      isplitl [Ho]; · iexact Ho
      iexact Hs).trans (bigSep_fupd _ _)
  rw [bigSep_sep' (Finset.univ : Finset OSem) (fun k => openTok ER (gc c (ocell k))) (fun k => semVal (gc c (ocell k)) 0)] at h
  exact h

theorem reached_all : (bigSep Finset.univ fun k : OSem => at' c (ocell k) 0 : SP F)
    ⊢ iprop((bigSep Finset.univ fun k : OSem => at' c (ocell k) 0) ∗ pay (PBm m) (Zm m) (prv c false) .bar 0 true ∗ pay (PBm m) (Zm m) (nxt c false) .bar 0 false) := by
  unfold at'
  rw [bigSep_sep' (Finset.univ : Finset OSem) (fun k => atPos ER (gc c (ocell k)) 0 ∅ 0) (fun k => reached ER (gc c (ocell k)) 0)]
  iintro ⟨Ha, #Hr⟩
  isplitl [Ha]
  · isplitl [Ha]; · iexact Ha
    iexact Hr
  have e (k : OSem) : (bigSep Finset.univ fun k : OSem => (reached ER (gc c (ocell k)) 0 : SP F)) ⊢ reached ER (gc c (ocell k)) 0 :=
    bigSep_elim (Φ := fun k : OSem => (reached ER (gc c (ocell k)) 0 : SP F)) (Finset.mem_univ k)
  rw [pay_bar, pay_bar, prv_prv, prv_nxt]
  isplitr
  · isplitr; · iapply (e (true, false, .inl false)); iexact Hr
    isplitr; · iapply (e (true, true, .inl false)); iexact Hr
    isplitr; · iapply (e (true, false, .inl true)); iexact Hr
    iapply (e (true, true, .inl true)); iexact Hr
  · isplitr; · iapply (e (false, false, .inl false)); iexact Hr
    isplitr; · iapply (e (false, true, .inl false)); iexact Hr
    isplitr; · iapply (e (false, false, .inl true)); iexact Hr
    iapply (e (false, true, .inl true)); iexact Hr

theorem hopen : iprop(Tk m c ∗ Pipeline.ownSems0 osem c ∗ levAts L lv) ⊢ iprop(|={Set.univ}=> Xk m c) := by
  unfold Tk Xk Lin Creds Pays Ghost BarA
  iintro ⟨⟨⟨%K, #HI, Hrp, Hrn⟩, ⟨Ho, Ha, ⟨Tbf, Tbt⟩, Town, T1, T2, T3, T4, T5⟩, ⟨C1, C2⟩, Cb⟩, Hs, #Hl⟩
  imod (open_all m K c) $$ [Ho Hs] with Hat
  · isplitr; · iexact HI
    isplitl [Ho]; · iexact Ho
    iexact Hs
  imodintro
  ihave H := (reached_all m c) $$ Hat
  icases H with ⟨Hat, Hp, Hp'⟩
  isplitr
  · iexists K; unfold Ctx
    isplitr
    · unfold Invs; iexact HI
    iexact Hl
  isplitl [Hat]; · iexact Hat
  isplitl [T1 T2 T3 T4 T5 C1 C2]
  · iapply (toks_intro c)
    isplitl [C1]; · iexact C1
    isplitl [C2]; · iexact C2
    isplitl [T1]; · iexact T1
    isplitl [T2]; · iexact T2
    isplitl [T3]; · iexact T3
    isplitl [T4]; · iexact T4
    iexact T5
  isplitl [Town]; · iexact Town
  isplitl [Tbt Hrp]
  · isplitl [Tbt]; · iexact Tbt
    iexact Hrp
  isplitl [Tbf Hrn]
  · isplitl [Tbf]; · iexact Tbf
    iexact Hrn
  isplitl [Cb Ha]
  · isplitl [Cb]; · iexact Cb
    iexact Ha
  isplitl [Hp]; · iexact Hp
  iexact Hp'

/-! ## Buffers -/

def V₀ : Valuation τ sig (Elt F) := fun b => m (c, b)
def V₁ : Valuation τ sig (Elt F) := StableHlo.after hostOps0 (V₀ m c)
def V₂ : Valuation τ sig (Elt F) := Function.update (V₁ m c) (Proc.devRef .tc main_v2) (Res (PBm m) (Zm m))

/-- The body's two arrays; with them the two operands of the product. -/
abbrev Hs : Finset (DevRef τ sig) := {Proc.devRef .tc main_v1, Proc.devRef .tc main_v2}
abbrev Sr : Finset (DevRef τ sig) := {Proc.devRef .tc main_arg0, Proc.devRef .tc main_arg1, Proc.devRef .tc main_v1, Proc.devRef .tc main_v2}

theorem held_Hs (W : Valuation τ sig (Elt F)) : (StableHlo.held (c : Thread nD τ) Hs W : SP F)
    = iprop((((c : Thread nD τ).loc main_v1) ↦{fullShare} W main_v1) ∗ (((c : Thread nD τ).loc main_v2) ↦{fullShare} W main_v2)) := by
  unfold StableHlo.held
  rw [bigSep_eq_bigSepL_of_eq [Proc.devRef .tc main_v1, Proc.devRef .tc main_v2] (by decide) (by decide)]
  rfl

theorem anyOf_scratch : (iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)) : SP F) = Scratch c := by
  have e : (Scratch c : SP F) = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
      ∗ ((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f))) := by
    unfold Scratch anyOf
    simp only [commM, pbufM, Memref.view_whole, View.set_whole]
  rw [e]
  refine BI.Entails.antisymm (show _ ⊢ (_ : SP F) from ?_) (show _ ⊢ (_ : SP F) from ?_)
  · iintro ⟨H1, H2, H3, H4⟩
    isplitl [H1 H2]
    · isplitl [H1] <;> iassumption
    isplitl [H3] <;> iassumption
  · iintro ⟨⟨H1, H2⟩, H3, H4⟩
    isplitl [H1]; · iexact H1
    isplitl [H2]; · iexact H2
    isplitl [H3] <;> iassumption

theorem part_eq : (partS (PBm m) c Finset.univ : SP F) = (((c : Thread nD τ).loc main_v1) ↦{fullShare} V₁ m c main_v1) := rfl
theorem out_any (f : Buf (Elt F) ((c : Thread nD τ).loc main_v2)) : (((c : Thread nD τ).loc main_v2) ↦{fullShare} f : SP F) ⊢ anyOf c outM := by
  unfold anyOf outM
  simp only [Memref.view_whole, View.set_whole]
  iintro H; iexists f; iexact H
theorem out_eq (f : main_v2.ty.Contents (Elt F)) : (owns (c : Thread nD τ) outM fullShare f : SP F) = (((c : Thread nD τ).loc main_v2) ↦{fullShare} f) := by
  unfold outM
  exact owns_whole (c : Thread nD τ) main_v2 fullShare f

theorem V₂_v1 : V₂ m c main_v1 = V₁ m c main_v1 := Function.update_of_ne (by decide) _ _
theorem V₂_v2 : V₂ m c main_v2 = Res (PBm m) (Zm m) := Function.update_self ..
theorem V₂_ne (b : DevRef τ sig) (h : b ≠ Proc.devRef .tc main_v2) : V₂ m c b = V₁ m c b := Function.update_of_ne h _ _

/-! ## The region -/

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

theorem hin : iprop(Pipeline.scopedRest (Pipeline.pin (pcfgs (F := F)) adm 0).spec c ∗ (∃ r, prngReg c r) ∗ StableHlo.held (c.tc : Thread nD τ) Hs (V₁ m c) ∗ Xk m c)
    ⊢ (pdats m 0 c).Φ 0 := by
  rw [show (pdats m 0 c).Φ 0 = Phi0 m c from rfl, held_Hs,
    show (Pipeline.scopedRest (Pipeline.pin (pcfgs (F := F)) adm 0).spec c : SP F) = Scratch c from (scopedRest0_eq c).trans (anyOf_scratch c), ← part_eq]
  unfold Phi0 Xk Begin
  iintro ⟨Hs, Hr, ⟨Hp, Ho⟩, HC, Ha, HG⟩
  isplitl [HC]; · iexact HC
  isplitr [Hr]
  · isplitl [Ha]; · iexact Ha
    isplitl [HG]; · iexact HG
    isplitl [Hs]; · iexact Hs
    isplitl [Hp]; · iexact Hp
    iapply (out_any c _) $$ Ho
  iexact Hr

theorem hout : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c)
      ∗ Pipeline.ownSems0 osem c ∗ Yk c) := by
  rw [show (pdats m 0 c).Φ (Fin.last _) = Phi1 m c from rfl, held_Hs, V₂_v1, V₂_v2,
    show (Pipeline.scopedRest (Pipeline.pin (pcfgs (F := F)) adm 0).spec c : SP F) = Scratch c from (scopedRest0_eq c).trans (anyOf_scratch c), ← part_eq, ← out_eq]
  unfold Phi1 Yk End Pipeline.ownSems0
  iintro ⟨⟨Hk, Hb, Hs, Hp, Ho⟩, Hr⟩
  isplitl [Hs]; · iexact Hs
  isplitl [Hr]; · iexact Hr
  isplitl [Hp Ho]
  · isplitl [Hp]; · iexact Hp
    iexact Ho
  isplitl [Hk]; · iexact Hk
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {g : GSem nD τ sig} {i : ℕ} (h : 0 < O₀ c g i) : i ∈ L g ∧ 0 < lv g i := by
  unfold O₀ at h
  rcases Pipeline.add_pos_cases h with h | h
  · rcases Pipeline.add_pos_cases h with h | h
    · obtain ⟨hi, ⟨c', d, b, u, rfl, -⟩ | ⟨c', d, b, u, rfl, -⟩⟩ := Ow_pos h
      all_goals exact ⟨by rw [L_tc]; exact Finset.mem_range.mpr hi, by rw [lv_gc]; exact Nat.succ_pos _⟩
    · obtain ⟨rfl, rfl⟩ := Pipeline.tallyAt_pos h
      exact ⟨by rw [L_tc]; exact Finset.mem_range.mpr (by decide), by rw [lv_gc]; exact Nat.one_pos⟩
  · obtain ⟨rfl, rfl⟩ := Pipeline.tallyAt_pos h
    exact ⟨by rw [L_tc]; exact Finset.mem_range.mpr (by decide), by rw [lv_gc]; exact Nat.one_pos⟩

theorem cutD (t : Fin ((Pipeline.pin (pcfgs (F := F)) adm 0).N + 1)) (g : GSem nD τ sig) (i : ℕ) (h : 0 < (pdats m 0 c).owed t g i) :
    i ∈ L g ∧ (0 : ℕ) < lv g i := by
  rw [show (pdats m 0 c).owed t = if t.val = 0 then O₀ c else 0 from rfl] at h
  split at h
  · exact O₀_pos c h
  · exact absurd h (Nat.lt_irrefl 0)

theorem stage_level : ∀ (w : Fin 2) (s : Fin (spec0 w).nbuf), decode (.dma ((spec0 w).sem s)) = none := by decide +kernel
theorem own_facts : Pipeline.OwnSemFacts spec0 osem := by decide +kernel

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

set_option backward.isDefEq.respectTransparency.types false in
def reg : ℝ𝕊 0 :=
  Pipeline.RegionSeg.ofTalk (pcfgs (F := F)) adm (pdats m) 0 defs₀ 𝒱₀ L lv 0 osem own_facts
    Hs Sr (by decide) kitP rfl (fun c => (body m c).loose)
    (fun _ => 0) O₀ (fun c => (owed_first m c).trans (zero_add _).symm) (owed_last m) (fun _ => rfl) (fun c w => Dat.share_full _ (fun _ => rfl) w)
    (V₁ m) (V₂ m) (fun c b hb => V₂_ne m c b (by
      intro e; subst e; exact absurd hb (by decide)))
    (Tk m) Yk (Xk m) Yk (hopen m) (hin m) (hout m)
    (fun c => by iintro H; imodintro; iexact H)
    (fun _ => 0)
    ⟨fun c w s => by rw [L_tc]; exact Finset.mem_range.mpr (by decide),
      fun c w s => le_of_eq (congrArg (fun k => lvC k 0) (stage_level w s)), fun c t g i h => cutD m c t g i h⟩
    (fun _ => iprop(emp))
    (fun _ _ => rfl) (fun c w => ((dat m c).arrAt_in w (by fin_cases w <;> rfl) _).trans (by fin_cases w <;> rfl))

/-! ## Segments -/

abbrev bufs : Finset (DevRef τ sig) := (StableHlo.tcRefs τ sig).filter fun b => ¬ b.isScoped

theorem unscopedBufs_held (W : Valuation τ sig (Elt F)) :
    (unscopedBufs c (fun b => W b) : SP F) = StableHlo.held (c : Thread nD τ) bufs W := by
  unfold unscopedBufs StableHlo.held bufs StableHlo.tcRefs
  rw [Finset.filter_map, BI.bigSep_map]
  rfl

theorem arr_sub : Pipeline.arrRefs (τ := τ) spec0 ⊆ bufs := by decide +kernel
theorem bufs_sub_arr : bufs \ Pipeline.arrRefs (τ := τ) spec0 = Sr := by decide +kernel

/-- The scales, then the body's arrays and the product's operands. -/
theorem bufs_split (W : Valuation τ sig (Elt F)) : (StableHlo.held (c : Thread nD τ) bufs W : SP F)
    = iprop(StableHlo.held (c : Thread nD τ) (Pipeline.arrRefs (τ := τ) (pcfgs (F := F) 0).spec) W ∗ StableHlo.held (c : Thread nD τ) Sr W) := by
  have h := StableHlo.held_sub_split (Ix := ℕ) (Name := ℕ) (U := UU) (Lvl := ℕ) (c : Thread nD τ) arr_sub W
  rw [bufs_sub_arr] at h
  exact h

theorem ops_sub : ∀ op ∈ (hostOps0 : List (HloOp τ sig (Elt F))), op.bufs ⊆ bufs := fun op h => by
  rw [List.mem_singleton] at h; subst h
  show ({Proc.devRef .tc main_arg0, Proc.devRef .tc main_arg1, Proc.devRef .tc main_v1} : Finset (DevRef τ sig)) ⊆ bufs; decide +kernel
theorem ops_fresh : ∀ op ∈ (hostOps0 : List (HloOp τ sig (Elt F))), op.fresh = ∅ := List.forall_iff_forall_mem.mp hostOps0_fresh

/-- What rides beside the buffers up to the region. -/
def Ride : SP F := iprop((Tk m c ∗ ∃ r, prngReg c r) ∗ ∃ W, owes (c : Thread nD τ) (O₀ c) W)

def seg : ℍ := Pipeline.HostSeg.ofOps _ _ _ _ _ bufs hostOps0 ops_sub ops_fresh (V₀ m) (Ride m)

theorem reg_pre : iprop(StableHlo.held (c : Thread nD τ) bufs (V₁ m c) ∗ Ride m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) Sr (V₁ m c) ∗ emp) ∗ Tk m c ∗ ∃ Wd, owes (c : Thread nD τ) (0 + O₀ c) Wd)
  rw [zero_add, bufs_split]
  unfold Ride
  iintro ⟨⟨Hh, Hb⟩, ⟨HT, Hr⟩, HO⟩
  isplitl [Hh]; · iexact Hh
  isplitl [Hr]; · iexact Hr
  isplitl [Hb]
  · isplitl [Hb]; · iexact Hb
    iempintro
  isplitl [HT]; · iexact HT
  iexact HO

theorem reg_post : (reg m).post c ⊢ iprop((StableHlo.held (c : Thread nD τ) bufs (V₂ m c) ∗ semVal (gc c .bar) 0)
    ∗ ∃ W, owes (c : Thread nD τ) (0 : CellTallies nD τ sig ℕ) W) := by
  show iprop(StableHlo.held (c.tc : Thread nD τ) (Pipeline.arrRefs (τ := τ) (pcfgs (F := F) 0).spec) (V₂ m c) ∗ (∃ r, prngReg c r)
    ∗ (StableHlo.held (c.tc : Thread nD τ) Sr (V₂ m c) ∗ emp) ∗ Yk c ∗ ∃ Wd, owes (c : Thread nD τ) (0 : CellTallies nD τ sig ℕ) Wd) ⊢ _
  rw [bufs_split]
  unfold Yk
  iintro ⟨Hh, -, ⟨Hb, -⟩, Hs, HO⟩
  isplitr [HO]
  · isplitr [Hs]
    · isplitl [Hh]; · iexact Hh
      iexact Hb
    iexact Hs
  iexact HO

def segs : List (Pipeline.Seg (pcfgs (F := F)) adm (pdats m) 0 defs₀ 𝒱₀ L lv) := [.host (seg m), .region (reg m)]

/-! ## The launch -/

def barEmb : Dev nD ↪ GSem nD τ sig := ⟨fun c => gc c .bar, fun _ _ h => congrArg (fun g : GSem nD τ sig => g.1.1) h⟩
def scEmb : Dev nD × OSem ↪ GSem nD τ sig :=
  ⟨fun x => gc x.1 (ocell x.2), fun _ _ h => Prod.ext (congrArg (fun g : GSem nD τ sig => g.1.1) h) (ocell_inj (sem_inj (congrArg Prod.snd h)))⟩
abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨x, -, h⟩ := Finset.mem_map.mp h₂
  exact ocell_ne x.2 (sem_inj (congrArg Prod.snd h))

theorem ocell_surj : ∀ k : Cell, k = .bar ∨ ∃ o, ocell o = k := by decide +kernel
theorem cell_mem (k : Cell) : gc c k ∈ barCells ∪ scCells := by
  rcases ocell_surj k with rfl | ⟨o, rfl⟩
  · exact Finset.mem_union_left _ (Finset.mem_map_of_mem barEmb (Finset.mem_univ c))
  · exact Finset.mem_union_right _ (Finset.mem_map_of_mem scEmb (Finset.mem_univ (c, o)))

def u₀ : UU :=
  (initOf (Pipeline.cells (Pipeline.pin (pcfgs (F := F)) adm) cellOf_inj) (Pipeline.launchToks (Pipeline.pin (pcfgs (F := F)) adm) cellOf_inj),
    launchOf barCells scCells toks)

/-- All of a resource on one device. -/
def onDev (c₀ : Dev nD) (X : SP F) (c : Dev nD) : SP F := if c = c₀ then X else iprop(emp)
theorem bigSep_onDev (c₀ : Dev nD) (X : SP F) : bigSep Finset.univ (onDev c₀ X) = X := by
  rw [bigSep_univ_at _ c₀, bigSep_congr (s := Finset.univ.erase c₀) (Ψ := fun _ => (BI.emp : SP F))
      fun c hc => by unfold onDev; rw [if_neg (Finset.ne_of_mem_erase hc)]; rfl, BI.bigSep_emp_const]
  unfold onDev; rw [if_pos rfl]
  exact BI.equiv_iff.mp sep_emp

def G : Dev nD → SP F := onDev 0 (BI.own (ER (launchOf barCells scCells toks)))

/-- What every device may consult. -/
def records (κ : GSem nD τ sig → ℕ) : SP F :=
  iprop((bigSep (barCells ∪ scCells) fun g => cellInv ER (rd (PBm m) (Zm m)) (κ g) g) ∗ bigSep barCells fun g => reached ER g 0)
instance records_persistent (κ : GSem nD τ sig → ℕ) : BI.Persistent (records m κ) := by unfold records; infer_instance

theorem records_invs (κ : GSem nD τ sig → ℕ) : (bigSep (barCells ∪ scCells) fun g => (cellInv ER (rd (PBm m) (Zm m)) (κ g) g : SP F)) ⊢ Invs m κ :=
  bigSep_intro_persistent fun x _ => bigSep_elim (Φ := fun g => (cellInv ER (rd (PBm m) (Zm m)) (κ g) g : SP F)) (cell_mem x.1 x.2)
theorem records_reached : (bigSep barCells fun g => (reached ER g 0 : SP F)) ⊢ reached ER (gc c .bar) 0 :=
  bigSep_elim (Φ := fun g => (reached ER g 0 : SP F)) (Finset.mem_map_of_mem barEmb (Finset.mem_univ c))

/-- A device's buffers, credit, debt and generator. -/
def Bundle : SP F := iprop(StableHlo.held (c : Thread nD τ) bufs (V₀ m c) ∗ Creds c ∗ owes (c : Thread nD τ) (O₀ c) ∅ ∗ ∃ r, prngReg c r)
abbrev T₀ : SP F := iprop(StableHlo.held (c : Thread nD τ) bufs (V₀ m c) ∗ Ride m c)
abbrev Tₙ : SP F := iprop(StableHlo.held (c : Thread nD τ) bufs (V₂ m c) ∗ semVal (gc c .bar) 0)

theorem T₀_intro (κ : GSem nD τ sig → ℕ) : iprop(records m κ ∗ (Lin c ∗ Bundle m c)) ⊢ T₀ m c := by
  unfold Bundle T₀ Ride Tk records
  iintro ⟨⟨#HI, #HR⟩, Hl, Hh, HC, HO, Hr⟩
  isplitl [Hh]; · iexact Hh
  isplitr [HO]
  · isplitr [Hr]
    · isplitr
      · iexists κ
        isplitr; · iapply (records_invs m κ); iexact HI
        isplitr; · iapply (records_reached (prv c false)); iexact HR
        iapply (records_reached (nxt c false)); iexact HR
      isplitl [Hl]; · iexact Hl
      iexact HC
    iexact Hr
  iexists ∅; iexact HO

theorem unscopedSems0_eq : (unscopedSems0 c : SP F) = semVal (gc c .bar) 0 := by
  unfold unscopedSems0
  rw [show (Finset.univ.filter fun sm : SemLoc sig => ¬ sm.isScoped .tc) = {SemLoc.reg barS} from by decide +kernel, BI.bigSep_singleton]
  rfl

theorem unpair {Φ Ψ : Dev nD → SP F} : (bigSep Finset.univ fun c => iprop(Φ c ∗ Ψ c)) ⊢ iprop(bigSep Finset.univ Φ ∗ bigSep Finset.univ Ψ) :=
  Entails.of_eq (bigSep_sep' Finset.univ Φ Ψ)

theorem pair {Φ Ψ : Dev nD → SP F} : iprop(bigSep Finset.univ Φ ∗ bigSep Finset.univ Ψ) ⊢ bigSep Finset.univ fun c => iprop(Φ c ∗ Ψ c) :=
  Entails.of_eq (bigSep_sep' Finset.univ Φ Ψ).symm

theorem init : iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : SP F) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(Bundle m c ∗ (semVal (gc c .bar) 0 ∗ G c)) : SP F) := by
    rw [show unscopedBufs c (fun b => m ((c : Thread nD τ).loc b)) = StableHlo.held (c : Thread nD τ) bufs (V₀ m c) from unscopedBufs_held c (V₀ m c),
      unscopedSems0_eq]
    unfold Bundle
    iintro ⟨Hh, Hb, HO, Hc, Hr, HG⟩
    isplitr [Hb HG]
    · isplitl [Hh]; · iexact Hh
      isplitl [Hc]; · unfold Creds; iapply (creds c) $$ Hc
      isplitl [HO]; · iexact HO
      iexists (ρ c); iexact Hr
    isplitl [Hb] <;> iassumption
  have hv : bigSep Finset.univ (fun c : Dev nD => (semVal (gc c .bar) 0 : SP F)) ⊢ bigSep barCells (fun g => (semVal g 0 : SP F)) :=
    Entails.of_eq (bigSep_map (s := Finset.univ) barEmb (Φ := fun g : GSem nD τ sig => (semVal g 0 : SP F))).symm
  have hat : bigSep barCells (fun g => (atPos ER g 0 ∅ 0 : SP F)) ⊢ bigSep Finset.univ (fun c : Dev nD => (atPos ER (gc c .bar) 0 ∅ 0 : SP F)) :=
    Entails.of_eq (bigSep_map (s := Finset.univ) barEmb (Φ := fun g : GSem nD τ sig => (atPos ER g 0 ∅ 0 : SP F)))
  have hop : bigSep scCells (fun g => (openTok ER g : SP F))
      ⊢ bigSep Finset.univ fun c : Dev nD => bigSep Finset.univ fun k : OSem => (openTok ER (gc c (ocell k)) : SP F) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(Bundle m c ∗ (semVal (gc c .bar) 0 ∗ G c)) : SP F) from bigSep_mono fun c _ => hcore c) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells scCells toks)) from
    Entails.of_eq (bigSep_onDev (F := F) 0 (BI.own (ER (launchOf barCells scCells toks))))) $$ HG
  imod (Rounds.fund_launch ER (rd (PBm m) (Zm m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(Lin c ∗ Bundle m c)) fun c _ => T₀_intro m c κ)
  isplitr
  · unfold records
    isplitr; · iexact Hinv
    iexact Hr
  iapply pair
  isplitr [HB]
  · unfold Lin
    iapply pair; isplitl [Hopen]; · iapply hop $$ Hopen
    iapply pair; isplitl [Hat]; · iapply hat $$ Hat
    iapply (Entails.of_eq (toks_around (F := F)))
    iapply (Entails.of_eq (toks_own (F := F))) $$ Htok
  · iexact HB

/-! ## The run -/

theorem unscoped_eq : ∀ sm : SemLoc sig, sm.isScoped .tc = false → sm = Cell.bar.sem := by decide +kernel

theorem held_bufs (W : Valuation τ sig (Elt F)) : (StableHlo.held (c : Thread nD τ) bufs W : SP F)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_arg3) ↦{fullShare} W main_arg3)
      ∗ (((c : Thread nD τ).loc main_v1) ↦{fullShare} W main_v1) ∗ (((c : Thread nD τ).loc main_v2) ↦{fullShare} W main_v2)) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2] (by decide +kernel) (by decide +kernel)]
  rfl

/-- What a device's memory holds at the end. -/
def Holds (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3))
  ∧ s.mem ((c : Thread nD τ).loc main_v2) = Res (PBm m) (Zm m)

set_option backward.isDefEq.respectTransparency.types false in
/-- THE RUN: every execution ends, the arguments unchanged, the result on every device, every counter at zero. -/
theorem run_main [∀ e, Nonempty (Elt F e)] : θ_run defs (onTc (τ := τ) (main (F := F))) ⟨m, fun _ => 0, ρ⟩
    (fun r => (∀ c : Dev nD, Holds m c r.2) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (seg m) (reg m) rfl c]; exact BI.Entails.refl _)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg_pre m c, fun c => reg_post m c⟩)
    (hinit := init m ρ)
    (QY := fun c s => Holds m c s ∧ s.sem (gc c .bar) = 0)
    (hfin := fun c s' => by
      dsimp only [Tₙ]; rw [held_bufs]
      iintro ⟨⟨⟨H0, H1, H2, H3, -, H4⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        refine ⟨⟨⟨?_, ?_, ?_, ?_⟩, ?_⟩, by simpa using hb⟩
        · exact (Buf.eq_of_forall_mem_univ h0).trans ((V₂_ne m c _ (by decide)).trans (V_main_arg0 m c))
        · exact (Buf.eq_of_forall_mem_univ h1).trans ((V₂_ne m c _ (by decide)).trans (V_main_arg1 m c))
        · exact (Buf.eq_of_forall_mem_univ h2).trans ((V₂_ne m c _ (by decide)).trans (V_main_arg2 m c))
        · exact (Buf.eq_of_forall_mem_univ h3).trans ((V₂_ne m c _ (by decide)).trans (V_main_arg3 m c))
        · exact (Buf.eq_of_forall_mem_univ h4).trans (V₂_v2 m c)
      iexact HSI)
    (hQ := fun s h hs => ⟨fun c => (h c).1, sem_eq_zero hs fun c sm hsm => by
        obtain rfl := unscoped_eq sm hsm
        exact (h c).2⟩)

end Cert.KernelIdeal.Ring

end
-- ==== Proof.Value.lean ====
/-
  The value, over the extended reals. A slot that has gone all the way round the ring holds the sum of all sixteen devices'
  partial products, each added once; scaled and clamped that is the result. A partial product is the sum over the 256
  contracted positions its device holds, and the sixteen runs of 256 positions are the 4096 positions of the whole product.
-/
module

public import proofs.«01_k».proof.Proof.Launch
public import proofs.«01_k».proof.Proof.Gen.ReferenceIdeal.Read
public import Idealize.ShloMosaic.Lib.ValueIdx
public import Idealize.ShloMosaic.Lib.LayoutAt
public import Idealize.ShloMosaic.Lib.Pointwise
public import Mathlib.Algebra.BigOperators.Fin
public import Mathlib.Logic.Equiv.Fin.Basic

@[expose] public section

noncomputable section

namespace Cert.KernelIdeal.Ring

open Cert.KernelIdeal Cert.KernelIdeal.Gen
open Idealize.ShloMosaic Idealize.ShloMosaic.TcCoe
open Idealize.ShloMosaic.ValueIdx (addf_apply mulf_apply maximumf_apply)

/-! ## Round the ring -/

section

variable (PB : Dev nD → FVec Ideal S4096x8192 .f32) (Z : Dev nD → Ideal .f32)

/-- The devices met going back along the ring, one after another. -/
def back (d : Bool) (c : Dev nD) : ℕ → Dev nD
  | 0 => c
  | j + 1 => back d (prv c d) j

/-- Up to step 14 a slot holds the sum of the partial products of the devices it has been at. -/
theorem W_sum (d : Bool) (i : S4096x8192.Idx) : ∀ (s : ℕ) (c : Dev nD), s ≤ 14 → (W PB Z d s c i : EReal) = ∑ j ∈ Finset.range (s + 1), (PB (back d c j) i : EReal)
  | 0, c, _ => by rw [Finset.sum_range_one]; rfl
  | s + 1, c, h => by
    rw [W, if_pos (by omega), addf_apply, W_sum d i s (prv c d) (by omega), Finset.sum_range_succ' _ (s + 1)]
    rfl

theorem back_image : ∀ (d : Bool) (c : Dev nD), (Finset.range 16).image (back d c) = Finset.univ := by decide +kernel
theorem back_inj : ∀ (d : Bool) (c : Dev nD), Set.InjOn (back d c) (Finset.range 16) := fun d c =>
  Finset.injOn_of_card_image_eq (by rw [back_image]; rfl)

/-- All the way round every device is met once. -/
theorem sum_back (d : Bool) (c : Dev nD) (f : Dev nD → EReal) : ∑ j ∈ Finset.range 16, f (back d c j) = ∑ c, f c := by
  rw [← back_image d c, Finset.sum_image (back_inj d c)]

/-- The finished result at an index. -/
theorem W_last (d : Bool) (c : Dev nD) (i : S4096x8192.Idx) :
    (W PB Z d 15 c i : EReal) = max ((∑ c, (PB c i : EReal)) * Z c) (Ideal.ofBits .f32 0x00000000#32) := by
  rw [W, if_neg (by decide), if_pos rfl]
  unfold fin
  rw [maximumf_apply, mulf_apply, addf_apply, W_sum PB Z d i 14 (prv c d) le_rfl, ← sum_back d c, Finset.sum_range_succ' _ 15]
  rfl

theorem Res_apply (i : S4096x8192.Idx) (z : EReal) (hz : ∀ c, Z c = z) :
    (Res PB Z i : EReal) = max ((∑ c, (PB c i : EReal)) * z) (Ideal.ofBits .f32 0x00000000#32) := by
  unfold Res; rw [W_last, hz]

end

/-! ## The partial products -/

section

variable (m : (ℓ : Loc nD τ sig) → Buf (Elt Ideal) ℓ) (c : Dev nD)

/-- The two operands of a device's product. -/
abbrev xs : FVec Ideal S4096x256 .bf16 := m ((c : Thread nD τ).loc main_arg0)
abbrev ws : FVec Ideal S256x8192 .bf16 := m ((c : Thread nD τ).loc main_arg1)

theorem PBm_eq : PBm m c = Host.dotGeneral dot_S4096x256_S256x8192_S4096x8192_1_0_0_1_n_n none (xs m c) (ws m c) := by
  unfold PBm V hostOps0
  after_results

theorem Zm_eq (x2 x3 : FVec Ideal S1 .f32) (h2 : m ((c : Thread nD τ).loc main_arg2) = x2) (h3 : m ((c : Thread nD τ).loc main_arg3) = x3) :
    (Zm m c : EReal) = (x2 i0 : EReal) * (x3 i0 : EReal) := by
  unfold Zm k0_pay1
  rw [V_main_arg2, V_main_arg3, h2, h3]
  rfl

/-- A partial product at an index. -/
theorem PBm_apply (i : S4096x8192.Idx) : (PBm m c i : EReal) = ∑ k : Fin 256, (xs m c (ix2 (i 0) k) : EReal) * (ws m c (ix2 k (i 1)) : EReal) := by
  rw [PBm_eq]
  generalize xs m c = A
  generalize ws m c = B
  pointwise []

end

/-! ## The whole product -/

section

/-- Sixteen runs of 256 positions are 4096 positions. -/
theorem sum_runs (f : Fin 4096 → EReal) : ∑ c : Fin 16, ∑ k : Fin 256, f ⟨c.val * 256 + k.val, by omega⟩ = ∑ k, f k := by
  rw [← Fintype.sum_prod_type' (fun (c : Fin 16) (k : Fin 256) => f ⟨c.val * 256 + k.val, by omega⟩)]
  exact Fintype.sum_equiv (finProdFinEquiv (m := 16) (n := 256)) _ _ fun x => congrArg f (Fin.ext (by
    show x.1.val * 256 + x.2.val = x.2.val + 256 * x.1.val
    omega))

open Cert.ReferenceIdeal.Read in
/-- The reference's result at an index. -/
theorem ref_apply (x0 : FVec Ideal ⟨2, ![4096, 4096]⟩ .bf16) (x1 : FVec Ideal ⟨2, ![4096, 8192]⟩ .bf16) (x2 x3 : FVec Ideal S1 .f32) (i : S4096x8192.Idx) :
    (val_main_v8 (F := Ideal) x0 x1 x2 x3 i : EReal)
      = max ((∑ k : Fin 4096, (x0 (ix2 (i 0) k) : EReal) * (x1 (ix2 k (i 1)) : EReal)) * ((x2 i0 : EReal) * (x3 i0 : EReal))) (Ideal.ofBits .f32 0x00000000#32) := by
  rw [val_main_v8_apply, val_main_v6_apply, val_main_v7_apply, val_main_cst_apply, val_main_v5_apply, val_main_v4_apply, val_main_v3_apply, val_main_v2_apply]
  have e : idx_main_v4 (idx_main_v5 i) = i0 := Subsingleton.elim (α := S1.Idx) _ _
  rw [e]
  refine congrArg₂ max (congrArg (· * ((x2 i0 : EReal) * (x3 i0 : EReal))) (Finset.sum_congr rfl fun k _ => ?_)) rfl
  have el : lidx_main_v2 i k = ix2 (i 0) k := funext fun a => by match a with | ⟨0, _⟩ => rfl | ⟨1, _⟩ => rfl
  have er : ridx_main_v2 i k = ix2 k (i 1) := funext fun a => by match a with | ⟨0, _⟩ => rfl | ⟨1, _⟩ => rfl
  rw [el, er]
  rfl

/-- From its parts of the reference's arguments every device computes the reference's result. -/
theorem value (m : (ℓ : Loc nD τ sig) → Buf (Elt Ideal) ℓ)
    (x0 : FVec Ideal ⟨2, ![4096, 4096]⟩ .bf16) (x1 : FVec Ideal ⟨2, ![4096, 8192]⟩ .bf16) (x2 x3 : FVec Ideal S1 .f32)
    (h0 : ∀ c, xs m c = Layout.block ⟨2, ![4096, 256]⟩ ⟨2, ![4096, 4096]⟩ 1 16 c x0)
    (h1 : ∀ c, ws m c = Layout.block ⟨2, ![256, 8192]⟩ ⟨2, ![4096, 8192]⟩ 0 16 c x1)
    (h2 : ∀ c : Dev nD, m ((c : Thread nD τ).loc main_arg2) = x2) (h3 : ∀ c : Dev nD, m ((c : Thread nD τ).loc main_arg3) = x3) :
    Res (PBm m) (Zm m) = Cert.ReferenceIdeal.Read.val_main_v8 (F := Ideal) x0 x1 x2 x3 := by
  funext i
  refine (Res_apply (PBm m) (Zm m) i ((x2 i0 : EReal) * (x3 i0 : EReal)) fun c => Zm_eq m c x2 x3 (h2 c) (h3 c)).trans (.trans ?_ (ref_apply x0 x1 x2 x3 i).symm)
  refine congrArg (fun t : EReal => max (t * ((x2 i0 : EReal) * (x3 i0 : EReal))) (Ideal.ofBits .f32 0x00000000#32)) ?_
  rw [← sum_runs]
  refine Finset.sum_congr rfl fun c _ => ?_
  rw [PBm_apply]
  refine Finset.sum_congr rfl fun k _ => ?_
  rw [h0, h1, Layout.block_apply, Layout.block_apply]
  refine congrArg₂ (fun a b : EReal => a * b) (congrArg x0 ?_) (congrArg x1 ?_) <;> shard_ext

end

end Cert.KernelIdeal.Ring

end
-- ==== Proof.lean ====
/-
  The five claims: the kernel, its idealization and the reference each run to the end with their arguments unchanged and
  every counter at zero; the idealization rewrites nothing; and over the extended reals each of the sixteen devices ends with
  the reference's result. The kernel's run is proof.Proof.Launch (proof.Proof.Kernel.Launch for the words of the chip), the value
  proof.Proof.Value; the reference's run and its operations read at an index are generated.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Launch
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The program runs to the end, leaves its arguments alone and every counter at zero. -/
theorem frame_kernel : Cert.quiescent_Kernel (hKernel := Cert.Kernel.Gen.facts) := fun m g _ =>
  (θ_run Cert.Kernel.defs _ _).mono (fun _ h => ⟨fun c => (h.1 c).1, h.2⟩) (Cert.Kernel.Ring.run_main (F := Bits) m g)

theorem frame_ideal : Cert.quiescent_KernelIdeal (hKernelIdeal := Cert.KernelIdeal.Gen.facts) := fun m g _ =>
  (θ_run Cert.KernelIdeal.defs _ _).mono (fun _ h => ⟨fun c => (h.1 c).1, h.2⟩) (Cert.KernelIdeal.Ring.run_main (F := Ideal) m g)

/-- The reference has no counter to leave. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals every device ends with the reference's result, the reference's memory being cut as the launch cuts it. -/
theorem algebraic : Cert.algebraic_KernelIdeal_ReferenceIdeal (hKernelIdeal := Cert.KernelIdeal.Gen.facts)
    (hReferenceIdeal := Cert.ReferenceIdeal.Gen.facts) := fun m g m' g' _ hm =>
  ⟨Cert.ReferenceIdeal.Read.val_main_v8 (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ h c => ⟨(h.1 c).2.trans (Cert.KernelIdeal.Ring.value m _ _ _ _
        (fun c => (hm c).1) (fun c => (hm c).2.1) (fun c => (hm c).2.2.1) fun c => (hm c).2.2.2), (h.1 c).1⟩)
      (Cert.KernelIdeal.Ring.run_main (F := Ideal) m g),
    (θ_run Cert.ReferenceIdeal.defs _ _).mono (fun _ h => ⟨(h 0).1.trans (Cert.ReferenceIdeal.Read.val_main_v8_eq ..), (h 0).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
